-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3)
      ∧ r.2.mem ((c.tc : Thread Cert.AdamBr.nD Cert.AdamBr.τ).loc Cert.AdamBr.main_arg4) = m ((c.tc : Thread Cert.AdamBr.nD Cert.AdamBr.τ).loc Cert.AdamBr.main_arg4))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
      ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3)
      ∧ r.2.mem ((c.tc : Thread Cert.AdamBrRefIdeal.nD Cert.AdamBrRefIdeal.τ).loc Cert.AdamBrRefIdeal.main_arg4) = m ((c.tc : Thread Cert.AdamBrRefIdeal.nD Cert.AdamBrRefIdeal.τ).loc Cert.AdamBrRefIdeal.main_arg4))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v52_0)) (v1 : (c : Dev Cert.MergeIdeal.nD) → Buf (Elt Ideal) ((c.tc : Thread Cert.MergeIdeal.nD Cert.MergeIdeal.τ).loc Cert.MergeIdeal.main_v52_1)) (v2 : (c : Dev Cert.MergeIdeal.nD) → Buf (Elt Ideal) ((c.tc : Thread Cert.MergeIdeal.nD Cert.MergeIdeal.τ).loc Cert.MergeIdeal.main_v52_2)) (v3 : (c : Dev Cert.MergeIdeal.nD) → Buf (Elt Ideal) ((c.tc : Thread Cert.MergeIdeal.nD Cert.MergeIdeal.τ).loc Cert.MergeIdeal.main_v52_3)) (v4 : (c : Dev Cert.MergeIdeal.nD) → Buf (Elt Ideal) ((c.tc : Thread Cert.MergeIdeal.nD Cert.MergeIdeal.τ).loc Cert.MergeIdeal.main_v52_4)) (v5 : (c : Dev Cert.MergeIdeal.nD) → Buf (Elt Ideal) ((c.tc : Thread Cert.MergeIdeal.nD Cert.MergeIdeal.τ).loc Cert.MergeIdeal.main_v52_5)) (v6 : (c : Dev Cert.MergeIdeal.nD) → Buf (Elt Ideal) ((c.tc : Thread Cert.MergeIdeal.nD Cert.MergeIdeal.τ).loc Cert.MergeIdeal.main_v52_6)) (v7 : (c : Dev Cert.MergeIdeal.nD) → Buf (Elt Ideal) ((c.tc : Thread Cert.MergeIdeal.nD Cert.MergeIdeal.τ).loc Cert.MergeIdeal.main_v52_7)) (v8 : (c : Dev Cert.MergeIdeal.nD) → Buf (Elt Ideal) ((c.tc : Thread Cert.MergeIdeal.nD Cert.MergeIdeal.τ).loc Cert.MergeIdeal.main_v52_8)) (v9 : (c : Dev Cert.MergeIdeal.nD) → Buf (Elt Ideal) ((c.tc : Thread Cert.MergeIdeal.nD Cert.MergeIdeal.τ).loc Cert.MergeIdeal.main_v52_9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v52_0) = v0 c
          ∧ r.2.mem ((c.tc : Thread Cert.MergeIdeal.nD Cert.MergeIdeal.τ).loc Cert.MergeIdeal.main_v52_1) = v1 c
          ∧ r.2.mem ((c.tc : Thread Cert.MergeIdeal.nD Cert.MergeIdeal.τ).loc Cert.MergeIdeal.main_v52_2) = v2 c
          ∧ r.2.mem ((c.tc : Thread Cert.MergeIdeal.nD Cert.MergeIdeal.τ).loc Cert.MergeIdeal.main_v52_3) = v3 c
          ∧ r.2.mem ((c.tc : Thread Cert.MergeIdeal.nD Cert.MergeIdeal.τ).loc Cert.MergeIdeal.main_v52_4) = v4 c
          ∧ r.2.mem ((c.tc : Thread Cert.MergeIdeal.nD Cert.MergeIdeal.τ).loc Cert.MergeIdeal.main_v52_5) = v5 c
          ∧ r.2.mem ((c.tc : Thread Cert.MergeIdeal.nD Cert.MergeIdeal.τ).loc Cert.MergeIdeal.main_v52_6) = v6 c
          ∧ r.2.mem ((c.tc : Thread Cert.MergeIdeal.nD Cert.MergeIdeal.τ).loc Cert.MergeIdeal.main_v52_7) = v7 c
          ∧ r.2.mem ((c.tc : Thread Cert.MergeIdeal.nD Cert.MergeIdeal.τ).loc Cert.MergeIdeal.main_v52_8) = v8 c
          ∧ r.2.mem ((c.tc : Thread Cert.MergeIdeal.nD Cert.MergeIdeal.τ).loc Cert.MergeIdeal.main_v52_9) = v9 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v76) = v0 c
          ∧ r.2.mem ((c.tc : Thread Cert.MergeRefIdeal.nD Cert.MergeRefIdeal.τ).loc Cert.MergeRefIdeal.main_v137) = v1 c
          ∧ r.2.mem ((c.tc : Thread Cert.MergeRefIdeal.nD Cert.MergeRefIdeal.τ).loc Cert.MergeRefIdeal.main_v138) = v2 c
          ∧ r.2.mem ((c.tc : Thread Cert.MergeRefIdeal.nD Cert.MergeRefIdeal.τ).loc Cert.MergeRefIdeal.main_v139) = v3 c
          ∧ r.2.mem ((c.tc : Thread Cert.MergeRefIdeal.nD Cert.MergeRefIdeal.τ).loc Cert.MergeRefIdeal.main_v140) = v4 c
          ∧ r.2.mem ((c.tc : Thread Cert.MergeRefIdeal.nD Cert.MergeRefIdeal.τ).loc Cert.MergeRefIdeal.main_v141) = v5 c
          ∧ r.2.mem ((c.tc : Thread Cert.MergeRefIdeal.nD Cert.MergeRefIdeal.τ).loc Cert.MergeRefIdeal.main_v143) = v6 c
          ∧ r.2.mem ((c.tc : Thread Cert.MergeRefIdeal.nD Cert.MergeRefIdeal.τ).loc Cert.MergeRefIdeal.main_v136) = v7 c
          ∧ r.2.mem ((c.tc : Thread Cert.MergeRefIdeal.nD Cert.MergeRefIdeal.τ).loc Cert.MergeRefIdeal.main_v144) = v8 c
          ∧ r.2.mem ((c.tc : Thread Cert.MergeRefIdeal.nD Cert.MergeRefIdeal.τ).loc Cert.MergeRefIdeal.main_v145) = v9 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v39) = v0 c
          ∧ r.2.mem ((c.tc : Thread Cert.ProjRefIdeal.nD Cert.ProjRefIdeal.τ).loc Cert.ProjRefIdeal.main_v40) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v15)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v15) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v19) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v6)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v6) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v19_0)) (v1 : (c : Dev Cert.FfnIdeal.nD) → Buf (Elt Ideal) ((c.tc : Thread Cert.FfnIdeal.nD Cert.FfnIdeal.τ).loc Cert.FfnIdeal.main_v19_1)) (v2 : (c : Dev Cert.FfnIdeal.nD) → Buf (Elt Ideal) ((c.tc : Thread Cert.FfnIdeal.nD Cert.FfnIdeal.τ).loc Cert.FfnIdeal.main_v19_2)) (v3 : (c : Dev Cert.FfnIdeal.nD) → Buf (Elt Ideal) ((c.tc : Thread Cert.FfnIdeal.nD Cert.FfnIdeal.τ).loc Cert.FfnIdeal.main_v19_3)) (v4 : (c : Dev Cert.FfnIdeal.nD) → Buf (Elt Ideal) ((c.tc : Thread Cert.FfnIdeal.nD Cert.FfnIdeal.τ).loc Cert.FfnIdeal.main_v19_4)) (v5 : (c : Dev Cert.FfnIdeal.nD) → Buf (Elt Ideal) ((c.tc : Thread Cert.FfnIdeal.nD Cert.FfnIdeal.τ).loc Cert.FfnIdeal.main_v19_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19_0) = v0 c
          ∧ r.2.mem ((c.tc : Thread Cert.FfnIdeal.nD Cert.FfnIdeal.τ).loc Cert.FfnIdeal.main_v19_1) = v1 c
          ∧ r.2.mem ((c.tc : Thread Cert.FfnIdeal.nD Cert.FfnIdeal.τ).loc Cert.FfnIdeal.main_v19_2) = v2 c
          ∧ r.2.mem ((c.tc : Thread Cert.FfnIdeal.nD Cert.FfnIdeal.τ).loc Cert.FfnIdeal.main_v19_3) = v3 c
          ∧ r.2.mem ((c.tc : Thread Cert.FfnIdeal.nD Cert.FfnIdeal.τ).loc Cert.FfnIdeal.main_v19_4) = v4 c
          ∧ r.2.mem ((c.tc : Thread Cert.FfnIdeal.nD Cert.FfnIdeal.τ).loc Cert.FfnIdeal.main_v19_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v81) = v0 c
          ∧ r.2.mem ((c.tc : Thread Cert.FfnRefIdeal.nD Cert.FfnRefIdeal.τ).loc Cert.FfnRefIdeal.main_v82) = v1 c
          ∧ r.2.mem ((c.tc : Thread Cert.FfnRefIdeal.nD Cert.FfnRefIdeal.τ).loc Cert.FfnRefIdeal.main_v53) = v2 c
          ∧ r.2.mem ((c.tc : Thread Cert.FfnRefIdeal.nD Cert.FfnRefIdeal.τ).loc Cert.FfnRefIdeal.main_v85) = v3 c
          ∧ r.2.mem ((c.tc : Thread Cert.FfnRefIdeal.nD Cert.FfnRefIdeal.τ).loc Cert.FfnRefIdeal.main_v86) = v4 c
          ∧ r.2.mem ((c.tc : Thread Cert.FfnRefIdeal.nD Cert.FfnRefIdeal.τ).loc Cert.FfnRefIdeal.main_v87) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v5_0)) (v1 : (c : Dev Cert.InFwdIdeal.nD) → Buf (Elt Ideal) ((c.tc : Thread Cert.InFwdIdeal.nD Cert.InFwdIdeal.τ).loc Cert.InFwdIdeal.main_v5_1)) (v2 : (c : Dev Cert.InFwdIdeal.nD) → Buf (Elt Ideal) ((c.tc : Thread Cert.InFwdIdeal.nD Cert.InFwdIdeal.τ).loc Cert.InFwdIdeal.main_v5_2)) (v3 : (c : Dev Cert.InFwdIdeal.nD) → Buf (Elt Ideal) ((c.tc : Thread Cert.InFwdIdeal.nD Cert.InFwdIdeal.τ).loc Cert.InFwdIdeal.main_v5_3)) (v4 : (c : Dev Cert.InFwdIdeal.nD) → Buf (Elt Ideal) ((c.tc : Thread Cert.InFwdIdeal.nD Cert.InFwdIdeal.τ).loc Cert.InFwdIdeal.main_v5_4)) (v5 : (c : Dev Cert.InFwdIdeal.nD) → Buf (Elt Ideal) ((c.tc : Thread Cert.InFwdIdeal.nD Cert.InFwdIdeal.τ).loc Cert.InFwdIdeal.main_v5_5)) (v6 : (c : Dev Cert.InFwdIdeal.nD) → Buf (Elt Ideal) ((c.tc : Thread Cert.InFwdIdeal.nD Cert.InFwdIdeal.τ).loc Cert.InFwdIdeal.main_v5_6)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v5_0) = v0 c
          ∧ r.2.mem ((c.tc : Thread Cert.InFwdIdeal.nD Cert.InFwdIdeal.τ).loc Cert.InFwdIdeal.main_v5_1) = v1 c
          ∧ r.2.mem ((c.tc : Thread Cert.InFwdIdeal.nD Cert.InFwdIdeal.τ).loc Cert.InFwdIdeal.main_v5_2) = v2 c
          ∧ r.2.mem ((c.tc : Thread Cert.InFwdIdeal.nD Cert.InFwdIdeal.τ).loc Cert.InFwdIdeal.main_v5_3) = v3 c
          ∧ r.2.mem ((c.tc : Thread Cert.InFwdIdeal.nD Cert.InFwdIdeal.τ).loc Cert.InFwdIdeal.main_v5_4) = v4 c
          ∧ r.2.mem ((c.tc : Thread Cert.InFwdIdeal.nD Cert.InFwdIdeal.τ).loc Cert.InFwdIdeal.main_v5_5) = v5 c
          ∧ r.2.mem ((c.tc : Thread Cert.InFwdIdeal.nD Cert.InFwdIdeal.τ).loc Cert.InFwdIdeal.main_v5_6) = v6 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v20) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_v23) = v2 c
          ∧ r.2.mem ((c.tc : Thread Cert.InFwdRefIdeal.nD Cert.InFwdRefIdeal.τ).loc Cert.InFwdRefIdeal.main_v24) = v3 c
          ∧ r.2.mem ((c.tc : Thread Cert.InFwdRefIdeal.nD Cert.InFwdRefIdeal.τ).loc Cert.InFwdRefIdeal.main_v25) = v4 c
          ∧ r.2.mem ((c.tc : Thread Cert.InFwdRefIdeal.nD Cert.InFwdRefIdeal.τ).loc Cert.InFwdRefIdeal.main_v18) = v5 c
          ∧ r.2.mem ((c.tc : Thread Cert.InFwdRefIdeal.nD Cert.InFwdRefIdeal.τ).loc Cert.InFwdRefIdeal.main_v19) = v6 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v13_0)) (v1 : (c : Dev Cert.MixFwdIdeal.nD) → Buf (Elt Ideal) ((c.tc : Thread Cert.MixFwdIdeal.nD Cert.MixFwdIdeal.τ).loc Cert.MixFwdIdeal.main_v13_1)) (v2 : (c : Dev Cert.MixFwdIdeal.nD) → Buf (Elt Ideal) ((c.tc : Thread Cert.MixFwdIdeal.nD Cert.MixFwdIdeal.τ).loc Cert.MixFwdIdeal.main_v13_2)) (v3 : (c : Dev Cert.MixFwdIdeal.nD) → Buf (Elt Ideal) ((c.tc : Thread Cert.MixFwdIdeal.nD Cert.MixFwdIdeal.τ).loc Cert.MixFwdIdeal.main_v13_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v13_0) = v0 c
          ∧ r.2.mem ((c.tc : Thread Cert.MixFwdIdeal.nD Cert.MixFwdIdeal.τ).loc Cert.MixFwdIdeal.main_v13_1) = v1 c
          ∧ r.2.mem ((c.tc : Thread Cert.MixFwdIdeal.nD Cert.MixFwdIdeal.τ).loc Cert.MixFwdIdeal.main_v13_2) = v2 c
          ∧ r.2.mem ((c.tc : Thread Cert.MixFwdIdeal.nD Cert.MixFwdIdeal.τ).loc Cert.MixFwdIdeal.main_v13_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v35) = v0 c
          ∧ r.2.mem ((c.tc : Thread Cert.MixFwdRefIdeal.nD Cert.MixFwdRefIdeal.τ).loc Cert.MixFwdRefIdeal.main_v20) = v1 c
          ∧ r.2.mem ((c.tc : Thread Cert.MixFwdRefIdeal.nD Cert.MixFwdRefIdeal.τ).loc Cert.MixFwdRefIdeal.main_v34) = v2 c
          ∧ r.2.mem ((c.tc : Thread Cert.MixFwdRefIdeal.nD Cert.MixFwdRefIdeal.τ).loc Cert.MixFwdRefIdeal.main_v49) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)
      ∧ m' ((c.tc : Thread Cert.AdamBrRefIdeal.nD Cert.AdamBrRefIdeal.τ).loc Cert.AdamBrRefIdeal.main_arg4) = m ((c.tc : Thread Cert.AdamBrIdeal.nD Cert.AdamBrIdeal.τ).loc Cert.AdamBrIdeal.main_arg4)) →
    ∃ (v0 : (c : Dev Cert.AdamBrIdeal.nD) → Buf (Elt Ideal) ((c.tc : Thread Cert.AdamBrIdeal.nD Cert.AdamBrIdeal.τ).loc Cert.AdamBrIdeal.main_v0_0)) (v1 : (c : Dev Cert.AdamBrIdeal.nD) → Buf (Elt Ideal) ((c.tc : Thread Cert.AdamBrIdeal.nD Cert.AdamBrIdeal.τ).loc Cert.AdamBrIdeal.main_v0_1)) (v2 : (c : Dev Cert.AdamBrIdeal.nD) → Buf (Elt Ideal) ((c.tc : Thread Cert.AdamBrIdeal.nD Cert.AdamBrIdeal.τ).loc Cert.AdamBrIdeal.main_v0_2)) (v3 : (c : Dev Cert.AdamBrIdeal.nD) → Buf (Elt Ideal) ((c.tc : Thread Cert.AdamBrIdeal.nD Cert.AdamBrIdeal.τ).loc Cert.AdamBrIdeal.main_v0_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v0_0) = v0 c
          ∧ r.2.mem ((c.tc : Thread Cert.AdamBrIdeal.nD Cert.AdamBrIdeal.τ).loc Cert.AdamBrIdeal.main_v0_1) = v1 c
          ∧ r.2.mem ((c.tc : Thread Cert.AdamBrIdeal.nD Cert.AdamBrIdeal.τ).loc Cert.AdamBrIdeal.main_v0_2) = v2 c
          ∧ r.2.mem ((c.tc : Thread Cert.AdamBrIdeal.nD Cert.AdamBrIdeal.τ).loc Cert.AdamBrIdeal.main_v0_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
          ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_v0) = v0 c
          ∧ r.2.mem ((c.tc : Thread Cert.AdamBrRefIdeal.nD Cert.AdamBrRefIdeal.τ).loc Cert.AdamBrRefIdeal.main_v24) = v1 c
          ∧ r.2.mem ((c.tc : Thread Cert.AdamBrRefIdeal.nD Cert.AdamBrRefIdeal.τ).loc Cert.AdamBrRefIdeal.main_v5) = v2 c
          ∧ r.2.mem ((c.tc : Thread Cert.AdamBrRefIdeal.nD Cert.AdamBrRefIdeal.τ).loc Cert.AdamBrRefIdeal.main_v11) = v3 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3)
          ∧ r.2.mem ((c.tc : Thread Cert.AdamBrRefIdeal.nD Cert.AdamBrRefIdeal.τ).loc Cert.AdamBrRefIdeal.main_arg4) = m' ((c.tc : Thread Cert.AdamBrRefIdeal.nD Cert.AdamBrRefIdeal.τ).loc Cert.AdamBrRefIdeal.main_arg4))

def Claim : Prop :=
  ∃ (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hFfn : Cert.Ffn.Facts) (hFfnIdeal : Cert.FfnIdeal.Facts) (hFfnRefIdeal : Cert.FfnRefIdeal.Facts) (hInFwd : Cert.InFwd.Facts) (hInFwdIdeal : Cert.InFwdIdeal.Facts) (hInFwdRefIdeal : Cert.InFwdRefIdeal.Facts) (hMixFwd : Cert.MixFwd.Facts) (hMixFwdIdeal : Cert.MixFwdIdeal.Facts) (hMixFwdRefIdeal : Cert.MixFwdRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamBr : Cert.AdamBr.Facts) (hAdamBrIdeal : Cert.AdamBrIdeal.Facts) (hAdamBrRefIdeal : Cert.AdamBrRefIdeal.Facts),
    quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_Ffn_FfnIdeal
    ∧ algebraic_FfnIdeal_FfnRefIdeal (hFfnIdeal := hFfnIdeal) (hFfnRefIdeal := hFfnRefIdeal)
    ∧ preserves_InFwd_InFwdIdeal
    ∧ algebraic_InFwdIdeal_InFwdRefIdeal (hInFwdIdeal := hInFwdIdeal) (hInFwdRefIdeal := hInFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamBr_AdamBrIdeal
    ∧ algebraic_AdamBrIdeal_AdamBrRefIdeal (hAdamBrIdeal := hAdamBrIdeal) (hAdamBrRefIdeal := hAdamBrRefIdeal)
-- ==== Merge.lean ====
abbrev S2048x5632 : Shape := ⟨2, ![2048, 5632]⟩
abbrev S2048x1024 : Shape := ⟨2, ![2048, 1024]⟩
abbrev S2048x512 : Shape := ⟨2, ![2048, 512]⟩
abbrev S512x1024 : Shape := ⟨2, ![512, 1024]⟩
abbrev S1024 : Shape := ⟨1, ![1024]⟩
abbrev S1024x1024 : Shape := ⟨2, ![1024, 1024]⟩
abbrev S1024x5632 : Shape := ⟨2, ![1024, 5632]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S4x1024x1408 : Shape := ⟨3, ![4, 1024, 1408]⟩
abbrev S512x4x256 : Shape := ⟨3, ![512, 4, 256]⟩
abbrev S4x512x256 : Shape := ⟨3, ![4, 512, 256]⟩
abbrev S8x128 : Shape := ⟨2, ![8, 128]⟩
abbrev S2048x2048 : Shape := ⟨2, ![2048, 2048]⟩
abbrev S256x5632 : Shape := ⟨2, ![256, 5632]⟩
abbrev S256x1024 : Shape := ⟨2, ![256, 1024]⟩
abbrev S256x512 : Shape := ⟨2, ![256, 512]⟩
abbrev S256x2048 : Shape := ⟨2, ![256, 2048]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 84
  | .vmem => 41
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S512x1024, .f32⟩
  | .hbm, ⟨8, _⟩ => ⟨S1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x5632, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x5632, .bf16⟩
  | .hbm, ⟨57, _⟩ => ⟨S1024x5632, .bf16⟩
  | .hbm, ⟨58, _⟩ => ⟨S1024x4x1408, .bf16⟩
  | .hbm, ⟨59, _⟩ => ⟨S4x1024x1408, .bf16⟩
  | .hbm, ⟨60, _⟩ => ⟨S1x1024, .f32⟩
  | .hbm, ⟨61, _⟩ => ⟨S1x1024, .f32⟩
  | .hbm, ⟨62, _⟩ => ⟨S1024x1024, .bf16⟩
  | .hbm, ⟨63, _⟩ => ⟨S2048x512, .bf16⟩
  | .hbm, ⟨64, _⟩ => ⟨S2048x512, .bf16⟩
  | .hbm, ⟨65, _⟩ => ⟨S512x1024, .bf16⟩
  | .hbm, ⟨66, _⟩ => ⟨S512x4x256, .bf16⟩
  | .hbm, ⟨67, _⟩ => ⟨S4x512x256, .bf16⟩
  | .hbm, ⟨68, _⟩ => ⟨S1x1024, .f32⟩
  | .hbm, ⟨69, _⟩ => ⟨S512x1024, .bf16⟩
  | .hbm, ⟨70, _⟩ => ⟨S512x4x256, .bf16⟩
  | .hbm, ⟨71, _⟩ => ⟨S4x512x256, .bf16⟩
  | .hbm, ⟨72, _⟩ => ⟨S_, .f32⟩
  | .hbm, ⟨73, _⟩ => ⟨S8x128, .f32⟩
  | .hbm, ⟨74, _⟩ => ⟨S2048x1024, .f32⟩
  | .hbm, ⟨75, _⟩ => ⟨S2048x1024, .bf16⟩
  | .hbm, ⟨76, _⟩ => ⟨S1x1024, .f32⟩
  | .hbm, ⟨77, _⟩ => ⟨S1x1024, .f32⟩
  | .hbm, ⟨78, _⟩ => ⟨S2048x1024, .bf16⟩
  | .hbm, ⟨79, _⟩ => ⟨S2048x1024, .bf16⟩
  | .hbm, ⟨80, _⟩ => ⟨S2048x2048, .bf16⟩
  | .hbm, ⟨81, _⟩ => ⟨S2048x512, .f32⟩
  | .hbm, ⟨82, _⟩ => ⟨S2048x512, .bf16⟩
  | .hbm, ⟨83, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S4x512x256, .bf16⟩
  | .local _ .vmem, ⟨21, _⟩ => ⟨S1x1024, .f32⟩
  | .local _ .vmem, ⟨22, _⟩ => ⟨S4x512x256, .bf16⟩
  | .local _ .vmem, ⟨23, _⟩ => ⟨S8x128, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x2048, .bf16⟩
  | .local _ .vmem, ⟨35, _⟩ => ⟨S256x2048, .bf16⟩
  | .local _ .vmem, ⟨36, _⟩ => ⟨S256x512, .f32⟩
  | .local _ .vmem, ⟨37, _⟩ => ⟨S256x512, .f32⟩
  | .local _ .vmem, ⟨38, _⟩ => ⟨S256x512, .bf16⟩
  | .local _ .vmem, ⟨39, _⟩ => ⟨S256x512, .bf16⟩
  | .local _ .vmem, ⟨40, _⟩ => ⟨S1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev main_v52_3 : Ref sig .tc := ⟨.hbm, 77, rfl⟩
abbrev main_v52_4 : Ref sig .tc := ⟨.hbm, 78, rfl⟩
abbrev main_v52_5 : Ref sig .tc := ⟨.hbm, 79, rfl⟩
abbrev main_v52_6 : Ref sig .tc := ⟨.hbm, 80, rfl⟩
abbrev main_v52_7 : Ref sig .tc := ⟨.hbm, 81, rfl⟩
abbrev main_v52_8 : Ref sig .tc := ⟨.hbm, 82, rfl⟩
abbrev main_v52_9 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v56 : BitVec 32 := Scalar.extui v23
  let c0_i32_30 : BitVec 32 := 0#32
  let v57 : BitVec 1 := Scalar.cmpi .ne v56 c0_i32_30
  v57

def k0_cond2 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v58 : BitVec 1 := Scalar.xori v23 v_true
  let v59 : BitVec 32 := Scalar.extui v58
  let c0_i32_31 : BitVec 32 := 0#32
  let v60 : BitVec 1 := Scalar.cmpi .ne v59 c0_i32_31
  v60

def k0_cond3 (i : grid0.Coords) : BitVec 1 :=
  let arg0 : BitVec 32 := BitVec.ofNat 32 (i 0).val
  let c0_i32 : BitVec 32 := 0#32
  let v23 : BitVec 1 := Scalar.cmpi .eq arg0 c0_i32
  let v92 : BitVec 32 := Scalar.extui v23
  let c0_i32_44 : BitVec 32 := 0#32
  let v93 : BitVec 1 := Scalar.cmpi .ne v92 c0_i32_44
  v93

def k0_cond4 (i : grid0.Coords) : BitVec 1 :=
  let arg0 : BitVec 32 := BitVec.ofNat 32 (i 0).val
  let c0_i32 : BitVec 32 := 0#32
  let v23 : BitVec 1 := Scalar.cmpi .eq arg0 c0_i32
  let true_45 : BitVec 1 := 1#1
  let v94 : BitVec 1 := Scalar.xori v23 true_45
  let v95 : BitVec 32 := Scalar.extui v94
  let c0_i32_46 : BitVec 32 := 0#32
  let v96 : BitVec 1 := Scalar.cmpi .ne v95 c0_i32_46
  v96

def k0_cond5 (i : grid0.Coords) : BitVec 1 :=
  let arg0 : BitVec 32 := BitVec.ofNat 32 (i 0).val
  let c0_i32_104 : BitVec 32 := 0#32
  let v168 : BitVec 1 := Scalar.cmpi .eq arg0 c0_i32_104
  let v169 : BitVec 32 := Scalar.extui v168
  let c0_i32_105 : BitVec 32 := 0#32
  let v170 : BitVec 1 := Scalar.cmpi .ne v169 c0_i32_105
  v170

def k0_cond6 (i : grid0.Coords) : BitVec 1 :=
  let arg0 : BitVec 32 := BitVec.ofNat 32 (i 0).val
  let c0_i32_104 : BitVec 32 := 0#32
  let v168 : BitVec 1 := Scalar.cmpi .eq arg0 c0_i32_104
  let true_106 : BitVec 1 := 1#1
  let v171 : BitVec 1 := Scalar.xori v168 true_106
  let v172 : BitVec 32 := Scalar.extui v171
  let c0_i32_107 : BitVec 32 := 0#32
  let v173 : BitVec 1 := Scalar.cmpi .ne v172 c0_i32_107
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MergeRefIdeal.lean ====
abbrev S2048x5632 : Shape := ⟨2, ![2048, 5632]⟩
abbrev S2048x1024 : Shape := ⟨2, ![2048, 1024]⟩
abbrev S2048x512 : Shape := ⟨2, ![2048, 512]⟩
abbrev S512x1024 : Shape := ⟨2, ![512, 1024]⟩
abbrev S1024 : Shape := ⟨1, ![1024]⟩
abbrev S1024x1024 : Shape := ⟨2, ![1024, 1024]⟩
abbrev S1024x5632 : Shape := ⟨2, ![1024, 5632]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 190
  | .vmem => 0
  | .smem => 0
  | _ => 0

abbrev hbmTy0_0 (i : Nat) : BufTy := match i % 128 with
  | 0 => ⟨S2048x5632, .f32⟩
  | 1 => ⟨S2048x1024, .f32⟩
  | 2 => ⟨S2048x1024, .f32⟩
  | 3 => ⟨S2048x512, .f32⟩
  | 4 => ⟨S2048x512, .f32⟩
  | 5 => ⟨S2048x1024, .f32⟩
  | 6 => ⟨S2048x1024, .f32⟩
  | 7 => ⟨S512x1024, .f32⟩
  | 8 => ⟨S1024, .f32⟩
  | 9 => ⟨S512x1024, .f32⟩
  | 10 => ⟨S1024x1024, .f32⟩
  | 11 => ⟨S1024, .f32⟩
  | 12 => ⟨S1024, .f32⟩
  | 13 => ⟨S1024x5632, .f32⟩
  | 14 => ⟨S2048x1024, .f32⟩
  | 15 => ⟨S1x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048, .f32⟩
  | 63 => ⟨S2048x1, .f32⟩
  | 64 => ⟨S_, .f32⟩
  | 65 => ⟨S2048x1, .f32⟩
  | 66 => ⟨S2048x1, .f32⟩
  | 67 => ⟨S_, .f32⟩
  | 68 => ⟨S2048x1, .f32⟩
  | 69 => ⟨S2048x1, .f32⟩
  | 70 => ⟨S2048x1, .f32⟩
  | 71 => ⟨S2048x1, .f32⟩
  | 72 => ⟨S_, .f32⟩
  | 73 => ⟨S2048x1, .f32⟩
  | 74 => ⟨S2048x1, .f32⟩
  | 75 => ⟨S2048x1024, .f32⟩
  | 76 => ⟨S2048x1024, .f32⟩
  | 77 => ⟨S1x1024, .f32⟩
  | 78 => ⟨S2048x1024, .f32⟩
  | 79 => ⟨S2048x1024, .f32⟩
  | 80 => ⟨S2048x5632, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S_, .f32⟩
  | 89 => ⟨S1024, .f32⟩
  | 90 => ⟨S2048x1024, .f32⟩
  | 91 => ⟨S_, .f32⟩
  | 92 => ⟨S2048, .f32⟩
  | 93 => ⟨S2048x1, .f32⟩
  | 94 => ⟨S2048x1024, .f32⟩
  | 95 => ⟨S2048x1024, .f32⟩
  | 96 => ⟨S2048x1024, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S_, .f32⟩
  | 111 => ⟨S1024, .f32⟩
  | 112 => ⟨S1x1024, .f32⟩
  | 113 => ⟨S2048x1024, .f32⟩
  | 114 => ⟨S2048x1024, .f32⟩
  | 115 => ⟨S_, .f32⟩
  | 116 => ⟨S1024, .f32⟩
  | 117 => ⟨S2048x1024, .f32⟩
  | 118 => ⟨S_, .f32⟩
  | 119 => ⟨S2048, .f32⟩
  | 120 => ⟨S2048x1, .f32⟩
  | 121 => ⟨S2048x1024, .f32⟩
  | 122 => ⟨S2048x1024, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2048x5632, .f32⟩

abbrev hbmTy0_1 (i : Nat) : BufTy := match i % 128 with
  | 0 => ⟨S2048, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S1x1024, .f32⟩
  | 43 => ⟨S2048x1024, .f32⟩
  | 44 => ⟨S2048x1024, .f32⟩
  | 45 => ⟨S2048x1024, .f32⟩
  | 46 => ⟨S2048x512, .f32⟩
  | 47 => ⟨S_, .f32⟩
  | 48 => ⟨S1024, .f32⟩
  | 49 => ⟨S1x1024, .f32⟩
  | 50 => ⟨S_, .f32⟩
  | 51 => ⟨S1024, .f32⟩
  | 52 => ⟨S2048x512, .f32⟩
  | 53 => ⟨S2048x1024, .bf16⟩
  | 54 => ⟨S1x1024, .f32⟩
  | 55 => ⟨S1x1024, .f32⟩
  | 56 => ⟨S2048x1024, .bf16⟩
  | 57 => ⟨S2048x1024, .bf16⟩
  | 58 => ⟨S2048x2048, .f32⟩
  | 59 => ⟨S2048x2048, .bf16⟩
  | 60 => ⟨S2048x512, .bf16⟩
  | 61 => ⟨S1x1024, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_cst_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_27 : Ref sig .tc := ⟨.hbm, 175, rfl⟩
abbrev main_v133 : Ref sig .tc := ⟨.hbm, 176, rfl⟩
abbrev main_v134 : Ref sig .tc := ⟨.hbm, 177, rfl⟩
abbrev main_cst_28 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩

abbrev nD : Nat := 1
abbrev τ : Topo := Topo.v7x

variable {F : FTy → Type} [FloatOps F]
-- ==== Proj.lean ====
abbrev S2048x1024 : Shape := ⟨2, ![2048, 1024]⟩
abbrev S2048x1536 : Shape := ⟨2, ![2048, 1536]⟩
abbrev S2048x2048 : Shape := ⟨2, ![2048, 2048]⟩
abbrev S1024 : Shape := ⟨1, ![1024]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S1x1024 : Shape := ⟨2, ![1, 1024]⟩
abbrev S_ : Shape := ⟨0, ![]⟩
abbrev S8x128 : Shape := ⟨2, ![8, 128]⟩
abbrev S256x1024 : Shape := ⟨2, ![256, 1024]⟩
abbrev S256x1536 : Shape := ⟨2, ![256, 1536]⟩
abbrev S256x2048 : Shape := ⟨2, ![256, 2048]⟩
abbrev S1x1024x1024 : Shape := ⟨3, ![1, 1024, 1024]⟩
abbrev S1024x1024 : Shape := ⟨2, ![1024, 1024]⟩
abbrev S256x128 : Shape := ⟨2, ![256, 128]⟩
abbrev S1x1024x128 : Shape := ⟨3, ![1, 1024, 128]⟩
abbrev S1024x128 : Shape := ⟨2, ![1024, 128]⟩
abbrev S256x1152 : Shape := ⟨2, ![256, 1152]⟩
abbrev S1x1024x1152 : Shape := ⟨3, ![1, 1024, 1152]⟩
abbrev S1024x1152 : Shape := ⟨2, ![1024, 1152]⟩
abbrev S256x256 : Shape := ⟨2, ![256, 256]⟩
abbrev S1x1024x256 : Shape := ⟨3, ![1, 1024, 256]⟩
abbrev S1024x256 : Shape := ⟨2, ![1024, 256]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S1024, .f32⟩
  | .hbm, ⟨6, _⟩ => ⟨S1024x4608, .f32⟩
  | .hbm, ⟨7, _⟩ => ⟨S2048x1024, .bf16⟩
  | .hbm, ⟨8, _⟩ => ⟨S2048x1536, .bf16⟩
  | .hbm, ⟨9, _⟩ => ⟨S2048x2048, .bf16⟩
  | .hbm, ⟨10, _⟩ => ⟨S1024x4608, .bf16⟩
  | .hbm, ⟨11, _⟩ => ⟨S1024x4x1152, .bf16⟩
  | .hbm, ⟨12, _⟩ => ⟨S4x1024x1152, .bf16⟩
  | .hbm, ⟨13, _⟩ => ⟨S1x1024, .f32⟩
  | .hbm, ⟨14, _⟩ => ⟨S_, .f32⟩
  | .hbm, ⟨15, _⟩ => ⟨S8x128, .f32⟩
  | .hbm, ⟨16, _⟩ => ⟨S2048x1024, .f32⟩
  | .hbm, ⟨17, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x2048, .bf16⟩
  | .local _ .vmem, ⟨5, _⟩ => ⟨S256x2048, .bf16⟩
  | .local _ .vmem, ⟨6, _⟩ => ⟨S4x1024x1152, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x128, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_40 : BitVec 32 := 0#32
  let v68 : BitVec 1 := Scalar.cmpi .ne v67 c0_i32_40
  v68

def k0_cond2 (i : grid0.Coords) : BitVec 1 :=
  let arg0 : BitVec 32 := BitVec.ofNat 32 (i 0).val
  let c0_i32 : BitVec 32 := 0#32
  let v66 : BitVec 1 := Scalar.cmpi .eq arg0 c0_i32
  let v_true : BitVec 1 := 1#1
  let v69 : BitVec 1 := Scalar.xori v66 v_true
  let v70 : BitVec 32 := Scalar.extui v69
  let c0_i32_41 : BitVec 32 := 0#32
  let v71 : BitVec 1 := Scalar.cmpi .ne v70 c0_i32_41
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjRefIdeal.lean ====
abbrev S2048x1024 : Shape := ⟨2, ![2048, 1024]⟩
abbrev S2048x1536 : Shape := ⟨2, ![2048, 1536]⟩
abbrev S2048x2048 : Shape := ⟨2, ![2048, 2048]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S1024, .f32⟩
  | .hbm, ⟨6, _⟩ => ⟨S1024x4608, .f32⟩
  | .hbm, ⟨7, _⟩ => ⟨S2048x4608, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4608, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== DwUp.lean ====
abbrev S2048x1024 : Shape := ⟨2, ![2048, 1024]⟩
abbrev S1024 : Shape := ⟨1, ![1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x2x512x1408 : Shape := ⟨4, ![4, 2, 512, 1408]⟩
abbrev S2048x512 : Shape := ⟨2, ![2048, 512]⟩
abbrev S2048x1408 : Shape := ⟨2, ![2048, 1408]⟩
abbrev S1x1x512x1408 : Shape := ⟨4, ![1, 1, 512, 1408]⟩
abbrev S512x1408 : Shape := ⟨2, ![512, 1408]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x5632, .bf16⟩
  | .hbm, ⟨21, _⟩ => ⟨S4x2x512x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x512x1408, .bf16⟩
  | .local _ .vmem, ⟨5, _⟩ => ⟨S1x1x512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S2048x1024 : Shape := ⟨2, ![2048, 1024]⟩
abbrev S1024 : Shape := ⟨1, ![1024]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S1x1024 : Shape := ⟨2, ![1, 1024]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x5632, .f32⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x5632, .f32⟩
  | .hbm, ⟨22, _⟩ => ⟨S5632x1024, .f32⟩
  | .hbm, ⟨23, _⟩ => ⟨S1024x5632, .f32⟩
  | .hbm, ⟨24, _⟩ => ⟨S2x512x4x1408, .f32⟩
  | .hbm, ⟨25, _⟩ => ⟨S4x2x512x1408, .f32⟩
  | .hbm, ⟨26, _⟩ => ⟨S4x2x512x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DwDown.lean ====
abbrev S2048x5632 : Shape := ⟨2, ![2048, 5632]⟩
abbrev S2048x1024 : Shape := ⟨2, ![2048, 1024]⟩
abbrev S2048x2816 : Shape := ⟨2, ![2048, 2816]⟩
abbrev S_ : Shape := ⟨0, ![]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 17
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .bf16⟩
  | .hbm, ⟨15, _⟩ => ⟨S2048x1024, .bf16⟩
  | .hbm, ⟨16, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwDownRefIdeal.lean ====
abbrev S2048x5632 : Shape := ⟨2, ![2048, 5632]⟩
abbrev S2048x1024 : Shape := ⟨2, ![2048, 1024]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2816x1024, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x1024, .f32⟩
  | .hbm, ⟨17, _⟩ => ⟨S1024x2816, .f32⟩
  | .hbm, ⟨18, _⟩ => ⟨S2816x1024, .f32⟩
  | .hbm, ⟨19, _⟩ => ⟨S2816x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Ffn.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x4x1408 : Shape := ⟨3, ![1024, 4, 1408]⟩
abbrev S4x1024x1408 : Shape := ⟨3, ![4, 1024, 1408]⟩
abbrev S2048x2816 : Shape := ⟨2, ![2048, 2816]⟩
abbrev S64x128 : Shape := ⟨2, ![64, 128]⟩
abbrev S2048x5632 : Shape := ⟨2, ![2048, 5632]⟩
abbrev S256x1024 : Shape := ⟨2, ![256, 1024]⟩
abbrev S256x2816 : Shape := ⟨2, ![256, 2816]⟩
abbrev S8x128 : Shape := ⟨2, ![8, 128]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 34
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S1024x5632, .bf16⟩
  | .hbm, ⟨24, _⟩ => ⟨S1024x4x1408, .bf16⟩
  | .hbm, ⟨25, _⟩ => ⟨S4x1024x1408, .bf16⟩
  | .hbm, ⟨26, _⟩ => ⟨S2816x1024, .bf16⟩
  | .hbm, ⟨27, _⟩ => ⟨S1x1024, .f32⟩
  | .hbm, ⟨28, _⟩ => ⟨S2048x2816, .bf16⟩
  | .hbm, ⟨29, _⟩ => ⟨S2048x1024, .bf16⟩
  | .hbm, ⟨30, _⟩ => ⟨S2048x1024, .f32⟩
  | .hbm, ⟨31, _⟩ => ⟨S64x128, .f32⟩
  | .hbm, ⟨32, _⟩ => ⟨S1x1024, .f32⟩
  | .hbm, ⟨33, _⟩ => ⟨S2048x5632, .bf16⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S8x128, .f32⟩
  | .local _ .vmem, ⟨16, _⟩ => ⟨S8x128, .f32⟩
  | .local _ .vmem, ⟨17, _⟩ => ⟨S1x1024, .f32⟩
  | .local _ .vmem, ⟨18, _⟩ => ⟨S256x5632, .bf16⟩
  | .local _ .vmem, ⟨19, _⟩ => ⟨S256x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_45 : BitVec 32 := 0#32
  let v83 : BitVec 1 := Scalar.cmpi .ne v82 c0_i32_45
  v83

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let v_true : BitVec 1 := 1#1
  let v84 : BitVec 1 := Scalar.xori v81 v_true
  let v85 : BitVec 32 := Scalar.extui v84
  let c0_i32_46 : BitVec 32 := 0#32
  let v86 : BitVec 1 := Scalar.cmpi .ne v85 c0_i32_46
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩
abbrev S8x256 : Shape := ⟨2, ![8, 256]⟩
abbrev S8 : Shape := ⟨1, ![8]⟩
abbrev S8x1x1 : Shape := ⟨3, ![8, 1, 1]⟩
abbrev S8x8x128 : Shape := ⟨3, ![8, 8, 128]⟩
abbrev S64x128 : Shape := ⟨2, ![64, 128]⟩

abbrev nBuf : Space → Nat
  | .hbm => 130
  | .vmem => 0
  | .smem => 0
  | _ => 0

abbrev hbmTy0_0 (i : Nat) : BufTy := match i % 128 with
  | 0 => ⟨S2048x1024, .f32⟩
  | 1 => ⟨S1024, .f32⟩
  | 2 => ⟨S1024x5632, .f32⟩
  | 3 => ⟨S2816x1024, .f32⟩
  | 4 => ⟨S1024, .f32⟩
  | 5 => ⟨S2048x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1024, .f32⟩
  | 18 => ⟨S2048x1024, .f32⟩
  | 19 => ⟨S1x1024, .f32⟩
  | 20 => ⟨S2048x1024, .f32⟩
  | 21 => ⟨S2048x1024, .f32⟩
  | 22 => ⟨S2048x5632, .f32⟩
  | 23 => ⟨S2048x2816, .f32⟩
  | 24 => ⟨S2048x2816, .f32⟩
  | 25 => ⟨S2048x2816, .f32⟩
  | 26 => ⟨S2048x2816, .f32⟩
  | 27 => ⟨S_, .f32⟩
  | 28 => ⟨S2048x2816, .f32⟩
  | 29 => ⟨S2048x2816, .f32⟩
  | 30 => ⟨S_, .f32⟩
  | 31 => ⟨S2048x2816, .f32⟩
  | 32 => ⟨S2048x2816, .f32⟩
  | 33 => ⟨S_, .f32⟩
  | 34 => ⟨S2048x2816, .f32⟩
  | 35 => ⟨S2048x2816, .f32⟩
  | 36 => ⟨S2048x2816, .f32⟩
  | 37 => ⟨S2048x2816, .f32⟩
  | 38 => ⟨S_, .f32⟩
  | 39 => ⟨S2048x2816, .f32⟩
  | 40 => ⟨S2048x2816, .f32⟩
  | 41 => ⟨S2048x2816, .f32⟩
  | 42 => ⟨S2048x2816, .f32⟩
  | 43 => ⟨S2048x2816, .f32⟩
  | 44 => ⟨S2048x2816, .f32⟩
  | 45 => ⟨S2048x1024, .f32⟩
  | 46 => ⟨S2048x1024, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1024, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S_, .f32⟩
  | 73 => ⟨S2048, .f32⟩
  | 74 => ⟨S_, .f32⟩
  | 75 => ⟨S2048, .f32⟩
  | 76 => ⟨S2048, .f32⟩
  | 77 => ⟨S_, .f32⟩
  | 78 => ⟨S2048, .f32⟩
  | 79 => ⟨S2048, .f32⟩
  | 80 => ⟨S_, .f32⟩
  | 81 => ⟨S2048, .f32⟩
  | 82 => ⟨S_, .f32⟩
  | 83 => ⟨S2048, .f32⟩
  | 84 => ⟨S2048, .f32⟩
  | 85 => ⟨S_, .f32⟩
  | 86 => ⟨S2048, .f32⟩
  | 87 => ⟨S2048, .f32⟩
  | 88 => ⟨S2048x1024, .f32⟩
  | 89 => ⟨S2048x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S_, .f32⟩
  | 97 => ⟨S1024, .f32⟩
  | 98 => ⟨S2048x1024, .f32⟩
  | 99 => ⟨S_, .f32⟩
  | 100 => ⟨S2048, .f32⟩
  | 101 => ⟨S2048x1, .f32⟩
  | 102 => ⟨S2048x1024, .f32⟩
  | 103 => ⟨S2048x1024, .f32⟩
  | 104 => ⟨S2048x1, .f32⟩
  | 105 => ⟨S_, .f32⟩
  | 106 => ⟨S2048x1, .f32⟩
  | 107 => ⟨S2048x1, .f32⟩
  | 108 => ⟨S_, .f32⟩
  | 109 => ⟨S2048, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x2816, .f32⟩
  | 116 => ⟨S2048x2816, .f32⟩
  | 117 => ⟨S2048x2816, .f32⟩
  | 118 => ⟨S2048x2816, .f32⟩
  | 119 => ⟨S2048x5632, .f32⟩
  | 120 => ⟨S8x256, .f32⟩
  | 121 => ⟨S_, .f32⟩
  | 122 => ⟨S8, .f32⟩
  | 123 => ⟨S2048x2816, .bf16⟩
  | 124 => ⟨S2048x1024, .bf16⟩
  | 125 => ⟨S8x1x1, .f32⟩
  | 126 => ⟨S8x8x128, .f32⟩
  | 127 => ⟨S64x128, .f32⟩
  | _ => ⟨S2048x1024, .f32⟩

abbrev hbmTy0_1 (i : Nat) : BufTy := match i % 128 with
  | 0 => ⟨S1x1024, .f32⟩
  | 1 => ⟨S2048x5632, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_cst_2 : Ref sig .tc := ⟨.hbm, 38, rfl⟩
abbrev main_v17 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_v49 : Ref sig .tc := ⟨.hbm, 84, rfl⟩
abbrev main_cst_13 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_15 : Ref sig .tc := ⟨.hbm, 96, rfl⟩
abbrev main_v59 : Ref sig .tc := ⟨.hbm, 97, rfl⟩
abbrev main_v60 : Ref sig .tc := ⟨.hbm, 98, rfl⟩
abbrev main_cst_16 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_17 : Ref sig .tc := ⟨.hbm, 105, rfl⟩
abbrev main_v66 : Ref sig .tc := ⟨.hbm, 106, rfl⟩
abbrev main_v67 : Ref sig .tc := ⟨.hbm, 107, rfl⟩
abbrev main_cst_18 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== InFwd.lean ====
abbrev S2048x1024 : Shape := ⟨2, ![2048, 1024]⟩
abbrev S1024 : Shape := ⟨1, ![1024]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S1x1024 : Shape := ⟨2, ![1, 1024]⟩
abbrev S_ : Shape := ⟨0, ![]⟩
abbrev S8x128 : Shape := ⟨2, ![8, 128]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024x1152 : Shape := ⟨3, ![1, 1024, 1152]⟩
abbrev S1024x1152 : Shape := ⟨2, ![1024, 1152]⟩
abbrev S256x1152 : Shape := ⟨2, ![256, 1152]⟩
abbrev S256x128 : Shape := ⟨2, ![256, 128]⟩
abbrev S256x384 : Shape := ⟨2, ![256, 384]⟩
abbrev S256x256 : Shape := ⟨2, ![256, 256]⟩
abbrev S256x896 : Shape := ⟨2, ![256, 896]⟩

abbrev nBuf : Space → Nat
  | .hbm => 16
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S1024x4608, .bf16⟩
  | .hbm, ⟨4, _⟩ => ⟨S1024x4x1152, .bf16⟩
  | .hbm, ⟨5, _⟩ => ⟨S4x1024x1152, .bf16⟩
  | .hbm, ⟨6, _⟩ => ⟨S1x1024, .f32⟩
  | .hbm, ⟨7, _⟩ => ⟨S_, .f32⟩
  | .hbm, ⟨8, _⟩ => ⟨S8x128, .f32⟩
  | .hbm, ⟨9, _⟩ => ⟨S2048x1024, .bf16⟩
  | .hbm, ⟨10, _⟩ => ⟨S2048x1024, .f32⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x1024, .f32⟩
  | .hbm, ⟨15, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1152, .bf16⟩
  | .local _ .vmem, ⟨4, _⟩ => ⟨S8x128, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v5_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InFwdRefIdeal.lean ====
abbrev S2048x1024 : Shape := ⟨2, ![2048, 1024]⟩
abbrev S1024 : Shape := ⟨1, ![1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4608 : Shape := ⟨2, ![2048, 4608]⟩
abbrev S2048x512 : Shape := ⟨2, ![2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x4608, .f32⟩
  | .hbm, ⟨20, _⟩ => ⟨S2048x1024, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .bf16⟩
  | .hbm, ⟨31, _⟩ => ⟨S2048x512, .bf16⟩
  | .hbm, ⟨32, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== MixFwd.lean ====
abbrev S2048x512 : Shape := ⟨2, ![2048, 512]⟩
abbrev S2048x1024 : Shape := ⟨2, ![2048, 1024]⟩
abbrev S512x1024 : Shape := ⟨2, ![512, 1024]⟩
abbrev S1024 : Shape := ⟨1, ![1024]⟩
abbrev S1024x1024 : Shape := ⟨2, ![1024, 1024]⟩
abbrev S512x4x256 : Shape := ⟨3, ![512, 4, 256]⟩
abbrev S4x512x256 : Shape := ⟨3, ![4, 512, 256]⟩
abbrev S1x1024 : Shape := ⟨2, ![1, 1024]⟩
abbrev S_ : Shape := ⟨0, ![]⟩
abbrev S8x128 : Shape := ⟨2, ![8, 128]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 25
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2048x512, .bf16⟩
  | .hbm, ⟨12, _⟩ => ⟨S2048x512, .bf16⟩
  | .hbm, ⟨13, _⟩ => ⟨S512x1024, .bf16⟩
  | .hbm, ⟨14, _⟩ => ⟨S512x4x256, .bf16⟩
  | .hbm, ⟨15, _⟩ => ⟨S4x512x256, .bf16⟩
  | .hbm, ⟨16, _⟩ => ⟨S1x1024, .f32⟩
  | .hbm, ⟨17, _⟩ => ⟨S512x1024, .bf16⟩
  | .hbm, ⟨18, _⟩ => ⟨S512x4x256, .bf16⟩
  | .hbm, ⟨19, _⟩ => ⟨S4x512x256, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S8x128, .f32⟩
  | .hbm, ⟨25, _⟩ => ⟨S2048x1024, .bf16⟩
  | .hbm, ⟨26, _⟩ => ⟨S2048x1024, .f32⟩
  | .hbm, ⟨27, _⟩ => ⟨S2048x1024, .f32⟩
  | .hbm, ⟨28, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x512x256, .bf16⟩
  | .local _ .vmem, ⟨11, _⟩ => ⟨S1x1024, .f32⟩
  | .local _ .vmem, ⟨12, _⟩ => ⟨S4x512x256, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFwdRefIdeal.lean ====
abbrev S2048x512 : Shape := ⟨2, ![2048, 512]⟩
abbrev S2048x1024 : Shape := ⟨2, ![2048, 1024]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== AdamIn.lean ====
abbrev S1024x1152 : Shape := ⟨2, ![1024, 1152]⟩
abbrev S512x1152 : Shape := ⟨2, ![512, 1152]⟩
abbrev S256x1152 : Shape := ⟨2, ![256, 1152]⟩

abbrev nBuf : Space → Nat
  | .hbm => 9
  | .vmem => 18
  | .smem => 0
  | _ => 0

abbrev bufTy : (tb : Table) → Fin (tcTables nBuf tb) → BufTy
  | .hbm, ⟨0, _⟩ => ⟨S1024x1152, .f32⟩
  | .hbm, ⟨1, _⟩ => ⟨S512x1152, .f32⟩
  | .hbm, ⟨2, _⟩ => ⟨S512x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1024x1152 : Shape := ⟨2, ![1024, 1152]⟩
abbrev S512x1152 : Shape := ⟨2, ![512, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S512x1152, .f32⟩
  | .hbm, ⟨2, _⟩ => ⟨S512x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S_, .f32⟩
  | .hbm, ⟨7, _⟩ => ⟨S1024x1152, .f32⟩
  | .hbm, ⟨8, _⟩ => ⟨S1024x1152, .f32⟩
  | .hbm, ⟨9, _⟩ => ⟨S_, .f32⟩
  | .hbm, ⟨10, _⟩ => ⟨S1024x1152, .f32⟩
  | .hbm, ⟨11, _⟩ => ⟨S1024x1152, .f32⟩
  | .hbm, ⟨12, _⟩ => ⟨S1024x1152, .f32⟩
  | .hbm, ⟨13, _⟩ => ⟨S_, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S1024x1152, .f32⟩
  | .hbm, ⟨21, _⟩ => ⟨S_, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S1024x1152, .f32⟩
  | .hbm, ⟨36, _⟩ => ⟨S_, .f32⟩
  | .hbm, ⟨37, _⟩ => ⟨S1024x1152, .f32⟩
  | .hbm, ⟨38, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S1024x1408 : Shape := ⟨2, ![1024, 1408]⟩
abbrev S512x1408 : Shape := ⟨2, ![512, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S1024x1408 : Shape := ⟨2, ![1024, 1408]⟩
abbrev S512x1408 : Shape := ⟨2, ![512, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S704x1024 : Shape := ⟨2, ![704, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S256x1024 : Shape := ⟨2, ![256, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamBr.lean ====
abbrev S512x256 : Shape := ⟨2, ![512, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBrRefIdeal.lean ====
abbrev S512x256 : Shape := ⟨2, ![512, 256]⟩
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.MergeIdealRunA.lean ====
module

public import proofs.«01_k».proof.Proof.Gen.MergeIdeal.Frame.Runs

@[expose] public section

-- membership in a rectangle of production extents (`View.cover_of_tiled`): the elaborator's structural look
-- recurses once per coordinate of the long axes
set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken, `scf.if` 2 taken, `scf.if` 3 not taken, `scf.if` 4 taken, `scf.if` 5 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x5632 .bf16) (harg1 : arg1.IsWhole) (arg2 : Memref sig .tc .vmem S4x1024x1408 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S4x512x256 .bf16) (harg13 : arg13.IsWhole) (arg14 : Memref sig .tc .vmem S1x1024 .f32) (harg14 : arg14.IsWhole) (arg15 : Memref sig .tc .vmem S4x512x256 .bf16) (harg15 : arg15.IsWhole) (arg16 : Memref sig .tc .vmem S8x128 .f32) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .bf16) (harg23 : arg23.IsWhole) (arg24 : Memref sig .tc .vmem S256x512 .f32) (harg24 : arg24.IsWhole) (arg25 : Memref sig .tc .vmem S256x512 .bf16) (harg25 : arg25.IsWhole) (arg26 : Memref sig .tc .vmem S1x1024 .f32) (harg26 : arg26.IsWhole) (hc0 : cond0_0 i) (hc1 : ¬cond0_1 i) (hc2 : cond0_2 i) (hc3 : ¬cond0_3 i) (hc4 : cond0_4 i) (hc5 : ¬cond0_5 i)
    (x0 : Vec F S256x5632 .bf16) (x1 : Vec F S4x1024x1408 .bf16) (x2 : Vec F S256x1024 .f32) (x3 : Vec F S256x1024 .f32) (x4 : Vec F S256x1024 .f32) (x5 : Vec F S1x1024 .f32) (x6 : Vec F S1x1024 .f32) (x7 : Vec F S1024x1024 .bf16) (x8 : Vec F S256x1024 .f32) (x9 : Vec F S256x1024 .f32) (x10 : Vec F S256x512 .bf16) (x11 : Vec F S256x512 .bf16) (x12 : Vec F S4x512x256 .bf16) (x13 : Vec F S1x1024 .f32) (x14 : Vec F S4x512x256 .bf16) (x15 : Vec F S8x128 .f32) :
    Σ' (L16 : List (View.Piece (Elt F) S256x1024 .f32)), Σ' (L17 : List (View.Piece (Elt F) S256x1024 .bf16)), Σ' (L18 : List (View.Piece (Elt F) S1x1024 .f32)), Σ' (L19 : List (View.Piece (Elt F) S1x1024 .f32)), Σ' (L20 : List (View.Piece (Elt F) S256x1024 .bf16)), Σ' (L21 : List (View.Piece (Elt F) S256x1024 .bf16)), Σ' (L22 : List (View.Piece (Elt F) S256x2048 .bf16)), Σ' (L23 : List (View.Piece (Elt F) S256x512 .f32)), Σ' (L24 : List (View.Piece (Elt F) S256x512 .bf16)), { L25 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25)) -∗ K ⟨⟩))
          ⊢ wp frame (wpE (defs₀ (F := F)) Variants.none c none) E (cc0_ffn_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, fun E K => ?run⟩
  case run =>
    simp only [cc0_ffn_merge_bwd_eq_skeleton]; unfold cc0_ffn_merge_bwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.MergeIdeal.Gen

end
-- ==== Proof.MergeIdealBody.lean ====
module

public import proofs.«01_k».proof.Proof.MergeIdealRunB
public import Idealize.ShloMosaic.Lib.Claim

@[expose] public section

-- membership in a rectangle of production extents (`View.cover_of_tiled`): the elaborator's structural look
-- recurses once per coordinate of the long axes
set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S256x5632 .bf16) (harg1 : arg1.IsWhole) (arg2 : Memref sig .tc .vmem S4x1024x1408 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S4x512x256 .bf16) (harg13 : arg13.IsWhole) (arg14 : Memref sig .tc .vmem S1x1024 .f32) (harg14 : arg14.IsWhole) (arg15 : Memref sig .tc .vmem S4x512x256 .bf16) (harg15 : arg15.IsWhole) (arg16 : Memref sig .tc .vmem S8x128 .f32) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .bf16) (harg23 : arg23.IsWhole) (arg24 : Memref sig .tc .vmem S256x512 .f32) (harg24 : arg24.IsWhole) (arg25 : Memref sig .tc .vmem S256x512 .bf16) (harg25 : arg25.IsWhole) (arg26 : Memref sig .tc .vmem S1x1024 .f32) (harg26 : arg26.IsWhole) (hc0 : cond0_0 i) (hc1 : ¬cond0_1 i) (hc2 : cond0_2 i) (hc3 : ¬cond0_3 i) (hc4 : cond0_4 i) (hc5 : ¬cond0_5 i)
  (x0 : Vec F S256x5632 .bf16) (x1 : Vec F S4x1024x1408 .bf16) (x2 : Vec F S256x1024 .f32) (x3 : Vec F S256x1024 .f32) (x4 : Vec F S256x1024 .f32) (x5 : Vec F S1x1024 .f32) (x6 : Vec F S1x1024 .f32) (x7 : Vec F S1024x1024 .bf16) (x8 : Vec F S256x1024 .f32) (x9 : Vec F S256x1024 .f32) (x10 : Vec F S256x512 .bf16) (x11 : Vec F S256x512 .bf16) (x12 : Vec F S4x512x256 .bf16) (x13 : Vec F S1x1024 .f32) (x14 : Vec F S4x512x256 .bf16) (x15 : Vec F S8x128 .f32)

/-- The stores of output 16 cover its block. -/
theorem cover0_A_16
    (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).1 S256x1024.size (by sl_kernel_rfl) y

/-- What case A leaves in output 16's staging buffer: its pieces read back over junk. -/
def out0_A_16
    : Vec F S256x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).1)

/-- The stores of output 17 cover its block. -/
theorem cover0_A_17
    (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.1 S256x1024.size (by sl_kernel_rfl) y

/-- What case A leaves in output 17's staging buffer: its pieces read back over junk. -/
def out0_A_17
    : Vec F S256x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.1)

/-- The stores of output 18 cover its block. -/
theorem cover0_A_18
    (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.1 S1x1024.size (by sl_kernel_rfl) y

/-- What case A leaves in output 18's staging buffer: its pieces read back over junk. -/
def out0_A_18
    : Vec F S1x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.1)

/-- The stores of output 19 cover its block. -/
theorem cover0_A_19
    (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.1 S1x1024.size (by sl_kernel_rfl) y

/-- What case A leaves in output 19's staging buffer: its pieces read back over junk. -/
def out0_A_19
    : Vec F S1x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.1)

/-- The stores of output 20 cover its block. -/
theorem cover0_A_20
    (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.1 S256x1024.size (by sl_kernel_rfl) y

/-- What case A leaves in output 20's staging buffer: its pieces read back over junk. -/
def out0_A_20
    : Vec F S256x1024 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.1)

/-- The stores of output 21 cover its block. -/
theorem cover0_A_21
    (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.1 S256x1024.size (by sl_kernel_rfl) y

/-- What case A leaves in output 21's staging buffer: its pieces read back over junk. -/
def out0_A_21
    : Vec F S256x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.1)

/-- The stores of output 22 cover its block. -/
theorem cover0_A_22
    (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.1 S256x1024.size (by sl_kernel_rfl) y

/-- What case A leaves in output 22's staging buffer: its pieces read back over junk. -/
def out0_A_22
    : Vec F S256x2048 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.1)

/-- The stores of output 23 cover its block. -/
theorem cover0_A_23
    (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.1 S256x512.size (by sl_kernel_rfl) y

/-- What case A leaves in output 23's staging buffer: its pieces read back over junk. -/
def out0_A_23
    : Vec F S256x512 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.1)

/-- The stores of output 24 cover its block. -/
theorem cover0_A_24
    (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.1 S256x512.size (by sl_kernel_rfl) y

/-- What case A leaves in output 24's staging buffer: its pieces read back over junk. -/
def out0_A_24
    : Vec F S256x512 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.1)

/-- The stores of output 25 cover its block. -/
theorem cover0_A_25
    (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.2.1 S1x1024.size (by sl_kernel_rfl) y

/-- What case A leaves in output 25's staging buffer: its pieces read back over junk. -/
def out0_A_25
    : Vec F S1x1024 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15).2.2.2.2.2.2.2.2.2.1)

/-- The outputs together. -/
abbrev outs0_A : Vec F S256x1024 .f32 × Vec F S256x1024 .bf16 × Vec F S1x1024 .f32 × Vec F S1x1024 .f32 × Vec F S256x1024 .bf16 × Vec F S256x1024 .bf16 × Vec F S256x2048 .bf16 × Vec F S256x512 .f32 × Vec F S256x512 .bf16 × Vec F S1x1024 .f32 :=
  (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15,
   out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15)

end CaseA

section CaseB

variable (c : Dev nD) (i : grid0.Coords) (arg1 : Memref sig .tc .vmem S256x5632 .bf16) (harg1 : arg1.IsWhole) (arg2 : Memref sig .tc .vmem S4x1024x1408 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S4x512x256 .bf16) (harg13 : arg13.IsWhole) (arg14 : Memref sig .tc .vmem S1x1024 .f32) (harg14 : arg14.IsWhole) (arg15 : Memref sig .tc .vmem S4x512x256 .bf16) (harg15 : arg15.IsWhole) (arg16 : Memref sig .tc .vmem S8x128 .f32) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .bf16) (harg23 : arg23.IsWhole) (arg24 : Memref sig .tc .vmem S256x512 .f32) (harg24 : arg24.IsWhole) (arg25 : Memref sig .tc .vmem S256x512 .bf16) (harg25 : arg25.IsWhole) (arg26 : Memref sig .tc .vmem S1x1024 .f32) (harg26 : arg26.IsWhole) (hc0 : ¬cond0_0 i) (hc1 : cond0_1 i) (hc2 : ¬cond0_2 i) (hc3 : cond0_3 i) (hc4 : ¬cond0_4 i) (hc5 : cond0_5 i)
  (x0 : Vec F S256x5632 .bf16) (x1 : Vec F S4x1024x1408 .bf16) (x2 : Vec F S256x1024 .f32) (x3 : Vec F S256x1024 .f32) (x4 : Vec F S256x1024 .f32) (x5 : Vec F S1x1024 .f32) (x6 : Vec F S1x1024 .f32) (x7 : Vec F S1024x1024 .bf16) (x8 : Vec F S256x1024 .f32) (x9 : Vec F S256x1024 .f32) (x10 : Vec F S256x512 .bf16) (x11 : Vec F S256x512 .bf16) (x12 : Vec F S4x512x256 .bf16) (x13 : Vec F S1x1024 .f32) (x14 : Vec F S4x512x256 .bf16) (x15 : Vec F S8x128 .f32) (xo18 : Vec F S1x1024 .f32) (xo19 : Vec F S1x1024 .f32) (xo25 : Vec F S1x1024 .f32)

/-- The stores of output 16 cover its block. -/
theorem cover0_B_16
    (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).1 S256x1024.size (by sl_kernel_rfl) y

/-- What case B leaves in output 16's staging buffer: its pieces read back over junk. -/
def out0_B_16
    : Vec F S256x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).1)

/-- The stores of output 17 cover its block. -/
theorem cover0_B_17
    (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.1 S256x1024.size (by sl_kernel_rfl) y

/-- What case B leaves in output 17's staging buffer: its pieces read back over junk. -/
def out0_B_17
    : Vec F S256x1024 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.1)

/-- The stores of output 18 cover its block. -/
theorem cover0_B_18
    (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.1 S1x1024.size (by sl_kernel_rfl) y

/-- What case B leaves in output 18's staging buffer: its pieces read back over junk. -/
def out0_B_18
    : Vec F S1x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.1)

/-- The stores of output 19 cover its block. -/
theorem cover0_B_19
    (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.1 S1x1024.size (by sl_kernel_rfl) y

/-- What case B leaves in output 19's staging buffer: its pieces read back over junk. -/
def out0_B_19
    : Vec F S1x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.1)

/-- The stores of output 20 cover its block. -/
theorem cover0_B_20
    (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.1 S256x1024.size (by sl_kernel_rfl) y

/-- What case B leaves in output 20's staging buffer: its pieces read back over junk. -/
def out0_B_20
    : Vec F S256x1024 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.1)

/-- The stores of output 21 cover its block. -/
theorem cover0_B_21
    (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.1 S256x1024.size (by sl_kernel_rfl) y

/-- What case B leaves in output 21's staging buffer: its pieces read back over junk. -/
def out0_B_21
    : Vec F S256x1024 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.1)

/-- The stores of output 22 cover its block. -/
theorem cover0_B_22
    (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.1 S256x1024.size (by sl_kernel_rfl) y

/-- What case B leaves in output 22's staging buffer: its pieces read back over junk. -/
def out0_B_22
    : Vec F S256x2048 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.1)

/-- The stores of output 23 cover its block. -/
theorem cover0_B_23
    (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.1 S256x512.size (by sl_kernel_rfl) y

/-- What case B leaves in output 23's staging buffer: its pieces read back over junk. -/
def out0_B_23
    : Vec F S256x512 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.1)

/-- The stores of output 24 cover its block. -/
theorem cover0_B_24
    (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.1 S256x512.size (by sl_kernel_rfl) y

/-- What case B leaves in output 24's staging buffer: its pieces read back over junk. -/
def out0_B_24
    : Vec F S256x512 .bf16 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.1)

/-- The stores of output 25 cover its block. -/
theorem cover0_B_25
    (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.2.1 S1x1024.size (by sl_kernel_rfl) y

/-- What case B leaves in output 25's staging buffer: its pieces read back over junk. -/
def out0_B_25
    : Vec F S1x1024 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25).2.2.2.2.2.2.2.2.2.1)

/-- The outputs together. -/
abbrev outs0_B : Vec F S256x1024 .f32 × Vec F S256x1024 .bf16 × Vec F S1x1024 .f32 × Vec F S1x1024 .f32 × Vec F S256x1024 .bf16 × Vec F S256x1024 .bf16 × Vec F S256x2048 .bf16 × Vec F S256x512 .f32 × Vec F S256x512 .bf16 × Vec F S1x1024 .f32 :=
  (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25,
   out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 hc4 hc5 x0 x1 x2 x3 x4 x5 x6 x7 x8 x9 x10 x11 x12 x13 x14 x15 xo18 xo19 xo25)

end CaseB

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .f32 × Vec F S256x1024 .bf16 × Vec F S1x1024 .f32 × Vec F S1x1024 .f32 × Vec F S256x1024 .bf16 × Vec F S256x1024 .bf16 × Vec F S256x2048 .bf16 × Vec F S256x512 .f32 × Vec F S256x512 .bf16 × Vec F S1x1024 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) ((hcond0_0 ⟨0, hn⟩).mpr (Nat.zero_mod _)) (fun h => (fun h => by (try dsimp only at h); omega) ((hcond0_1 ⟨0, hn⟩).mp h)) ((hcond0_2 ⟨0, hn⟩).mpr (Nat.zero_mod _)) (fun h => (fun h => by (try dsimp only at h); omega) ((hcond0_3 ⟨0, hn⟩).mp h)) ((hcond0_4 ⟨0, hn⟩).mpr (Nat.zero_mod _)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩)
  | n + 1, hn =>
    if h0 : (n + 1) % 8 = 0 then
      if h1 : 1 ≤ (n + 1) then
        False.elim (by have hN : n + 1 < 8 := lt_of_lt_of_eq hn (show cfg0.N = 8 from N_0); omega)
      else
        if h2 : (n + 1) % 8 = 0 then
          if h3 : 1 ≤ (n + 1) then
            False.elim (by have hN : n + 1 < 8 := lt_of_lt_of_eq hn (show cfg0.N = 8 from N_0); omega)
          else
            if h4 : (n + 1) % 8 = 0 then
              if h5 : 1 ≤ (n + 1) then
                False.elim (by have hN : n + 1 < 8 := lt_of_lt_of_eq hn (show cfg0.N = 8 from N_0); omega)
              else
                outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩)
            else
              False.elim (by have hN : n + 1 < 8 := lt_of_lt_of_eq hn (show cfg0.N = 8 from N_0); omega)
        else
          False.elim (by have hN : n + 1 < 8 := lt_of_lt_of_eq hn (show cfg0.N = 8 from N_0); omega)
    else
      if h1 : 1 ≤ (n + 1) then
        if h2 : (n + 1) % 8 = 0 then
          False.elim (by have hN : n + 1 < 8 := lt_of_lt_of_eq hn (show cfg0.N = 8 from N_0); omega)
        else
          if h3 : 1 ≤ (n + 1) then
            if h4 : (n + 1) % 8 = 0 then
              False.elim (by have hN : n + 1 < 8 := lt_of_lt_of_eq hn (show cfg0.N = 8 from N_0); omega)
            else
              if h5 : 1 ≤ (n + 1) then
                outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2.2.2.2
              else
                False.elim (by have hN : n + 1 < 8 := lt_of_lt_of_eq hn (show cfg0.N = 8 from N_0); omega)
          else
            False.elim (by have hN : n + 1 < 8 := lt_of_lt_of_eq hn (show cfg0.N = 8 from N_0); omega)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) (h2 : t.val % 8 = 0) (h3 : ¬1 ≤ t.val) (h4 : t.val % 8 = 0) (h5 : ¬1 ≤ t.val) :
    outsAt0 m c t.val t.isLt = (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact rfl
  | succ n => exact (dif_pos h0).trans ((dif_neg h1).trans ((dif_pos h2).trans ((dif_neg h3).trans ((dif_pos h4).trans ((dif_neg h5).trans rfl)))))

/-- `outsAt0` at a point of case B: that case's contents, over what the point before left. -/
theorem outsAt0_B (c : Dev nD) (t : Fin cfg0.N) (h0 : ¬t.val % 8 = 0) (h1 : 1 ≤ t.val) (h2 : ¬t.val % 8 = 0) (h3 : 1 ≤ t.val) (h4 : ¬t.val % 8 = 0) (h5 : 1 ≤ t.val) :
    outsAt0 m c t.val t.isLt = (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans ((dif_pos h5).trans rfl)))))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨25, _⟩ => (outsAt0 m c t.val t.isLt).2.2.2.2.2.2.2.2.2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]
theorem after0_25 (c : Dev nD) (t : Fin cfg0.N) : (dats m 0 c).after 25 t = (outsAt0 m c t.val t.isLt).2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- Output 18's contents CARRY through the points that leave it idle: at such a point, its buffer not fresh, the proof data's
    `after` is the point before's (the case there stores nothing into the window and its term says so; a case that stores
    into it is not idle there by `liveAt0_18_κ`) — the hypothesis of Lib/Pipeline/TableIdle.lean `Dat.before_out_traj`. -/
theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 8 := lt_of_lt_of_eq t.isLt (show cfg0.N = 8 from N_0)
  rw [after0_18, after0_18]
  by_cases h0 : t.val % 8 = 0
  · by_cases h1 : 1 ≤ t.val
    · exfalso; omega
    · by_cases h2 : t.val % 8 = 0
      · by_cases h3 : 1 ≤ t.val
        · exfalso; omega
        · by_cases h4 : t.val % 8 = 0
          · by_cases h5 : 1 ≤ t.val
            · exfalso; omega
            · rw [liveAt0_18_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))] at hi
              exact absurd hi Bool.false_ne_true
          · exfalso; omega
      · exfalso; omega
  · by_cases h1 : 1 ≤ t.val
    · by_cases h2 : t.val % 8 = 0
      · exfalso; omega
      · by_cases h3 : 1 ≤ t.val
        · by_cases h4 : t.val % 8 = 0
          · exfalso; omega
          · by_cases h5 : 1 ≤ t.val
            · rw [liveAt0_18_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)] at hi
              exact absurd hi Bool.false_ne_true
            · exfalso; omega
        · exfalso; omega
    · exfalso; omega

/-- Output 19's contents CARRY through the points that leave it idle: at such a point, its buffer not fresh, the proof data's
    `after` is the point before's (the case there stores nothing into the window and its term says so; a case that stores
    into it is not idle there by `liveAt0_19_κ`) — the hypothesis of Lib/Pipeline/TableIdle.lean `Dat.before_out_traj`. -/
theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 8 := lt_of_lt_of_eq t.isLt (show cfg0.N = 8 from N_0)
  rw [after0_19, after0_19]
  by_cases h0 : t.val % 8 = 0
  · by_cases h1 : 1 ≤ t.val
    · exfalso; omega
    · by_cases h2 : t.val % 8 = 0
      · by_cases h3 : 1 ≤ t.val
        · exfalso; omega
        · by_cases h4 : t.val % 8 = 0
          · by_cases h5 : 1 ≤ t.val
            · exfalso; omega
            · rw [liveAt0_19_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))] at hi
              exact absurd hi Bool.false_ne_true
          · exfalso; omega
      · exfalso; omega
  · by_cases h1 : 1 ≤ t.val
    · by_cases h2 : t.val % 8 = 0
      · exfalso; omega
      · by_cases h3 : 1 ≤ t.val
        · by_cases h4 : t.val % 8 = 0
          · exfalso; omega
          · by_cases h5 : 1 ≤ t.val
            · rw [liveAt0_19_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)] at hi
              exact absurd hi Bool.false_ne_true
            · exfalso; omega
        · exfalso; omega
    · exfalso; omega

/-- Output 25's contents CARRY through the points that leave it idle: at such a point, its buffer not fresh, the proof data's
    `after` is the point before's (the case there stores nothing into the window and its term says so; a case that stores
    into it is not idle there by `liveAt0_25_κ`) — the hypothesis of Lib/Pipeline/TableIdle.lean `Dat.before_out_traj`. -/
theorem hcarry0_25 (c : Dev nD) : ∀ (t : Fin cfg0.N) (_ : t.val ≠ 0), cfg0.idle 25 (grid0.coords t) = true → cfg0.fresh 25 t.val = false →
    (dats m 0 c).after 25 t = (dats m 0 c).after 25 ⟨t.val - 1, by omega⟩ := by
  intro t _ hi _
  have hN : t.val < 8 := lt_of_lt_of_eq t.isLt (show cfg0.N = 8 from N_0)
  rw [after0_25, after0_25]
  by_cases h0 : t.val % 8 = 0
  · by_cases h1 : 1 ≤ t.val
    · exfalso; omega
    · by_cases h2 : t.val % 8 = 0
      · by_cases h3 : 1 ≤ t.val
        · exfalso; omega
        · by_cases h4 : t.val % 8 = 0
          · by_cases h5 : 1 ≤ t.val
            · exfalso; omega
            · rw [liveAt0_25_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))] at hi
              exact absurd hi Bool.false_ne_true
          · exfalso; omega
      · exfalso; omega
  · by_cases h1 : 1 ≤ t.val
    · by_cases h2 : t.val % 8 = 0
      · exfalso; omega
      · by_cases h3 : 1 ≤ t.val
        · by_cases h4 : t.val % 8 = 0
          · exfalso; omega
          · by_cases h5 : 1 ≤ t.val
            · rw [liveAt0_25_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)] at hi
              exact absurd hi Bool.false_ne_true
            · exfalso; omega
        · exfalso; omega
    · exfalso; omega
/-- At a point of case B output 18's current staging buffer holds what the point before left: the buffer is not fresh
    there (`notFresh0_18_B`: stored into since the region's entry or the last write-back, carried through the points that
    leave it idle by `hcarry0_18`; Lib/Pipeline/TableIdle.lean `Dat.before_out_traj`). -/
theorem before0_18_B (c : Dev nD) (t : Fin cfg0.N) (h0 : ¬t.val % 8 = 0) (h1 : 1 ≤ t.val) (h2 : ¬t.val % 8 = 0) (h3 : 1 ≤ t.val) (h4 : ¬t.val % 8 = 0) (h5 : 1 ≤ t.val) (d) :
    (dats m 0 c).before 18 t d = (outsAt0 m c (t.val - 1) (Nat.lt_of_le_of_lt (Nat.sub_le _ _) t.isLt)).2.2.1 := by
  rw [Dat.before_out_traj _ 18 rfl (fun _ _ => rfl) (hcarry0_18 m c) t.val t rfl d,
    if_neg (by rw [notFresh0_18_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)]; exact Bool.false_ne_true)]
  dsimp only [dats]
/-- At a point of case B output 19's current staging buffer holds what the point before left: the buffer is not fresh
    there (`notFresh0_19_B`: stored into since the region's entry or the last write-back, carried through the points that
    leave it idle by `hcarry0_19`; Lib/Pipeline/TableIdle.lean `Dat.before_out_traj`). -/
theorem before0_19_B (c : Dev nD) (t : Fin cfg0.N) (h0 : ¬t.val % 8 = 0) (h1 : 1 ≤ t.val) (h2 : ¬t.val % 8 = 0) (h3 : 1 ≤ t.val) (h4 : ¬t.val % 8 = 0) (h5 : 1 ≤ t.val) (d) :
    (dats m 0 c).before 19 t d = (outsAt0 m c (t.val - 1) (Nat.lt_of_le_of_lt (Nat.sub_le _ _) t.isLt)).2.2.2.1 := by
  rw [Dat.before_out_traj _ 19 rfl (fun _ _ => rfl) (hcarry0_19 m c) t.val t rfl d,
    if_neg (by rw [notFresh0_19_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)]; exact Bool.false_ne_true)]
  dsimp only [dats]
/-- At a point of case B output 25's current staging buffer holds what the point before left: the buffer is not fresh
    there (`notFresh0_25_B`: stored into since the region's entry or the last write-back, carried through the points that
    leave it idle by `hcarry0_25`; Lib/Pipeline/TableIdle.lean `Dat.before_out_traj`). -/
theorem before0_25_B (c : Dev nD) (t : Fin cfg0.N) (h0 : ¬t.val % 8 = 0) (h1 : 1 ≤ t.val) (h2 : ¬t.val % 8 = 0) (h3 : 1 ≤ t.val) (h4 : ¬t.val % 8 = 0) (h5 : 1 ≤ t.val) (d) :
    (dats m 0 c).before 25 t d = (outsAt0 m c (t.val - 1) (Nat.lt_of_le_of_lt (Nat.sub_le _ _) t.isLt)).2.2.2.2.2.2.2.2.2 := by
  rw [Dat.before_out_traj _ 25 rfl (fun _ _ => rfl) (hcarry0_25 m c) t.val t rfl d,
    if_neg (by rw [notFresh0_25_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · by_cases h1 : 1 ≤ t.val
    · exfalso; omega
    · by_cases h2 : t.val % 8 = 0
      · by_cases h3 : 1 ≤ t.val
        · exfalso; omega
        · by_cases h4 : t.val % 8 = 0
          · by_cases h5 : 1 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [liveAt0_10 t], after0_10]
              rw [show (dats m 0 c).leavesExact 11 t = owns (c : Thread nD τ) (ms0_11 t) fullShare ((dats m 0 c).after 11 t) from by
      unfold Dat.leavesExact; rw [liveAt0_11 t], after0_11]
              rw [show (dats m 0 c).leavesExact 12 t = owns (c : Thread nD τ) (ms0_12 t) fullShare ((dats m 0 c).after 12 t) from by
      unfold Dat.leavesExact; rw [liveAt0_12 t], after0_12]
              rw [show (dats m 0 c).leavesExact 13 t = owns (c : Thread nD τ) (ms0_13 t) fullShare ((dats m 0 c).after 13 t) from by
      unfold Dat.leavesExact; rw [liveAt0_13 t], after0_13]
              rw [show (dats m 0 c).leavesExact 14 t = owns (c : Thread nD τ) (ms0_14 t) fullShare ((dats m 0 c).after 14 t) from by
      unfold Dat.leavesExact; rw [liveAt0_14 t], after0_14]
              rw [show (dats m 0 c).leavesExact 15 t = owns (c : Thread nD τ) (ms0_15 t) fullShare ((dats m 0 c).after 15 t) from by
      unfold Dat.leavesExact; rw [liveAt0_15 t], after0_15]
              rw [show (dats m 0 c).leavesExact 16 t = owns (c : Thread nD τ) (ms0_16 t) fullShare ((dats m 0 c).after 16 t) from by
      unfold Dat.leavesExact; rw [liveAt0_16 t], after0_16]
              rw [show (dats m 0 c).leavesExact 17 t = owns (c : Thread nD τ) (ms0_17 t) fullShare ((dats m 0 c).after 17 t) from by
      unfold Dat.leavesExact; rw [liveAt0_17 t], after0_17]
              rw [show (dats m 0 c).leavesExact 18 t = owns (c : Thread nD τ) (ms0_18 t) fullShare ((dats m 0 c).after 18 t) from by
      unfold Dat.leavesExact; rw [liveAt0_18_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))], after0_18]
              rw [show (dats m 0 c).leavesExact 19 t = owns (c : Thread nD τ) (ms0_19 t) fullShare ((dats m 0 c).after 19 t) from by
      unfold Dat.leavesExact; rw [liveAt0_19_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))], after0_19]
              rw [show (dats m 0 c).leavesExact 20 t = owns (c : Thread nD τ) (ms0_20 t) fullShare ((dats m 0 c).after 20 t) from by
      unfold Dat.leavesExact; rw [liveAt0_20 t], after0_20]
              rw [show (dats m 0 c).leavesExact 21 t = owns (c : Thread nD τ) (ms0_21 t) fullShare ((dats m 0 c).after 21 t) from by
      unfold Dat.leavesExact; rw [liveAt0_21 t], after0_21]
              rw [show (dats m 0 c).leavesExact 22 t = owns (c : Thread nD τ) (ms0_22 t) fullShare ((dats m 0 c).after 22 t) from by
      unfold Dat.leavesExact; rw [liveAt0_22 t], after0_22]
              rw [show (dats m 0 c).leavesExact 23 t = owns (c : Thread nD τ) (ms0_23 t) fullShare ((dats m 0 c).after 23 t) from by
      unfold Dat.leavesExact; rw [liveAt0_23 t], after0_23]
              rw [show (dats m 0 c).leavesExact 24 t = owns (c : Thread nD τ) (ms0_24 t) fullShare ((dats m 0 c).after 24 t) from by
      unfold Dat.leavesExact; rw [liveAt0_24 t], after0_24]
              rw [show (dats m 0 c).leavesExact 25 t = owns (c : Thread nD τ) (ms0_25 t) fullShare ((dats m 0 c).after 25 t) from by
      unfold Dat.leavesExact; rw [liveAt0_25_A t ((hcond0_0 t).mpr h0) (fun h => h1 ((hcond0_1 t).mp h)) ((hcond0_2 t).mpr h2) (fun h => h3 ((hcond0_3 t).mp h)) ((hcond0_4 t).mpr h4) (fun h => h5 ((hcond0_5 t).mp h))], after0_25]
              rw [outsAt0_A m c t h0 h1 h2 h3 h4 h5]
              unfold out0_A_16 out0_A_17 out0_A_18 out0_A_19 out0_A_20 out0_A_21 out0_A_22 out0_A_23 out0_A_24 out0_A_25; (try dsimp only)
              iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
              iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              isplitl [H16]; · iexists _; iexact H16
              isplitl [H17]; · iexists _; iexact H17
              isplitl [H18]; · iexists _; iexact H18
              isplitl [H19]; · iexists _; iexact H19
              isplitl [H20]; · iexists _; iexact H20
              isplitl [H21]; · iexists _; iexact H21
              isplitl [H22]; · iexists _; iexact H22
              isplitl [H23]; · iexists _; iexact H23
              isplitl [H24]; · iexists _; iexact H24
              isplitl [H25]; · iexists _; iexact H25
              iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩⟩
              isplitl [HΦ]; · iexact HΦ
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              isplitl [H16]
              · unfold owns; iexists _; isplitr
                swap; · iexact H16
                ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H17]
              · unfold owns; iexists _; isplitr
                swap; · iexact H17
                ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H18]
              · unfold owns; iexists _; isplitr
                swap; · iexact H18
                ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H19]
              · unfold owns; iexists _; isplitr
                swap; · iexact H19
                ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H20]
              · unfold owns; iexists _; isplitr
                swap; · iexact H20
                ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H21]
              · unfold owns; iexists _; isplitr
                swap; · iexact H21
                ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H22]
              · unfold owns; iexists _; isplitr
                swap; · iexact H22
                ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H23]
              · unfold owns; iexists _; isplitr
                swap; · iexact H23
                ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H24]
              · unfold owns; iexists _; isplitr
                swap; · iexact H24
                ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact H25
              ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · exfalso; omega
      · exfalso; omega
  · by_cases h1 : 1 ≤ t.val
    · by_cases h2 : t.val % 8 = 0
      · exfalso; omega
      · by_cases h3 : 1 ≤ t.val
        · by_cases h4 : t.val % 8 = 0
          · exfalso; omega
          · by_cases h5 : 1 ≤ t.val
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [liveAt0_10 t], after0_10]
              rw [show (dats m 0 c).leavesExact 11 t = owns (c : Thread nD τ) (ms0_11 t) fullShare ((dats m 0 c).after 11 t) from by
      unfold Dat.leavesExact; rw [liveAt0_11 t], after0_11]
              rw [show (dats m 0 c).leavesExact 12 t = owns (c : Thread nD τ) (ms0_12 t) fullShare ((dats m 0 c).after 12 t) from by
      unfold Dat.leavesExact; rw [liveAt0_12 t], after0_12]
              rw [show (dats m 0 c).leavesExact 13 t = owns (c : Thread nD τ) (ms0_13 t) fullShare ((dats m 0 c).after 13 t) from by
      unfold Dat.leavesExact; rw [liveAt0_13 t], after0_13]
              rw [show (dats m 0 c).leavesExact 14 t = owns (c : Thread nD τ) (ms0_14 t) fullShare ((dats m 0 c).after 14 t) from by
      unfold Dat.leavesExact; rw [liveAt0_14 t], after0_14]
              rw [show (dats m 0 c).leavesExact 15 t = owns (c : Thread nD τ) (ms0_15 t) fullShare ((dats m 0 c).after 15 t) from by
      unfold Dat.leavesExact; rw [liveAt0_15 t], after0_15]
              rw [show (dats m 0 c).leavesExact 16 t = owns (c : Thread nD τ) (ms0_16 t) fullShare ((dats m 0 c).after 16 t) from by
      unfold Dat.leavesExact; rw [liveAt0_16 t], after0_16]
              rw [show (dats m 0 c).leavesExact 17 t = owns (c : Thread nD τ) (ms0_17 t) fullShare ((dats m 0 c).after 17 t) from by
      unfold Dat.leavesExact; rw [liveAt0_17 t], after0_17]
              rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_18]
              rw [show (dats m 0 c).leavesExact 19 t = owns (c : Thread nD τ) (ms0_19 t) fullShare ((dats m 0 c).after 19 t) from by
      unfold Dat.leavesExact; rw [liveAt0_19_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_19]
              rw [show (dats m 0 c).leavesExact 20 t = owns (c : Thread nD τ) (ms0_20 t) fullShare ((dats m 0 c).after 20 t) from by
      unfold Dat.leavesExact; rw [liveAt0_20 t], after0_20]
              rw [show (dats m 0 c).leavesExact 21 t = owns (c : Thread nD τ) (ms0_21 t) fullShare ((dats m 0 c).after 21 t) from by
      unfold Dat.leavesExact; rw [liveAt0_21 t], after0_21]
              rw [show (dats m 0 c).leavesExact 22 t = owns (c : Thread nD τ) (ms0_22 t) fullShare ((dats m 0 c).after 22 t) from by
      unfold Dat.leavesExact; rw [liveAt0_22 t], after0_22]
              rw [show (dats m 0 c).leavesExact 23 t = owns (c : Thread nD τ) (ms0_23 t) fullShare ((dats m 0 c).after 23 t) from by
      unfold Dat.leavesExact; rw [liveAt0_23 t], after0_23]
              rw [show (dats m 0 c).leavesExact 24 t = owns (c : Thread nD τ) (ms0_24 t) fullShare ((dats m 0 c).after 24 t) from by
      unfold Dat.leavesExact; rw [liveAt0_24 t], after0_24]
              rw [show (dats m 0 c).leavesExact 25 t = owns (c : Thread nD τ) (ms0_25 t) fullShare ((dats m 0 c).after 25 t) from by
      unfold Dat.leavesExact; rw [liveAt0_25_B t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_25]
              rw [outsAt0_B m c t h0 h1 h2 h3 h4 h5]
              simp only [before0_18_B m c t h0 h1 h2 h3 h4 h5, before0_19_B m c t h0 h1 h2 h3 h4 h5, before0_25_B m c t h0 h1 h2 h3 h4 h5]
              unfold out0_B_16 out0_B_17 out0_B_18 out0_B_19 out0_B_20 out0_B_21 out0_B_22 out0_B_23 out0_B_24 out0_B_25; (try dsimp only)
              iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
              iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _).2.2.2.2.2.2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              isplitl [H16]; · iexists _; iexact H16
              isplitl [H17]; · iexists _; iexact H17
              isplitl [H18]; · iexact H18
              isplitl [H19]; · iexact H19
              isplitl [H20]; · iexists _; iexact H20
              isplitl [H21]; · iexists _; iexact H21
              isplitl [H22]; · iexists _; iexact H22
              isplitl [H23]; · iexists _; iexact H23
              isplitl [H24]; · iexists _; iexact H24
              isplitl [H25]; · iexact H25
              iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩⟩
              isplitl [HΦ]; · iexact HΦ
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              isplitl [H16]
              · unfold owns; iexists _; isplitr
                swap; · iexact H16
                ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H17]
              · unfold owns; iexists _; isplitr
                swap; · iexact H17
                ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H18]
              · unfold owns; iexists _; isplitr
                swap; · iexact H18
                ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H19]
              · unfold owns; iexists _; isplitr
                swap; · iexact H19
                ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H20]
              · unfold owns; iexists _; isplitr
                swap; · iexact H20
                ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H21]
              · unfold owns; iexists _; isplitr
                swap; · iexact H21
                ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H22]
              · unfold owns; iexists _; isplitr
                swap; · iexact H22
                ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H23]
              · unfold owns; iexists _; isplitr
                swap; · iexact H23
                ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H24]
              · unfold owns; iexists _; isplitr
                swap; · iexact H24
                ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact H25
              ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            · exfalso; omega
        · exfalso; omega
    · exfalso; omega

end Cert.MergeIdeal.Gen

end
-- ==== Proof.MergeIdealFrame.lean ====
module

public import proofs.«01_k».proof.Proof.MergeIdealBody
public import Idealize.ShloMosaic.Lib.Claim

@[expose] public section

-- membership in a rectangle of production extents (`View.cover_of_tiled`): the elaborator's structural look
-- recurses once per coordinate of the long axes
set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_MergeIdeal`'s statement (Defs.lean) at any `F` — Proof.lean cites it at `Bits`:
    `theorem Cert.Proof.claim : Cert.Claim := ⟨Cert.MergeIdeal.Gen.facts, fun m ρ _ => Cert.MergeIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.MergeIdeal.Gen

end
-- ==== Proof.MergeSame.lean ====
/- The merge as printed and its idealization have the same text: the frame of the one is the frame of the other. -/
module

public import proofs.«01_k».proof.Defs
public import proofs.«01_k».proof.Proof.Gen.Merge
public import proofs.«01_k».proof.Proof.MergeIdealFrame
public import Idealize.ShloMosaic.Lib.Tactic

@[expose] public section

set_option maxRecDepth 16384
set_option maxHeartbeats 4000000

noncomputable section

namespace Cert.Proof

open Idealize.ShloMosaic Idealize.SL.Sem Idealize.ShloMosaic.Tactic

/-- The idealization's text, run at the machine's words, keeps its arguments and leaves every semaphore at zero. -/
def FrameWords : Prop :=
  ∀ (m : (ℓ : Loc Cert.MergeIdeal.nD Cert.MergeIdeal.τ Cert.MergeIdeal.sig) → Buf (Elt Bits) ℓ) (g : Dev Cert.MergeIdeal.nD → PrngReg), True →
    θ_run (@Cert.MergeIdeal.defs Bits _ Cert.MergeIdeal.Gen.facts) (onTc (τ := Cert.MergeIdeal.τ) (@Cert.MergeIdeal.main Bits _ Cert.MergeIdeal.Gen.facts)) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

/-- The frame's proof holds over any float values. -/
theorem frameWords : FrameWords := fun m ρ _ => Cert.MergeIdeal.Gen.frame (F := Bits) m ρ

/-- The printed text's frame is the same proposition. -/
theorem frame_same : Cert.quiescent_Merge (hMerge := Cert.Merge.Gen.facts) = FrameWords := by sl_kernel_rfl

/-- `Merge` terminates, keeps its arguments and leaves every semaphore at zero. -/
theorem frame_Merge : Cert.quiescent_Merge (hMerge := Cert.Merge.Gen.facts) := frame_same.mpr frameWords

end Cert.Proof
end
-- ==== Proof.MergeIdealBlocks.lean ====
module

public import proofs.«01_k».proof.Proof.MergeIdealFrame
public import Idealize.ShloMosaic.Lib.Pipeline.Value

@[expose] public section

noncomputable section

namespace Cert.MergeIdeal.Value

open Cert.MergeIdeal Cert.MergeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the frame run leaves in each array -/

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v52_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v52_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v52_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v52_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v52_4) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v52_5) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v52_6) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v52_7) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v52_8) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v52_9) = (dats m 0 c).arrAt 25 cfg0.N :=
  (h c).1 25

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- After the frame run, argument `main_arg6` is as launched: input window 9 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

set_option maxHeartbeats 265720 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v52_0) = (dats m 0 c).arrAt 16 cfg0.N
      ∧ r.2.mem ((c : Thread nD τ).loc main_v52_1) = (dats m 0 c).arrAt 17 cfg0.N
      ∧ r.2.mem ((c : Thread nD τ).loc main_v52_2) = (dats m 0 c).arrAt 18 cfg0.N
      ∧ r.2.mem ((c : Thread nD τ).loc main_v52_3) = (dats m 0 c).arrAt 19 cfg0.N
      ∧ r.2.mem ((c : Thread nD τ).loc main_v52_4) = (dats m 0 c).arrAt 20 cfg0.N
      ∧ r.2.mem ((c : Thread nD τ).loc main_v52_5) = (dats m 0 c).arrAt 21 cfg0.N
      ∧ r.2.mem ((c : Thread nD τ).loc main_v52_6) = (dats m 0 c).arrAt 22 cfg0.N
      ∧ r.2.mem ((c : Thread nD τ).loc main_v52_7) = (dats m 0 c).arrAt 23 cfg0.N
      ∧ r.2.mem ((c : Thread nD τ).loc main_v52_8) = (dats m 0 c).arrAt 24 cfg0.N
      ∧ r.2.mem ((c : Thread nD τ).loc main_v52_9) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post16 m r h c,
      post17 m r h c,
      post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.MergeIdeal.Value

end
-- ==== Proof.MergeMath.lean ====
/- The scalar facts behind the gradient of an RMS norm, over the extended reals. -/
module

public import Idealize.ShloMosaic.PureOps.Ideal
public import Mathlib.Data.EReal.Operations
public import Mathlib.Tactic.Positivity
public import Mathlib.Tactic.Ring
public import Mathlib.Tactic.FieldSimp
public import Mathlib.Tactic.NormNum

@[expose] public section

noncomputable section

namespace Cert.MergeMath

open Idealize.ShloMosaic

/-! ## Constants -/

theorem c1024 : Ideal.ofBits .f32 0x44800000#32 = ((1024 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

/-- The norm's `eps` is a positive real. -/
theorem cEps : ∃ e : ℝ, 0 < e ∧ Ideal.ofBits .f32 0x358637BD#32 = (e : EReal) := by
  refine ⟨_, ?_, by simp [Ideal.ofBits, Ideal.ieee, -EReal.coe_mul]; rfl⟩
  norm_num

theorem div1024 (s : EReal) : Ideal.div s (Ideal.ofBits .f32 0x44800000#32) = s * ((1 / 1024 : ℝ) : EReal) := by
  rw [c1024]; exact Ideal.div_coe (by norm_num) s

/-! ## Sums scaled by a nonnegative real -/

theorem sum_mul_real {n : ℕ} (f : Fin n → EReal) (r : ℝ) (hr : 0 ≤ r) :
    ∑ k, f k * (r : EReal) = (∑ k, f k) * (r : EReal) := by
  have h0 : (0 : EReal) ≤ (r : EReal) := by exact_mod_cast hr
  induction n with
  | zero => simp
  | succ n ih =>
    rw [Fin.sum_univ_succ, Fin.sum_univ_succ, ih, EReal.right_distrib_of_nonneg_of_ne_top h0 (EReal.coe_ne_top r)]

/-! ## One row of the norm -/

variable {n : ℕ}

/-- `1 / sqrt (mean of squares + eps)` of one row. -/
def rinv (x : Fin n → EReal) : EReal :=
  Ideal.rsqrt (Ideal.div (∑ k, x k * x k) (Ideal.ofBits .f32 0x44800000#32) + Ideal.ofBits .f32 0x358637BD#32)

/-- The gradient of the norm's input, in the form that divides by the root last. -/
def rmsBwd (x w : Fin n → EReal) (j : Fin n) : EReal :=
  rinv x * (w j - x j * rinv x * Ideal.div (∑ k, w k * (x k * rinv x)) (Ideal.ofBits .f32 0x44800000#32))

/-- The coefficient through which the mean of squares enters the gradient. -/
def rmsCoef (x w : Fin n → EReal) : EReal :=
  Ideal.div ((∑ k, x k * w k) * (Ideal.ofBits .f32 0xBF000000#32 *
    Ideal.div (rinv x) (Ideal.div (∑ k, x k * x k) (Ideal.ofBits .f32 0x44800000#32) + Ideal.ofBits .f32 0x358637BD#32)))
    (Ideal.ofBits .f32 0x44800000#32)

theorem sq_nonneg' (a : EReal) : 0 ≤ a * a := by
  rcases le_total 0 a with h | h
  · exact mul_nonneg h h
  · rw [← neg_mul_neg]; exact mul_nonneg (EReal.neg_nonneg.mpr h) (EReal.neg_nonneg.mpr h)

theorem add_self (a : EReal) : a + a = a * ((2 : ℝ) : EReal) := by
  have h : ((2 : ℝ) : EReal) = 1 + 1 := by norm_cast
  rw [h, EReal.left_distrib_of_nonneg zero_le_one zero_le_one, mul_one]

/-- The two forms of the gradient agree, whatever the row holds. -/
theorem rms_eq (x w : Fin n → EReal) (j : Fin n) :
    rmsBwd x w j = w j * rinv x + x j * rmsCoef x w + rmsCoef x w * x j := by
  obtain ⟨e, he, hE⟩ := cEps
  unfold rmsBwd rmsCoef
  simp only [div1024]
  set S : EReal := ∑ k, x k * x k
  have hS0 : 0 ≤ S := Finset.sum_nonneg fun k _ => sq_nonneg' (x k)
  have hr : rinv x = Ideal.rsqrt (S * ((1 / 1024 : ℝ) : EReal) + Ideal.ofBits .f32 0x358637BD#32) := by
    rw [rinv, div1024]
  rw [hr, hE]
  clear_value S
  induction S using EReal.rec with
  | bot => exact absurd hS0 (not_le.mpr EReal.bot_lt_zero)
  | top =>
    rw [EReal.top_mul_coe_of_pos (by norm_num), EReal.top_add_coe]
    simp [Ideal.div]
  | coe s =>
    have hs : 0 ≤ s := by exact_mod_cast hS0
    have hv : 0 < s * (1 / 1024) + e := by positivity
    rw [← EReal.coe_mul, ← EReal.coe_add, Ideal.rsqrt_coe, if_neg (not_lt.mpr hv.le), if_neg hv.ne']
    set v : ℝ := s * (1 / 1024) + e with hvdef
    set r : ℝ := (Real.sqrt v)⁻¹ with hrdef
    have hr0 : 0 ≤ r := by positivity
    have hR0 : (0 : EReal) ≤ (r : EReal) := by exact_mod_cast hr0
    have hrv : r * (1 / v) = r * r * r := by
      have h1 : Real.sqrt v * Real.sqrt v = v := Real.mul_self_sqrt hv.le
      have h2 : Real.sqrt v ≠ 0 := (Real.sqrt_pos.mpr hv).ne'
      rw [hrdef]; nth_rewrite 2 [← h1]; field_simp
    have hsum : ∑ k, w k * (x k * (r : EReal)) = (∑ k, x k * w k) * (r : EReal) := by
      rw [← sum_mul_real _ r hr0]
      exact Finset.sum_congr rfl fun k _ => by rw [← mul_assoc, mul_comm (w k)]
    rw [hsum, Ideal.div_coe hv.ne', ← EReal.coe_mul, hrv, cNegHalf, ← EReal.coe_mul, add_assoc,
      mul_comm (_ * _) (x j), add_self, sub_eq_add_neg,
      EReal.left_distrib_of_nonneg_of_ne_top hR0 (EReal.coe_ne_top r), mul_comm (w j)]
    congr 1
    set T : EReal := ∑ k, x k * w k
    have hl : (r : EReal) * -(x j * (r : EReal) * (T * (r : EReal) * ((1 / 1024 : ℝ) : EReal)))
        = x j * T * ((-(r * r * r * (1 / 1024)) : ℝ) : EReal) := by
      rw [EReal.coe_neg, EReal.coe_mul, EReal.coe_mul, EReal.coe_mul]
      simp only [mul_neg, neg_mul]
      congr 1
      ac_rfl
    have hrr : x j * (T * ((-(1 / 2) * (r * r * r) : ℝ) : EReal) * ((1 / 1024 : ℝ) : EReal)) * ((2 : ℝ) : EReal)
        = x j * T * ((-(r * r * r * (1 / 1024)) : ℝ) : EReal) := by
      have : (-(r * r * r * (1 / 1024)) : ℝ) = (-(1 / 2) * (r * r * r)) * (1 / 1024) * 2 := by ring
      rw [this, EReal.coe_mul (_ * _) 2, EReal.coe_mul _ (1 / 1024)]
      ac_rfl
    rw [hl, hrr]

/-- The sigmoid. -/
def sigm (x : EReal) : EReal := Ideal.div 1 (1 + Ideal.exp (-x))

end Cert.MergeMath
end
-- ==== Proof.MergeRef.lean ====
/- What the reference computes, read at one element. -/
module

public import proofs.«01_k».proof.Proof.Gen.MergeRefIdeal.Run
public import proofs.«01_k».proof.Proof.MergeMath
public import Idealize.ShloMosaic.Lib.Pointwise
public import Idealize.ShloMosaic.Lib.Tactic.CleanTypes

@[expose] public section

set_option maxRecDepth 16384

noncomputable section

namespace Cert.MergeRefIdeal.Read

open Cert.MergeRefIdeal Cert.MergeRefIdeal.Gen Cert.MergeMath Idealize.ShloMosaic Idealize.ShloMosaic.TcCoe Idealize.SL.Sem

open Cert.MergeRefIdeal.Value

variable (V0 : Valuation τ sig (Elt Ideal))

/-! ## The arguments and the stages, by name -/

abbrev D : FVec Ideal S2048x5632 .f32 := V0 (Proc.devRef .tc main_arg0)
abbrev DY : FVec Ideal S2048x1024 .f32 := V0 (Proc.devRef .tc main_arg1)
abbrev X0 : FVec Ideal S2048x1024 .f32 := V0 (Proc.devRef .tc main_arg2)
abbrev U3 : FVec Ideal S2048x512 .f32 := V0 (Proc.devRef .tc main_arg3)
abbrev ATT : FVec Ideal S2048x512 .f32 := V0 (Proc.devRef .tc main_arg4)
abbrev GC : FVec Ideal S2048x1024 .f32 := V0 (Proc.devRef .tc main_arg5)
abbrev GA : FVec Ideal S2048x1024 .f32 := V0 (Proc.devRef .tc main_arg6)
abbrev WCB : FVec Ideal S512x1024 .f32 := V0 (Proc.devRef .tc main_arg7)
abbrev BCB : FVec Ideal S1024 .f32 := V0 (Proc.devRef .tc main_arg8)
abbrev WAB : FVec Ideal S512x1024 .f32 := V0 (Proc.devRef .tc main_arg9)
abbrev WO : FVec Ideal S1024x1024 .f32 := V0 (Proc.devRef .tc main_arg10)
abbrev G2 : FVec Ideal S1024 .f32 := V0 (Proc.devRef .tc main_arg11)
abbrev G3 : FVec Ideal S1024 .f32 := V0 (Proc.devRef .tc main_arg12)
abbrev WU : FVec Ideal S1024x5632 .f32 := V0 (Proc.devRef .tc main_arg13)
abbrev CO : FVec Ideal S2048x1024 .f32 := res_main_v3 V0
abbrev AO : FVec Ideal S2048x1024 .f32 := res_main_v4 V0
abbrev MX : FVec Ideal S2048x1024 .f32 := res_main_v20 V0
abbrev X2 : FVec Ideal S2048x1024 .f32 := res_main_v37 V0
abbrev DH : FVec Ideal S2048x1024 .f32 := res_main_v55 V0
abbrev DMIX : FVec Ideal S2048x1024 .f32 := res_main_v97 V0
abbrev SGC : FVec Ideal S2048x1024 .f32 := res_main_v103 V0
abbrev SGA : FVec Ideal S2048x1024 .f32 := res_main_v113 V0
abbrev DM : FVec Ideal S2048x1024 .f32 := res_main_v120 V0
abbrev DAO : FVec Ideal S2048x1024 .f32 := res_main_v121 V0
abbrev DCO : FVec Ideal S2048x1024 .f32 := res_main_v124 V0

/-- The ten results, as the reference's run leaves them. -/
def out0 : FVec Ideal S2048x1024 .f32 :=
  addf (addf (addf (V0 (Proc.devRef .tc main_arg1)) (mulf (res_main_v60 V0) (broadcastInDim S2048x1024 ![0, 1] bcast_S2048x1_S2048x1024_0_1 (res_main_v45 V0)))) (mulf (res_main_v37 V0) (res_main_v72 V0))) (mulf (res_main_v72 V0) (res_main_v37 V0))
def out1 : FVec Ideal S2048x1024 .bf16 := truncf .bf16 (DMIX V0) bitsLt_bf16_f32
def out2 : FVec Ideal S1x1024 .f32 :=
  shapeCast S1x1024 (Host.reduceAdd (shapeCast S1x1024 (Host.reduceAdd (mulf (res_main_v50 V0 : FVec Ideal S2048x1024 .f32) (res_main_v55 V0)) (constant S_ .f32 0x00000000#32) reducesTo_S2048x1024_S1024_d0 h_S_) shapeCasts_S1024_S1x1024) (constant S_ .f32 0x00000000#32) reducesTo_S1x1024_S1024_d0 h_S_) shapeCasts_S1024_S1x1024
def out3 : FVec Ideal S1x1024 .f32 :=
  shapeCast S1x1024 (Host.reduceAdd (shapeCast S1x1024 (Host.reduceAdd (mulf (res_main_v33 V0 : FVec Ideal S2048x1024 .f32) (res_main_v77 V0)) (constant S_ .f32 0x00000000#32) reducesTo_S2048x1024_S1024_d0 h_S_) shapeCasts_S1024_S1x1024) (constant S_ .f32 0x00000000#32) reducesTo_S1x1024_S1024_d0 h_S_) shapeCasts_S1024_S1x1024
def out4 : FVec Ideal S2048x1024 .bf16 := truncf .bf16 (DCO V0) bitsLt_bf16_f32
def out5 : FVec Ideal S2048x1024 .bf16 := truncf .bf16 (DAO V0) bitsLt_bf16_f32
def out6 : FVec Ideal S2048x2048 .bf16 :=
  truncf .bf16 (concatenate S2048x2048 1 [⟨S2048x1024, (mulf (mulf (DM V0) (CO V0)) (mulf (SGC V0) (subf (broadcastInDim S2048x1024 ![] bcast_S_S2048x1024 (constant S_ .f32 0x3F800000#32)) (SGC V0))))⟩, ⟨S2048x1024, (mulf (mulf (DM V0) (AO V0)) (mulf (SGA V0) (subf (broadcastInDim S2048x1024 ![] bcast_S_S2048x1024 (constant S_ .f32 0x3F800000#32)) (SGA V0))))⟩] concatenates_S2048x1024_S2048x1024_S2048x2048_d1 : FVec Ideal S2048x2048 .f32) bitsLt_bf16_f32
def out7 : FVec Ideal S2048x512 .f32 :=
  Host.dotGeneral dot_S2048x1024_S512x1024_S2048x512_1_1_0_0_n_n none (DCO V0) (WCB V0)
def out8 : FVec Ideal S2048x512 .bf16 :=
  truncf .bf16 (Host.dotGeneral dot_S2048x1024_S512x1024_S2048x512_1_1_0_0_n_n none (DAO V0) (WAB V0) : FVec Ideal S2048x512 .f32) bitsLt_bf16_f32
def out9 : FVec Ideal S1x1024 .f32 :=
  shapeCast S1x1024 (Host.reduceAdd (shapeCast S1x1024 (Host.reduceAdd (DCO V0) (constant S_ .f32 0x00000000#32) reducesTo_S2048x1024_S1024_d0 h_S_) shapeCasts_S1024_S1x1024) (constant S_ .f32 0x00000000#32) reducesTo_S1x1024_S1024_d0 h_S_) shapeCasts_S1024_S1x1024

/-! ## Each stage at an element -/

/-- The mixed branches' projection, of the arrays it is computed from. -/
def mixOf (u3 att : FVec Ideal S2048x512 .f32) (gc ga : FVec Ideal S2048x1024 .f32) (wcb : FVec Ideal S512x1024 .f32) (bcb : FVec Ideal S1024 .f32) (wab : FVec Ideal S512x1024 .f32) (wo : FVec Ideal S1024x1024 .f32) : FVec Ideal S2048x1024 .f32 :=
  Host.dotGeneral dot_S2048x1024_S1024x1024_S2048x1024_1_0_0_1_n_n none (addf (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf gc)))) (addf (Host.dotGeneral dot_S2048x512_S512x1024_S2048x1024_1_0_0_1_n_n none u3 wcb) (broadcastInDim S2048x1024 ![0, 1] bcast_S1x1024_S2048x1024_0_1 (broadcastInDim S1x1024 ![1] bcast_S1024_S1x1024_1 bcb)))) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf ga)))) (Host.dotGeneral dot_S2048x512_S512x1024_S2048x1024_1_0_0_1_n_n none att wab))) wo

theorem MX_eq : MX V0 = mixOf (U3 V0) (ATT V0) (GC V0) (GA V0) (WCB V0) (BCB V0) (WAB V0) (WO V0) := rfl

/-- The residual sum with the second norm, of the arrays it is computed from. -/
def x2Of (x mix : FVec Ideal S2048x1024 .f32) (g2 : FVec Ideal S1024 .f32) : FVec Ideal S2048x1024 .f32 :=
  addf x (mulf (mulf mix (broadcastInDim S2048x1024 ![0, 1] bcast_S2048x1_S2048x1024_0_1 (Host.rsqrt (addf (Host.divf (broadcastInDim S2048x1 ![0] bcast_S2048_S2048x1_0 (Host.reduceAdd (mulf mix mix) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g2)))

theorem X2_eq : X2 V0 = x2Of (X0 V0) (MX V0) (G2 V0) := rfl

theorem CO_at (i : Fin 2048) (k : Fin 1024) : CO V0 (ix2 i k) = (∑ n : Fin 512, U3 V0 (ix2 i n) * WCB V0 (ix2 n k)) + BCB V0 (ix1 k) := by
  unfold CO res_main_v3
  clean_types
  pointwise

theorem AO_at (i : Fin 2048) (k : Fin 1024) : AO V0 (ix2 i k) = ∑ n : Fin 512, ATT V0 (ix2 i n) * WAB V0 (ix2 n k) := by
  unfold AO res_main_v4
  clean_types
  pointwise

theorem DH_at (i : Fin 2048) (k : Fin 1024) : DH V0 (ix2 i k) = ∑ n : Fin 5632, D V0 (ix2 i n) * WU V0 (ix2 k n) := by
  unfold DH res_main_v55
  clean_types
  pointwise

theorem v44_at (i : Fin 2048) : (res_main_v44 V0 : FVec Ideal S2048x1 .f32) (ix2 i 0)
    = Ideal.div (∑ k : Fin 1024, X2 V0 (ix2 i k) * X2 V0 (ix2 i k)) (Ideal.ofBits .f32 0x44800000#32) + Ideal.ofBits .f32 0x358637BD#32 := by
  unfold res_main_v44
  clean_types
  pointwise

theorem v45_at (i : Fin 2048) : (res_main_v45 V0 : FVec Ideal S2048x1 .f32) (ix2 i 0) = rinv fun k : Fin 1024 => X2 V0 (ix2 i k) := by
  unfold res_main_v45 rinv
  clean_types
  pointwise [v44_at V0]

theorem v60_at (i : Fin 2048) (k : Fin 1024) : (res_main_v60 V0 : FVec Ideal S2048x1024 .f32) (ix2 i k) = DH V0 (ix2 i k) * G3 V0 (ix1 k) := by
  unfold res_main_v60 res_main_v51
  clean_types
  pointwise

theorem v72_at (i : Fin 2048) (k : Fin 1024) : (res_main_v72 V0 : FVec Ideal S2048x1024 .f32) (ix2 i k)
    = rmsCoef (fun k : Fin 1024 => X2 V0 (ix2 i k)) fun k => DH V0 (ix2 i k) * G3 V0 (ix1 k) := by
  unfold res_main_v72 rmsCoef
  clean_types
  pointwise [v60_at V0]
  simp only [Finset.univ_unique, Finset.sum_singleton, Fin.default_eq_zero, Fin.isValue, v44_at V0, v45_at V0]

theorem out0_at (i : Fin 2048) (k : Fin 1024) : out0 V0 (ix2 i k)
    = DY V0 (ix2 i k) + rmsBwd (fun k : Fin 1024 => X2 V0 (ix2 i k)) (fun k => DH V0 (ix2 i k) * G3 V0 (ix1 k)) k := by
  rw [rms_eq]
  unfold out0
  clean_types
  pointwise [v72_at V0, v45_at V0, v60_at V0]
  simp only [add_assoc]

theorem v77_at (i : Fin 2048) (k : Fin 1024) : (res_main_v77 V0 : FVec Ideal S2048x1024 .f32) (ix2 i k) = out0 V0 (ix2 i k) := by
  unfold res_main_v77 out0
  clean_types
  pointwise

theorem v27_at (i : Fin 2048) : (res_main_v27 V0 : FVec Ideal S2048x1 .f32) (ix2 i 0)
    = Ideal.div (∑ k : Fin 1024, MX V0 (ix2 i k) * MX V0 (ix2 i k)) (Ideal.ofBits .f32 0x44800000#32) + Ideal.ofBits .f32 0x358637BD#32 := by
  unfold res_main_v27
  clean_types
  pointwise

theorem v28_at (i : Fin 2048) : (res_main_v28 V0 : FVec Ideal S2048x1 .f32) (ix2 i 0) = rinv fun k : Fin 1024 => MX V0 (ix2 i k) := by
  unfold res_main_v28 rinv
  clean_types
  pointwise [v27_at V0]

theorem v82_at (i : Fin 2048) (k : Fin 1024) : (res_main_v82 V0 : FVec Ideal S2048x1024 .f32) (ix2 i k) = out0 V0 (ix2 i k) * G2 V0 (ix1 k) := by
  unfold res_main_v82 res_main_v34
  clean_types
  pointwise [v77_at V0]

theorem v93_at (i : Fin 2048) (k : Fin 1024) : (res_main_v93 V0 : FVec Ideal S2048x1024 .f32) (ix2 i k)
    = rmsCoef (fun k : Fin 1024 => MX V0 (ix2 i k)) fun k => out0 V0 (ix2 i k) * G2 V0 (ix1 k) := by
  unfold res_main_v93 rmsCoef
  clean_types
  pointwise [v82_at V0]
  simp only [Finset.univ_unique, Finset.sum_singleton, Fin.default_eq_zero, Fin.isValue, v27_at V0, v28_at V0]

theorem DMIX_at (i : Fin 2048) (k : Fin 1024) : DMIX V0 (ix2 i k)
    = rmsBwd (fun k : Fin 1024 => MX V0 (ix2 i k)) (fun k => out0 V0 (ix2 i k) * G2 V0 (ix1 k)) k := by
  rw [rms_eq]
  unfold DMIX res_main_v97
  clean_types
  pointwise [v93_at V0, v28_at V0, v82_at V0]

theorem DM_at (i : Fin 2048) (k : Fin 1024) : DM V0 (ix2 i k) = ∑ n : Fin 1024, DMIX V0 (ix2 i n) * WO V0 (ix2 k n) := by
  unfold DM res_main_v120
  clean_types
  pointwise

theorem SGC_at (i : Fin 2048) (k : Fin 1024) : SGC V0 (ix2 i k) = sigm (GC V0 (ix2 i k)) := by
  unfold SGC res_main_v103 sigm
  clean_types
  pointwise

theorem SGA_at (i : Fin 2048) (k : Fin 1024) : SGA V0 (ix2 i k) = sigm (GA V0 (ix2 i k)) := by
  unfold SGA res_main_v113 sigm
  clean_types
  pointwise

theorem DCO_at (i : Fin 2048) (k : Fin 1024) : DCO V0 (ix2 i k) = DM V0 (ix2 i k) * sigm (GC V0 (ix2 i k)) := by
  unfold DCO res_main_v124
  clean_types
  pointwise [SGC_at V0]
  exact mul_comm _ _

theorem DAO_at (i : Fin 2048) (k : Fin 1024) : DAO V0 (ix2 i k) = DM V0 (ix2 i k) * sigm (GA V0 (ix2 i k)) := by
  unfold DAO res_main_v121
  clean_types
  pointwise [SGA_at V0]
  exact mul_comm _ _

theorem out2_at (k : Fin 1024) : out2 V0 (ix2 0 k)
    = ∑ i : Fin 2048, DH V0 (ix2 i k) * (X2 V0 (ix2 i k) * rinv fun k : Fin 1024 => X2 V0 (ix2 i k)) := by
  unfold out2 res_main_v50
  clean_types
  pointwise [v45_at V0]
  simp only [Finset.univ_unique, Finset.sum_singleton]
  exact Finset.sum_congr rfl fun i _ => mul_comm (G := EReal) _ _

theorem out3_at (k : Fin 1024) : out3 V0 (ix2 0 k)
    = ∑ i : Fin 2048, out0 V0 (ix2 i k) * (MX V0 (ix2 i k) * rinv fun k : Fin 1024 => MX V0 (ix2 i k)) := by
  unfold out3 res_main_v33
  clean_types
  pointwise [v28_at V0, v77_at V0]
  simp only [Finset.univ_unique, Finset.sum_singleton]
  exact Finset.sum_congr rfl fun i _ => mul_comm (G := EReal) _ _

theorem out9_at (k : Fin 1024) : out9 V0 (ix2 0 k) = ∑ i : Fin 2048, DCO V0 (ix2 i k) := by
  unfold out9
  clean_types
  pointwise
  simp only [Finset.univ_unique, Finset.sum_singleton]

theorem out6_at (i : Fin 2048) (k : Fin 2048) : out6 V0 (ix2 i k)
    = if h : (k : ℕ) < 1024 then
        DM V0 (ix2 i ⟨k, h⟩) * CO V0 (ix2 i ⟨k, h⟩) * (sigm (GC V0 (ix2 i ⟨k, h⟩)) * (1 - sigm (GC V0 (ix2 i ⟨k, h⟩))))
      else
        DM V0 (ix2 i ⟨k - 1024, by omega⟩) * AO V0 (ix2 i ⟨k - 1024, by omega⟩)
          * (sigm (GA V0 (ix2 i ⟨k - 1024, by omega⟩)) * (1 - sigm (GA V0 (ix2 i ⟨k - 1024, by omega⟩)))) := by
  unfold out6
  clean_types
  pointwise [SGC_at V0, SGA_at V0]

theorem out7_at (i : Fin 2048) (k : Fin 512) : out7 V0 (ix2 i k) = ∑ n : Fin 1024, DCO V0 (ix2 i n) * WCB V0 (ix2 k n) := by
  unfold out7
  clean_types
  pointwise

theorem out8_at (i : Fin 2048) (k : Fin 512) : out8 V0 (ix2 i k) = ∑ n : Fin 1024, DAO V0 (ix2 i n) * WAB V0 (ix2 k n) := by
  unfold out8
  clean_types
  pointwise

end Cert.MergeRefIdeal.Read
end
-- ==== Proof.MergeEntry.lean ====
/- What the kernel's input arrays hold when its region is entered, at one element, in the reference's words. -/
module

public import proofs.«01_k».proof.Proof.Gen.MergeIdeal.Frame.Runs
public import proofs.«01_k».proof.Proof.MergeRef
public import Idealize.ShloMosaic.Lib.Pipeline.ValueKit
public import Idealize.ShloMosaic.Lib.Claim

@[expose] public section

set_option maxRecDepth 16384

noncomputable section

namespace Cert.MergeIdeal.Value

open Cert.MergeIdeal Cert.MergeIdeal.Gen Cert.MergeMath Idealize.ShloMosaic Idealize.ShloMosaic.TcCoe Idealize.SL.Sem
open Cert.MergeRefIdeal.Read

variable (m : (ℓ : Loc nD τ sig) → Buf (Elt Ideal) ℓ) (c : Dev nD) (V0 : Valuation Cert.MergeRefIdeal.τ Cert.MergeRefIdeal.sig (Elt Ideal))

/-- The two programs are given the same arrays. -/
structure Agree : Prop where
  a0 : (m ((c : Thread nD τ).loc main_arg0) : FVec Ideal S2048x5632 .f32) = D V0
  a1 : (m ((c : Thread nD τ).loc main_arg1) : FVec Ideal S2048x1024 .f32) = DY V0
  a2 : (m ((c : Thread nD τ).loc main_arg2) : FVec Ideal S2048x1024 .f32) = X0 V0
  a3 : (m ((c : Thread nD τ).loc main_arg3) : FVec Ideal S2048x512 .f32) = U3 V0
  a4 : (m ((c : Thread nD τ).loc main_arg4) : FVec Ideal S2048x512 .f32) = ATT V0
  a5 : (m ((c : Thread nD τ).loc main_arg5) : FVec Ideal S2048x1024 .f32) = GC V0
  a6 : (m ((c : Thread nD τ).loc main_arg6) : FVec Ideal S2048x1024 .f32) = GA V0
  a7 : (m ((c : Thread nD τ).loc main_arg7) : FVec Ideal S512x1024 .f32) = WCB V0
  a8 : (m ((c : Thread nD τ).loc main_arg8) : FVec Ideal S1024 .f32) = BCB V0
  a9 : (m ((c : Thread nD τ).loc main_arg9) : FVec Ideal S512x1024 .f32) = WAB V0
  a10 : (m ((c : Thread nD τ).loc main_arg10) : FVec Ideal S1024x1024 .f32) = WO V0
  a11 : (m ((c : Thread nD τ).loc main_arg11) : FVec Ideal S1024 .f32) = G2 V0
  a12 : (m ((c : Thread nD τ).loc main_arg12) : FVec Ideal S1024 .f32) = G3 V0
  a13 : (m ((c : Thread nD τ).loc main_arg13) : FVec Ideal S1024x5632 .f32) = WU V0

variable {m c V0} (h : Agree m c V0)
include h

theorem in0 (i : Fin 2048) (n : Fin 5632) : (V m c main_v35 : FVec Ideal S2048x5632 .bf16) (ix2 i n) = D V0 (ix2 i n) := by
  rw [← h.a0]
  entry_read
  pointwise

theorem in1 (j : Fin 4) (k : Fin 1024) (n : Fin 1408) : (V m c main_v38 : FVec Ideal S4x1024x1408 .bf16) (ix3 j k n) = WU V0 (ix2 k ⟨j * 1408 + n, by omega⟩) := by
  rw [← h.a13]
  entry_read
  pointwise

theorem in3 : (V m c main_v20 : FVec Ideal S2048x1024 .f32) = MX V0 := by
  rw [MX_eq]
  rw [← h.a3, ← h.a4, ← h.a5, ← h.a6, ← h.a7, ← h.a8, ← h.a9, ← h.a10]
  entry_read
  rfl

theorem in2 : (V m c main_v34 : FVec Ideal S2048x1024 .f32) = X2 V0 := by
  rw [X2_eq, MX_eq]
  rw [← h.a2, ← h.a3, ← h.a4, ← h.a5, ← h.a6, ← h.a7, ← h.a8, ← h.a9, ← h.a10, ← h.a11]
  entry_read
  rfl

theorem in5 (k : Fin 1024) : (V m c main_v39 : FVec Ideal S1x1024 .f32) (ix2 0 k) = G3 V0 (ix1 k) := by
  rw [← h.a12]
  entry_read
  pointwise

theorem in6 (k : Fin 1024) : (V m c main_v40 : FVec Ideal S1x1024 .f32) (ix2 0 k) = G2 V0 (ix1 k) := by
  rw [← h.a11]
  entry_read
  pointwise

theorem in7 (k n : Fin 1024) : (V m c main_v41 : FVec Ideal S1024x1024 .bf16) (ix2 k n) = WO V0 (ix2 k n) := by
  rw [← h.a10]
  entry_read
  pointwise

theorem in10 (i : Fin 2048) (n : Fin 512) : (V m c main_v42 : FVec Ideal S2048x512 .bf16) (ix2 i n) = U3 V0 (ix2 i n) := by
  rw [← h.a3]
  entry_read
  pointwise

theorem in11 (i : Fin 2048) (n : Fin 512) : (V m c main_v43 : FVec Ideal S2048x512 .bf16) (ix2 i n) = ATT V0 (ix2 i n) := by
  rw [← h.a4]
  entry_read
  pointwise

theorem in12 (j : Fin 4) (n : Fin 512) (l : Fin 256) : (V m c main_v46 : FVec Ideal S4x512x256 .bf16) (ix3 j n l) = WCB V0 (ix2 n ⟨j * 256 + l, by omega⟩) := by
  rw [← h.a7]
  entry_read
  pointwise

theorem in13 (k : Fin 1024) : (V m c main_v47 : FVec Ideal S1x1024 .f32) (ix2 0 k) = BCB V0 (ix1 k) := by
  rw [← h.a8]
  entry_read
  pointwise

theorem in14 (j : Fin 4) (n : Fin 512) (l : Fin 256) : (V m c main_v50 : FVec Ideal S4x512x256 .bf16) (ix3 j n l) = WAB V0 (ix2 n ⟨j * 256 + l, by omega⟩) := by
  rw [← h.a9]
  entry_read
  pointwise

omit h in
/-- Every window's block index at a grid point: the row tile, or the whole array. -/
theorem idx : ∀ t : Fin cfg0.N, win0_0.index t = ![t.val, 0] ∧ win0_1.index t = ![0, 0, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![0, 0, 0] ∧ win0_13.index t = ![0, 0]
    ∧ win0_14.index t = ![0, 0, 0] ∧ win0_16.index t = ![t.val, 0] ∧ win0_17.index t = ![t.val, 0] ∧ win0_18.index t = ![0, 0] ∧ win0_19.index t = ![0, 0]
    ∧ win0_20.index t = ![t.val, 0] ∧ win0_21.index t = ![t.val, 0] ∧ win0_22.index t = ![t.val, 0] ∧ win0_23.index t = ![t.val, 0] ∧ win0_24.index t = ![t.val, 0]
    ∧ win0_25.index t = ![0, 0] ∧ t.val < 8 :=
  (by decide +kernel : ∀ t : Fin grid0.N, _)

/-- The array's row that a tile's row is. -/
def row (t : Fin cfg0.N) (r : Fin 256) : Fin 2048 := ⟨t.val * 256 + r, by have := lt_of_lt_of_eq t.isLt (show cfg0.N = 8 from N_0); omega⟩

theorem b0 (t : Fin cfg0.N) (r : Fin 256) (n : Fin 5632) : (iblk m c 0 t : FVec Ideal S256x5632 .bf16) (ix2 r n) = D V0 (ix2 (row t r) n) := by
  rw [← in0 h]
  unfold row
  blk_ext [iblk, idx t]

theorem b1 (t : Fin cfg0.N) (j : Fin 4) (k : Fin 1024) (n : Fin 1408) : (iblk m c 1 t : FVec Ideal S4x1024x1408 .bf16) (ix3 j k n) = WU V0 (ix2 k ⟨j * 1408 + n, by omega⟩) := by
  rw [← in1 h]
  blk_ext [iblk, idx t]

theorem b2 (t : Fin cfg0.N) (r : Fin 256) (n : Fin 1024) : (iblk m c 2 t : FVec Ideal S256x1024 .f32) (ix2 r n) = X2 V0 (ix2 (row t r) n) := by
  rw [← in2 h]
  unfold row
  blk_ext [iblk, idx t]

theorem b3 (t : Fin cfg0.N) (r : Fin 256) (n : Fin 1024) : (iblk m c 3 t : FVec Ideal S256x1024 .f32) (ix2 r n) = MX V0 (ix2 (row t r) n) := by
  rw [← in3 h]
  unfold row
  blk_ext [iblk, idx t]

theorem b4 (t : Fin cfg0.N) (r : Fin 256) (n : Fin 1024) : (iblk m c 4 t : FVec Ideal S256x1024 .f32) (ix2 r n) = DY V0 (ix2 (row t r) n) := by
  rw [← h.a1]
  unfold row
  blk_ext [iblk, V, idx t]

theorem b5 (t : Fin cfg0.N) (k : Fin 1024) : (iblk m c 5 t : FVec Ideal S1x1024 .f32) (ix2 0 k) = G3 V0 (ix1 k) := by
  rw [← in5 h]
  blk_ext [iblk, idx t]

theorem b6 (t : Fin cfg0.N) (k : Fin 1024) : (iblk m c 6 t : FVec Ideal S1x1024 .f32) (ix2 0 k) = G2 V0 (ix1 k) := by
  rw [← in6 h]
  blk_ext [iblk, idx t]

theorem b13 (t : Fin cfg0.N) (k : Fin 1024) : (iblk m c 13 t : FVec Ideal S1x1024 .f32) (ix2 0 k) = BCB V0 (ix1 k) := by
  rw [← in13 h]
  blk_ext [iblk, idx t]

theorem b7 (t : Fin cfg0.N) (k n : Fin 1024) : (iblk m c 7 t : FVec Ideal S1024x1024 .bf16) (ix2 k n) = WO V0 (ix2 k n) := by
  rw [← in7 h]
  blk_ext [iblk, idx t]

theorem b8 (t : Fin cfg0.N) (r : Fin 256) (n : Fin 1024) : (iblk m c 8 t : FVec Ideal S256x1024 .f32) (ix2 r n) = GC V0 (ix2 (row t r) n) := by
  rw [← h.a5]
  unfold row
  blk_ext [iblk, V, idx t]

theorem b9 (t : Fin cfg0.N) (r : Fin 256) (n : Fin 1024) : (iblk m c 9 t : FVec Ideal S256x1024 .f32) (ix2 r n) = GA V0 (ix2 (row t r) n) := by
  rw [← h.a6]
  unfold row
  blk_ext [iblk, V, idx t]

theorem b10 (t : Fin cfg0.N) (r : Fin 256) (n : Fin 512) : (iblk m c 10 t : FVec Ideal S256x512 .bf16) (ix2 r n) = U3 V0 (ix2 (row t r) n) := by
  rw [← in10 h]
  unfold row
  blk_ext [iblk, idx t]

theorem b11 (t : Fin cfg0.N) (r : Fin 256) (n : Fin 512) : (iblk m c 11 t : FVec Ideal S256x512 .bf16) (ix2 r n) = ATT V0 (ix2 (row t r) n) := by
  rw [← in11 h]
  unfold row
  blk_ext [iblk, idx t]

theorem b12 (t : Fin cfg0.N) (j : Fin 4) (n : Fin 512) (l : Fin 256) : (iblk m c 12 t : FVec Ideal S4x512x256 .bf16) (ix3 j n l) = WCB V0 (ix2 n ⟨j * 256 + l, by omega⟩) := by
  rw [← in12 h]
  blk_ext [iblk, idx t]

theorem b14 (t : Fin cfg0.N) (j : Fin 4) (n : Fin 512) (l : Fin 256) : (iblk m c 14 t : FVec Ideal S4x512x256 .bf16) (ix3 j n l) = WAB V0 (ix2 n ⟨j * 256 + l, by omega⟩) := by
  rw [← in14 h]
  blk_ext [iblk, idx t]

end Cert.MergeIdeal.Value
end
-- ==== Proof.MergePay.lean ====
/- What the kernel's stages compute on blocks of any contents, read at one element. -/
module

public import proofs.«01_k».proof.Proof.Gen.MergeIdeal.Skeleton
public import proofs.«01_k».proof.Proof.MergeMath
public import Idealize.ShloMosaic.Lib.Pointwise
public import Idealize.ShloMosaic.Lib.Tactic.CleanTypes

@[expose] public section

set_option maxRecDepth 16384

noncomputable section

namespace Cert.MergeIdeal.Pay

open Cert.MergeIdeal Cert.MergeIdeal.Gen Cert.MergeMath Idealize.ShloMosaic Idealize.ShloMosaic.TcCoe Idealize.SL.Sem

/-! ## The backward product with the up projection, shard by shard -/

theorem dh_at (x : FVec Ideal S256x5632 .bf16) (w : FVec Ideal S4x1024x1408 .bf16)
    (a0 a1 a2 a3 : FVec Ideal S256x1408 .bf16) (b0 b1 b2 b3 : FVec Ideal S1x1024x1408 .bf16)
    (r : Fin 256) (k : Fin 1024)
    (ha0 : ∀ n : Fin 1408, a0 (ix2 r n) = x (ix2 r ⟨n, by omega⟩)) (ha1 : ∀ n : Fin 1408, a1 (ix2 r n) = x (ix2 r ⟨1408 + n, by omega⟩))
    (ha2 : ∀ n : Fin 1408, a2 (ix2 r n) = x (ix2 r ⟨2816 + n, by omega⟩)) (ha3 : ∀ n : Fin 1408, a3 (ix2 r n) = x (ix2 r ⟨4224 + n, by omega⟩))
    (hb0 : ∀ n : Fin 1408, b0 (ix3 0 k n) = w (ix3 0 k n)) (hb1 : ∀ n : Fin 1408, b1 (ix3 0 k n) = w (ix3 1 k n))
    (hb2 : ∀ n : Fin 1408, b2 (ix3 0 k n) = w (ix3 2 k n)) (hb3 : ∀ n : Fin 1408, b3 (ix3 0 k n) = w (ix3 3 k n)) :
    (k0_pay1 (F := Ideal) a0 b0 a1 b1 a2 b2 a3 b3) (ix2 r k)
      = ∑ j : Fin 4, ∑ n : Fin 1408, x (ix2 r ⟨j * 1408 + n, by omega⟩) * w (ix3 j k n) := by
  pointwise [k0_pay1]
  rw [Fin.sum_univ_four]
  simp only [ha0, ha1, ha2, ha3, hb0, hb1, hb2, hb3]
  rfl

/-! ## The two norms' gradients -/

section Norm

variable (dh x dy : FVec Ideal S256x1024 .f32) (g : FVec Ideal S1x1024 .f32) (acc : FVec Ideal S1x1024 .f32) (wo : FVec Ideal S1024x1024 .bf16)

theorem rinv3_at (r : Fin 256) : (k0_pay5 (F := Ideal) (k0_pay3 x) k0_pay4) (ix2 r 0) = rinv fun k : Fin 1024 => x (ix2 r k) := by
  unfold rinv
  pointwise [k0_pay5, k0_pay3, k0_pay4, k0_pay2]

theorem n3_at (r : Fin 256) (k : Fin 1024) : (k0_pay6 (F := Ideal) (k0_pay2 x) (k0_pay3 x) k0_pay4) (ix2 r k)
    = x (ix2 r k) * rinv fun k : Fin 1024 => x (ix2 r k) := by
  pointwise [k0_pay6, k0_pay2]
  simp only [rinv3_at]

theorem dx2_at (r : Fin 256) (k : Fin 1024) : (k0_pay7 (F := Ideal) dh (k0_pay2 x) (k0_pay3 x) k0_pay4 dy g) (ix2 r k)
    = dy (ix2 r k) + rmsBwd (fun k : Fin 1024 => x (ix2 r k)) (fun k => dh (ix2 r k) * g (ix2 0 k)) k := by
  unfold rmsBwd
  pointwise [k0_pay7]
  simp only [rinv3_at, n3_at]

theorem dg3_at (k : Fin 1024) : (k0_pay8 (F := Ideal) dh (k0_pay2 x) (k0_pay3 x) k0_pay4) (ix2 0 k)
    = ∑ r : Fin 256, dh (ix2 r k) * (x (ix2 r k) * rinv fun k : Fin 1024 => x (ix2 r k)) := by
  pointwise [k0_pay8]
  simp only [n3_at]

theorem dg3s_at (k : Fin 1024) : (k0_pay9 (F := Ideal) dh (k0_pay2 x) (k0_pay3 x) k0_pay4 acc) (ix2 0 k)
    = acc (ix2 0 k) + (k0_pay8 (F := Ideal) dh (k0_pay2 x) (k0_pay3 x) k0_pay4) (ix2 0 k) := by
  pointwise [k0_pay9]

theorem rinv2_at (r : Fin 256) : (k0_pay13 (F := Ideal) (k0_pay11 x) k0_pay12) (ix2 r 0) = rinv fun k : Fin 1024 => x (ix2 r k) := by
  unfold rinv
  pointwise [k0_pay13, k0_pay11, k0_pay12, k0_pay10]

theorem n2_at (r : Fin 256) (k : Fin 1024) : (k0_pay14 (F := Ideal) (k0_pay10 x) (k0_pay11 x) k0_pay12) (ix2 r k)
    = x (ix2 r k) * rinv fun k : Fin 1024 => x (ix2 r k) := by
  pointwise [k0_pay14, k0_pay10]
  simp only [rinv2_at]

theorem dmix_at (r : Fin 256) (k : Fin 1024) : (k0_pay15 (F := Ideal) dh (k0_pay10 x) (k0_pay11 x) k0_pay12 g) (ix2 r k)
    = rmsBwd (fun k : Fin 1024 => x (ix2 r k)) (fun k => dh (ix2 r k) * g (ix2 0 k)) k := by
  unfold rmsBwd
  pointwise [k0_pay15]
  simp only [rinv2_at, n2_at]

theorem dg2_at (k : Fin 1024) : (k0_pay16 (F := Ideal) dh (k0_pay10 x) (k0_pay11 x) k0_pay12) (ix2 0 k)
    = ∑ r : Fin 256, dh (ix2 r k) * (x (ix2 r k) * rinv fun k : Fin 1024 => x (ix2 r k)) := by
  pointwise [k0_pay16]
  simp only [n2_at]

theorem dg2s_at (k : Fin 1024) : (k0_pay17 (F := Ideal) dh (k0_pay10 x) (k0_pay11 x) k0_pay12 acc) (ix2 0 k)
    = acc (ix2 0 k) + (k0_pay16 (F := Ideal) dh (k0_pay10 x) (k0_pay11 x) k0_pay12) (ix2 0 k) := by
  pointwise [k0_pay17]

theorem dm_at (r : Fin 256) (k : Fin 1024) : (k0_pay18 (F := Ideal) dh (k0_pay10 x) (k0_pay11 x) k0_pay12 g wo) (ix2 r k)
    = ∑ n : Fin 1024, (k0_pay15 (F := Ideal) dh (k0_pay10 x) (k0_pay11 x) k0_pay12 g) (ix2 r n) * wo (ix2 k n) := by
  pointwise [k0_pay18]

end Norm

/-! ## The two branches' products -/

/-- Four pieces of 256 columns side by side, read at column `k`. -/
theorem cat4 (f : Fin 4 → Fin 256 → EReal) (k : Fin 1024) :
    (if h : (k : ℕ) < 256 then f 0 ⟨k, h⟩ else if h : (k : ℕ) - 256 < 256 then f 1 ⟨k - 256, h⟩
      else if h : (k : ℕ) - 256 - 256 < 256 then f 2 ⟨k - 256 - 256, h⟩ else f 3 ⟨k - 256 - 256 - 256, by omega⟩)
      = f ⟨k / 256, by omega⟩ ⟨k % 256, by omega⟩ := by
  have hk := k.isLt
  split_ifs with h0 h1 h2 <;> congr 1 <;> apply Fin.ext <;> simp <;> omega

theorem co_at (x : FVec Ideal S256x512 .bf16) (w : FVec Ideal S4x512x256 .bf16) (b : FVec Ideal S1x1024 .f32)
    (b0 b1 b2 b3 : FVec Ideal S1x512x256 .bf16) (r : Fin 256) (k : Fin 1024)
    (hb0 : ∀ (n : Fin 512) (l : Fin 256), b0 (ix3 0 n l) = w (ix3 0 n l)) (hb1 : ∀ (n : Fin 512) (l : Fin 256), b1 (ix3 0 n l) = w (ix3 1 n l))
    (hb2 : ∀ (n : Fin 512) (l : Fin 256), b2 (ix3 0 n l) = w (ix3 2 n l)) (hb3 : ∀ (n : Fin 512) (l : Fin 256), b3 (ix3 0 n l) = w (ix3 3 n l)) :
    (k0_pay22 (F := Ideal) (k0_pay19 x) (k0_pay21 b0) b1 b2 b3 b) (ix2 r k)
      = (∑ n : Fin 512, x (ix2 r n) * w (ix3 ⟨k / 256, by omega⟩ n ⟨k % 256, by omega⟩)) + b (ix2 0 k) := by
  pointwise [k0_pay22, k0_pay19, k0_pay21]
  simp only [hb0, hb1, hb2, hb3]
  exact congrArg (· + b (ix2 0 k)) (cat4 (fun j l => ∑ n : Fin 512, x (ix2 r n) * w (ix3 j n l)) k)

theorem ao_at (x : FVec Ideal S256x512 .bf16) (w : FVec Ideal S4x512x256 .bf16)
    (b0 b1 b2 b3 : FVec Ideal S1x512x256 .bf16) (r : Fin 256) (k : Fin 1024)
    (hb0 : ∀ (n : Fin 512) (l : Fin 256), b0 (ix3 0 n l) = w (ix3 0 n l)) (hb1 : ∀ (n : Fin 512) (l : Fin 256), b1 (ix3 0 n l) = w (ix3 1 n l))
    (hb2 : ∀ (n : Fin 512) (l : Fin 256), b2 (ix3 0 n l) = w (ix3 2 n l)) (hb3 : ∀ (n : Fin 512) (l : Fin 256), b3 (ix3 0 n l) = w (ix3 3 n l)) :
    (k0_pay23 (F := Ideal) (k0_pay20 x) b0 b1 b2 b3) (ix2 r k)
      = ∑ n : Fin 512, x (ix2 r n) * w (ix3 ⟨k / 256, by omega⟩ n ⟨k % 256, by omega⟩) := by
  pointwise [k0_pay23, k0_pay20]
  simp only [hb0, hb1, hb2, hb3]
  exact cat4 (fun j l => ∑ n : Fin 512, x (ix2 r n) * w (ix3 j n l)) k

/-! ## The gates -/

section Gate

variable (dm o x : FVec Ideal S256x1024 .f32) (acc : FVec Ideal S1x1024 .f32)

theorem sc_at (r : Fin 256) (k : Fin 1024) : (k0_pay24 (F := Ideal) x) (ix2 r k) = sigm (x (ix2 r k)) := by
  unfold sigm
  pointwise [k0_pay24]
  rw [show (0 : EReal) - x (ix2 r k) = -x (ix2 r k) from zero_sub _]

theorem sa_at (r : Fin 256) (k : Fin 1024) : (k0_pay25 (F := Ideal) x) (ix2 r k) = sigm (x (ix2 r k)) := by
  unfold sigm
  pointwise [k0_pay25]
  rw [show (0 : EReal) - x (ix2 r k) = -x (ix2 r k) from zero_sub _]

theorem dco_at (r : Fin 256) (k : Fin 1024) : (k0_pay26 (F := Ideal) dm x) (ix2 r k) = dm (ix2 r k) * sigm (x (ix2 r k)) := by
  pointwise [k0_pay26]
  simp only [sc_at]

theorem dao_at (r : Fin 256) (k : Fin 1024) : (k0_pay27 (F := Ideal) dm x) (ix2 r k) = dm (ix2 r k) * sigm (x (ix2 r k)) := by
  pointwise [k0_pay27]
  simp only [sa_at]

theorem dgc_at (r : Fin 256) (k : Fin 1024) : (k0_pay28 (F := Ideal) dm o x) (ix2 r k)
    = dm (ix2 r k) * o (ix2 r k) * (sigm (x (ix2 r k)) * (1 - sigm (x (ix2 r k)))) := by
  pointwise [k0_pay28]
  simp only [sc_at]

theorem dga_at (r : Fin 256) (k : Fin 1024) : (k0_pay29 (F := Ideal) dm o x) (ix2 r k)
    = dm (ix2 r k) * o (ix2 r k) * (sigm (x (ix2 r k)) * (1 - sigm (x (ix2 r k)))) := by
  pointwise [k0_pay29]
  simp only [sa_at]

theorem dbcb_at (k : Fin 1024) : (k0_pay30 (F := Ideal) dm x) (ix2 0 k) = ∑ r : Fin 256, dm (ix2 r k) * sigm (x (ix2 r k)) := by
  pointwise [k0_pay30]
  simp only [dco_at]

theorem dbcbs_at (k : Fin 1024) : (k0_pay31 (F := Ideal) (k0_pay30 dm x) acc) (ix2 0 k)
    = acc (ix2 0 k) + (k0_pay30 (F := Ideal) dm x) (ix2 0 k) := by
  pointwise [k0_pay31]

theorem dco16_at (r : Fin 256) (k : Fin 1024) : (k0_pay32 (F := Ideal) (k0_pay26 dm x)) (ix2 r k) = dm (ix2 r k) * sigm (x (ix2 r k)) := by
  pointwise [k0_pay32]
  simp only [dco_at]

theorem dao16_at (r : Fin 256) (k : Fin 1024) : (k0_pay33 (F := Ideal) (k0_pay27 dm x)) (ix2 r k) = dm (ix2 r k) * sigm (x (ix2 r k)) := by
  pointwise [k0_pay33]
  simp only [dao_at]

end Gate

/-! ## The branches' input gradients, shard by shard -/

theorem du3_at
    (x : Fin 256 → Fin 1024 → EReal) (w : FVec Ideal S4x512x256 .bf16)
    (a0 a1 a2 a3 : FVec Ideal S256x256 .bf16) (b0 b1 b2 b3 : FVec Ideal S1x512x256 .bf16) (r : Fin 256) (k : Fin 512)
    (ha0 : ∀ n : Fin 256, a0 (ix2 r n) = x r ⟨n, by omega⟩) (ha1 : ∀ n : Fin 256, a1 (ix2 r n) = x r ⟨256 + n, by omega⟩)
    (ha2 : ∀ n : Fin 256, a2 (ix2 r n) = x r ⟨512 + n, by omega⟩) (ha3 : ∀ n : Fin 256, a3 (ix2 r n) = x r ⟨768 + n, by omega⟩)
    (hb0 : ∀ n : Fin 256, b0 (ix3 0 k n) = w (ix3 0 k n)) (hb1 : ∀ n : Fin 256, b1 (ix3 0 k n) = w (ix3 1 k n))
    (hb2 : ∀ n : Fin 256, b2 (ix3 0 k n) = w (ix3 2 k n)) (hb3 : ∀ n : Fin 256, b3 (ix3 0 k n) = w (ix3 3 k n)) :
    (k0_pay36 (F := Ideal) (k0_pay34 a0 b0 a1 b1) a2 b2 a3 b3) (ix2 r k)
      = ∑ j : Fin 4, ∑ n : Fin 256, x r ⟨j * 256 + n, by omega⟩ * w (ix3 j k n) := by
  pointwise [k0_pay36, k0_pay34]
  rw [Fin.sum_univ_four]
  simp only [ha0, ha1, ha2, ha3, hb0, hb1, hb2, hb3]
  rfl

theorem datt_at
    (x : Fin 256 → Fin 1024 → EReal) (w : FVec Ideal S4x512x256 .bf16)
    (a0 a1 a2 a3 : FVec Ideal S256x256 .bf16) (b0 b1 b2 b3 : FVec Ideal S1x512x256 .bf16) (r : Fin 256) (k : Fin 512)
    (ha0 : ∀ n : Fin 256, a0 (ix2 r n) = x r ⟨n, by omega⟩) (ha1 : ∀ n : Fin 256, a1 (ix2 r n) = x r ⟨256 + n, by omega⟩)
    (ha2 : ∀ n : Fin 256, a2 (ix2 r n) = x r ⟨512 + n, by omega⟩) (ha3 : ∀ n : Fin 256, a3 (ix2 r n) = x r ⟨768 + n, by omega⟩)
    (hb0 : ∀ n : Fin 256, b0 (ix3 0 k n) = w (ix3 0 k n)) (hb1 : ∀ n : Fin 256, b1 (ix3 0 k n) = w (ix3 1 k n))
    (hb2 : ∀ n : Fin 256, b2 (ix3 0 k n) = w (ix3 2 k n)) (hb3 : ∀ n : Fin 256, b3 (ix3 0 k n) = w (ix3 3 k n)) :
    (k0_pay37 (F := Ideal) (k0_pay35 a0 b0 a1 b1) a2 b2 a3 b3) (ix2 r k)
      = ∑ j : Fin 4, ∑ n : Fin 256, x r ⟨j * 256 + n, by omega⟩ * w (ix3 j k n) := by
  pointwise [k0_pay37, k0_pay35]
  rw [Fin.sum_univ_four]
  simp only [ha0, ha1, ha2, ha3, hb0, hb1, hb2, hb3]
  rfl

end Cert.MergeIdeal.Pay
end
-- ==== Proof.MergeStage.lean ====
/- The kernel's stages at a grid point, in the reference's words: from blocks that hold the reference's arrays at the point's rows to the stages' values at these rows. -/
module

public import proofs.«01_k».proof.Proof.MergeEntry
public import proofs.«01_k».proof.Proof.MergePay

@[expose] public section

set_option maxRecDepth 16384

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

variable (V0 : Valuation Cert.MergeRefIdeal.τ Cert.MergeRefIdeal.sig (Elt Ideal)) (t : Fin cfg0.N)

variable {V0 t}

theorem s_dh {x : FVec Ideal S256x5632 .bf16} {w : FVec Ideal S4x1024x1408 .bf16}
    {a0 a1 a2 a3 : FVec Ideal S256x1408 .bf16} {b0 b1 b2 b3 : FVec Ideal S1x1024x1408 .bf16}
    (hx : ∀ r n, x (ix2 r n) = D V0 (ix2 (row t r) n)) (hw : ∀ (j : Fin 4) k (n : Fin 1408), w (ix3 j k n) = WU V0 (ix2 k ⟨j * 1408 + n, by omega⟩))
    (ha0 : ∀ r (n : Fin 1408), a0 (ix2 r n) = x (ix2 r ⟨n, by omega⟩)) (ha1 : ∀ r (n : Fin 1408), a1 (ix2 r n) = x (ix2 r ⟨1408 + n, by omega⟩))
    (ha2 : ∀ r (n : Fin 1408), a2 (ix2 r n) = x (ix2 r ⟨2816 + n, by omega⟩)) (ha3 : ∀ r (n : Fin 1408), a3 (ix2 r n) = x (ix2 r ⟨4224 + n, by omega⟩))
    (hb0 : ∀ k (n : Fin 1408), b0 (ix3 0 k n) = w (ix3 0 k n)) (hb1 : ∀ k (n : Fin 1408), b1 (ix3 0 k n) = w (ix3 1 k n))
    (hb2 : ∀ k (n : Fin 1408), b2 (ix3 0 k n) = w (ix3 2 k n)) (hb3 : ∀ k (n : Fin 1408), b3 (ix3 0 k n) = w (ix3 3 k n)) (r : Fin 256) (k : Fin 1024) :
    (k0_pay1 (F := Ideal) a0 b0 a1 b1 a2 b2 a3 b3) (ix2 r k) = DH V0 (ix2 (row t r) k) := by
  rw [dh_at x w a0 a1 a2 a3 b0 b1 b2 b3 r k (ha0 r) (ha1 r) (ha2 r) (ha3 r) (hb0 k) (hb1 k) (hb2 k) (hb3 k), DH_at]
  simp only [hx, hw]
  exact Fin.sum_mul_add_congr (S := 4) (n := 1408) fun j n hl => rfl

theorem s_dx2 {dh x dy : FVec Ideal S256x1024 .f32} {g : FVec Ideal S1x1024 .f32}
    (hdh : ∀ r k, dh (ix2 r k) = DH V0 (ix2 (row t r) k)) (hx : ∀ r k, x (ix2 r k) = X2 V0 (ix2 (row t r) k))
    (hdy : ∀ r k, dy (ix2 r k) = DY V0 (ix2 (row t r) k)) (hg : ∀ k, g (ix2 0 k) = G3 V0 (ix1 k)) (r : Fin 256) (k : Fin 1024) :
    (k0_pay7 (F := Ideal) dh (k0_pay2 x) (k0_pay3 x) k0_pay4 dy g) (ix2 r k) = out0 V0 (ix2 (row t r) k) := by
  rw [dx2_at, out0_at]
  simp only [hdh, hx, hdy, hg]

theorem s_dmix {dx2 mix : FVec Ideal S256x1024 .f32} {g : FVec Ideal S1x1024 .f32}
    (hd : ∀ r k, dx2 (ix2 r k) = out0 V0 (ix2 (row t r) k)) (hm : ∀ r k, mix (ix2 r k) = MX V0 (ix2 (row t r) k))
    (hg : ∀ k, g (ix2 0 k) = G2 V0 (ix1 k)) (r : Fin 256) (k : Fin 1024) :
    (k0_pay15 (F := Ideal) dx2 (k0_pay10 mix) (k0_pay11 mix) k0_pay12 g) (ix2 r k) = DMIX V0 (ix2 (row t r) k) := by
  rw [dmix_at, DMIX_at]
  simp only [hd, hm, hg]

theorem s_dm {dx2 mix : FVec Ideal S256x1024 .f32} {g : FVec Ideal S1x1024 .f32} {wo : FVec Ideal S1024x1024 .bf16}
    (hd : ∀ r k, dx2 (ix2 r k) = out0 V0 (ix2 (row t r) k)) (hm : ∀ r k, mix (ix2 r k) = MX V0 (ix2 (row t r) k))
    (hg : ∀ k, g (ix2 0 k) = G2 V0 (ix1 k)) (hw : ∀ k n, wo (ix2 k n) = WO V0 (ix2 k n)) (r : Fin 256) (k : Fin 1024) :
    (k0_pay18 (F := Ideal) dx2 (k0_pay10 mix) (k0_pay11 mix) k0_pay12 g wo) (ix2 r k) = DM V0 (ix2 (row t r) k) := by
  rw [dm_at, DM_at]
  simp only [s_dmix hd hm hg, hw]

theorem s_co {x : FVec Ideal S256x512 .bf16} {w : FVec Ideal S4x512x256 .bf16} {b : FVec Ideal S1x1024 .f32} {b0 b1 b2 b3 : FVec Ideal S1x512x256 .bf16}
    (hx : ∀ r n, x (ix2 r n) = U3 V0 (ix2 (row t r) n)) (hw : ∀ (j : Fin 4) n (l : Fin 256), w (ix3 j n l) = WCB V0 (ix2 n ⟨j * 256 + l, by omega⟩))
    (hb : ∀ k, b (ix2 0 k) = BCB V0 (ix1 k))
    (hb0 : ∀ n l, b0 (ix3 0 n l) = w (ix3 0 n l)) (hb1 : ∀ n l, b1 (ix3 0 n l) = w (ix3 1 n l))
    (hb2 : ∀ n l, b2 (ix3 0 n l) = w (ix3 2 n l)) (hb3 : ∀ n l, b3 (ix3 0 n l) = w (ix3 3 n l)) (r : Fin 256) (k : Fin 1024) :
    (k0_pay22 (F := Ideal) (k0_pay19 x) (k0_pay21 b0) b1 b2 b3 b) (ix2 r k) = CO V0 (ix2 (row t r) k) := by
  rw [co_at x w b b0 b1 b2 b3 r k hb0 hb1 hb2 hb3, CO_at]
  simp only [hx, hw, hb]
  congr 1
  refine Finset.sum_congr rfl fun n _ => ?_
  congr 3
  exact Fin.ext (Nat.div_add_mod' _ _)

theorem s_ao {x : FVec Ideal S256x512 .bf16} {w : FVec Ideal S4x512x256 .bf16} {b0 b1 b2 b3 : FVec Ideal S1x512x256 .bf16}
    (hx : ∀ r n, x (ix2 r n) = ATT V0 (ix2 (row t r) n)) (hw : ∀ (j : Fin 4) n (l : Fin 256), w (ix3 j n l) = WAB V0 (ix2 n ⟨j * 256 + l, by omega⟩))
    (hb0 : ∀ n l, b0 (ix3 0 n l) = w (ix3 0 n l)) (hb1 : ∀ n l, b1 (ix3 0 n l) = w (ix3 1 n l))
    (hb2 : ∀ n l, b2 (ix3 0 n l) = w (ix3 2 n l)) (hb3 : ∀ n l, b3 (ix3 0 n l) = w (ix3 3 n l)) (r : Fin 256) (k : Fin 1024) :
    (k0_pay23 (F := Ideal) (k0_pay20 x) b0 b1 b2 b3) (ix2 r k) = AO V0 (ix2 (row t r) k) := by
  rw [ao_at x w b0 b1 b2 b3 r k hb0 hb1 hb2 hb3, AO_at]
  simp only [hx, hw]
  refine Finset.sum_congr rfl fun n _ => ?_
  congr 3
  exact Fin.ext (Nat.div_add_mod' _ _)

theorem s_dco {dm g : FVec Ideal S256x1024 .f32} (hd : ∀ r k, dm (ix2 r k) = DM V0 (ix2 (row t r) k)) (hg : ∀ r k, g (ix2 r k) = GC V0 (ix2 (row t r) k))
    (r : Fin 256) (k : Fin 1024) : (k0_pay32 (F := Ideal) (k0_pay26 dm g)) (ix2 r k) = DCO V0 (ix2 (row t r) k) := by
  rw [dco16_at, DCO_at, hd, hg]

theorem s_dao {dm g : FVec Ideal S256x1024 .f32} (hd : ∀ r k, dm (ix2 r k) = DM V0 (ix2 (row t r) k)) (hg : ∀ r k, g (ix2 r k) = GA V0 (ix2 (row t r) k))
    (r : Fin 256) (k : Fin 1024) : (k0_pay33 (F := Ideal) (k0_pay27 dm g)) (ix2 r k) = DAO V0 (ix2 (row t r) k) := by
  rw [dao16_at, DAO_at, hd, hg]

theorem s_dg3 {dh x : FVec Ideal S256x1024 .f32} (hdh : ∀ r k, dh (ix2 r k) = DH V0 (ix2 (row t r) k)) (hx : ∀ r k, x (ix2 r k) = X2 V0 (ix2 (row t r) k))
    (k : Fin 1024) : (k0_pay8 (F := Ideal) dh (k0_pay2 x) (k0_pay3 x) k0_pay4) (ix2 0 k)
      = ∑ r : Fin 256, DH V0 (ix2 (row t r) k) * (X2 V0 (ix2 (row t r) k) * rinv fun k : Fin 1024 => X2 V0 (ix2 (row t r) k)) := by
  rw [dg3_at]
  simp only [hdh, hx]

theorem s_dg2 {dx2 x : FVec Ideal S256x1024 .f32} (hd : ∀ r k, dx2 (ix2 r k) = out0 V0 (ix2 (row t r) k)) (hx : ∀ r k, x (ix2 r k) = MX V0 (ix2 (row t r) k))
    (k : Fin 1024) : (k0_pay16 (F := Ideal) dx2 (k0_pay10 x) (k0_pay11 x) k0_pay12) (ix2 0 k)
      = ∑ r : Fin 256, out0 V0 (ix2 (row t r) k) * (MX V0 (ix2 (row t r) k) * rinv fun k : Fin 1024 => MX V0 (ix2 (row t r) k)) := by
  rw [dg2_at]
  simp only [hd, hx]

theorem s_dbcb {dm g : FVec Ideal S256x1024 .f32} (hd : ∀ r k, dm (ix2 r k) = DM V0 (ix2 (row t r) k)) (hg : ∀ r k, g (ix2 r k) = GC V0 (ix2 (row t r) k))
    (k : Fin 1024) : (k0_pay30 (F := Ideal) dm g) (ix2 0 k) = ∑ r : Fin 256, DCO V0 (ix2 (row t r) k) := by
  rw [dbcb_at]
  simp only [hd, hg, DCO_at]

end Cert.MergeIdeal.Value
end
-- ==== Proof.MergePoint.lean ====
/- The kernel's stages at a grid point, of the blocks it loads: the reference's arrays at the point's rows. -/
module

public import proofs.«01_k».proof.Proof.Gen.MergeIdeal.Skeleton
public import proofs.«01_k».proof.Proof.MergeStage
public import Idealize.ShloMosaic.Lib.Pipeline.ValueKit
public import Idealize.ShloMosaic.Lib.Pipeline.ReadBack

@[expose] public section

set_option maxRecDepth 16384

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

/-! ## Loads of a part of a block -/

section Loads

variable {e : EltTy}

theorem ldx0 (x : Vec Ideal S256x5632 e) (r : Fin 256) (n : Fin 1408) :
    View.ld x (Rect.unit ![0, 0] ![256, 1408] inb_S256x5632_S256x1408_0_0) (ix2 r n) = x (ix2 r ⟨n, by omega⟩) := by
  pointwise

theorem ldw0 (w : Vec Ideal S4x1024x1408 e) (k : Fin 1024) (n : Fin 1408) :
    View.ld w (Rect.unit ![0, 0, 0] ![1, 1024, 1408] inb_S4x1024x1408_S1x1024x1408_0_0_0) (ix3 0 k n) = w (ix3 0 k n) := by
  pointwise

theorem ldb0 (w : Vec Ideal S4x512x256 e) (n : Fin 512) (l : Fin 256) :
    View.ld w (Rect.unit ![0, 0, 0] ![1, 512, 256] inb_S4x512x256_S1x512x256_0_0_0) (ix3 0 n l) = w (ix3 0 n l) := by
  pointwise

theorem ldc0 (x : Vec Ideal S256x1024 e) (r : Fin 256) (n : Fin 256) :
    View.ld x (Rect.unit ![0, 0] ![256, 256] inb_S256x1024_S256x256_0_0) (ix2 r n) = x (ix2 r ⟨n, by omega⟩) := by
  pointwise

theorem ldx1 (x : Vec Ideal S256x5632 e) (r : Fin 256) (n : Fin 1408) :
    View.ld x (Rect.unit ![0, 1408] ![256, 1408] inb_S256x5632_S256x1408_0_1408) (ix2 r n) = x (ix2 r ⟨1408 + n, by omega⟩) := by
  pointwise

theorem ldw1 (w : Vec Ideal S4x1024x1408 e) (k : Fin 1024) (n : Fin 1408) :
    View.ld w (Rect.unit ![1, 0, 0] ![1, 1024, 1408] inb_S4x1024x1408_S1x1024x1408_1_0_0) (ix3 0 k n) = w (ix3 1 k n) := by
  pointwise

theorem ldb1 (w : Vec Ideal S4x512x256 e) (n : Fin 512) (l : Fin 256) :
    View.ld w (Rect.unit ![1, 0, 0] ![1, 512, 256] inb_S4x512x256_S1x512x256_1_0_0) (ix3 0 n l) = w (ix3 1 n l) := by
  pointwise

theorem ldc1 (x : Vec Ideal S256x1024 e) (r : Fin 256) (n : Fin 256) :
    View.ld x (Rect.unit ![0, 256] ![256, 256] inb_S256x1024_S256x256_0_256) (ix2 r n) = x (ix2 r ⟨256 + n, by omega⟩) := by
  pointwise

theorem ldx2 (x : Vec Ideal S256x5632 e) (r : Fin 256) (n : Fin 1408) :
    View.ld x (Rect.unit ![0, 2816] ![256, 1408] inb_S256x5632_S256x1408_0_2816) (ix2 r n) = x (ix2 r ⟨2816 + n, by omega⟩) := by
  pointwise

theorem ldw2 (w : Vec Ideal S4x1024x1408 e) (k : Fin 1024) (n : Fin 1408) :
    View.ld w (Rect.unit ![2, 0, 0] ![1, 1024, 1408] inb_S4x1024x1408_S1x1024x1408_2_0_0) (ix3 0 k n) = w (ix3 2 k n) := by
  pointwise

theorem ldb2 (w : Vec Ideal S4x512x256 e) (n : Fin 512) (l : Fin 256) :
    View.ld w (Rect.unit ![2, 0, 0] ![1, 512, 256] inb_S4x512x256_S1x512x256_2_0_0) (ix3 0 n l) = w (ix3 2 n l) := by
  pointwise

theorem ldc2 (x : Vec Ideal S256x1024 e) (r : Fin 256) (n : Fin 256) :
    View.ld x (Rect.unit ![0, 512] ![256, 256] inb_S256x1024_S256x256_0_512) (ix2 r n) = x (ix2 r ⟨512 + n, by omega⟩) := by
  pointwise

theorem ldx3 (x : Vec Ideal S256x5632 e) (r : Fin 256) (n : Fin 1408) :
    View.ld x (Rect.unit ![0, 4224] ![256, 1408] inb_S256x5632_S256x1408_0_4224) (ix2 r n) = x (ix2 r ⟨4224 + n, by omega⟩) := by
  pointwise

theorem ldw3 (w : Vec Ideal S4x1024x1408 e) (k : Fin 1024) (n : Fin 1408) :
    View.ld w (Rect.unit ![3, 0, 0] ![1, 1024, 1408] inb_S4x1024x1408_S1x1024x1408_3_0_0) (ix3 0 k n) = w (ix3 3 k n) := by
  pointwise

theorem ldb3 (w : Vec Ideal S4x512x256 e) (n : Fin 512) (l : Fin 256) :
    View.ld w (Rect.unit ![3, 0, 0] ![1, 512, 256] inb_S4x512x256_S1x512x256_3_0_0) (ix3 0 n l) = w (ix3 3 n l) := by
  pointwise

theorem ldc3 (x : Vec Ideal S256x1024 e) (r : Fin 256) (n : Fin 256) :
    View.ld x (Rect.unit ![0, 768] ![256, 256] inb_S256x1024_S256x256_0_768) (ix2 r n) = x (ix2 r ⟨768 + n, by omega⟩) := by
  pointwise

end Loads

/-! ## The stages, of a point's blocks -/

variable {m : (ℓ : Loc nD τ sig) → Buf (Elt Ideal) ℓ} {c : Dev nD} {V0 : Valuation Cert.MergeRefIdeal.τ Cert.MergeRefIdeal.sig (Elt Ideal)}
  (h : Agree m c V0)

/-- The cotangent of the normalised input, of the point's blocks. -/
abbrev dhB (m : (ℓ : Loc nD τ sig) → Buf (Elt Ideal) ℓ) (c : Dev nD) (t : Fin cfg0.N) : FVec Ideal S256x1024 .f32 :=
  k0_pay1 (View.ld (iblk m c 0 t) (Rect.unit ![0, 0] ![256, 1408] inb_S256x5632_S256x1408_0_0))
    (View.ld (iblk m c 1 t) (Rect.unit ![0, 0, 0] ![1, 1024, 1408] inb_S4x1024x1408_S1x1024x1408_0_0_0))
    (View.ld (iblk m c 0 t) (Rect.unit ![0, 1408] ![256, 1408] inb_S256x5632_S256x1408_0_1408))
    (View.ld (iblk m c 1 t) (Rect.unit ![1, 0, 0] ![1, 1024, 1408] inb_S4x1024x1408_S1x1024x1408_1_0_0))
    (View.ld (iblk m c 0 t) (Rect.unit ![0, 2816] ![256, 1408] inb_S256x5632_S256x1408_0_2816))
    (View.ld (iblk m c 1 t) (Rect.unit ![2, 0, 0] ![1, 1024, 1408] inb_S4x1024x1408_S1x1024x1408_2_0_0))
    (View.ld (iblk m c 0 t) (Rect.unit ![0, 4224] ![256, 1408] inb_S256x5632_S256x1408_0_4224))
    (View.ld (iblk m c 1 t) (Rect.unit ![3, 0, 0] ![1, 1024, 1408] inb_S4x1024x1408_S1x1024x1408_3_0_0))

abbrev dx2B (m : (ℓ : Loc nD τ sig) → Buf (Elt Ideal) ℓ) (c : Dev nD) (t : Fin cfg0.N) : FVec Ideal S256x1024 .f32 :=
  k0_pay7 (dhB m c t) (k0_pay2 (iblk m c 2 t)) (k0_pay3 (iblk m c 2 t)) k0_pay4 (iblk m c 4 t) (iblk m c 5 t)

abbrev dmB (m : (ℓ : Loc nD τ sig) → Buf (Elt Ideal) ℓ) (c : Dev nD) (t : Fin cfg0.N) : FVec Ideal S256x1024 .f32 :=
  k0_pay18 (dx2B m c t) (k0_pay10 (iblk m c 3 t)) (k0_pay11 (iblk m c 3 t)) k0_pay12 (iblk m c 6 t) (iblk m c 7 t)

include h

theorem k_dh (t : Fin cfg0.N) (r : Fin 256) (k : Fin 1024) : dhB m c t (ix2 r k) = DH V0 (ix2 (row t r) k) :=
  s_dh (x := iblk m c 0 t) (w := iblk m c 1 t) (b0 h t) (b1 h t) (ldx0 _) (ldx1 _) (ldx2 _) (ldx3 _) (ldw0 _) (ldw1 _) (ldw2 _) (ldw3 _) r k

theorem k_dx2 (t : Fin cfg0.N) (r : Fin 256) (k : Fin 1024) : dx2B m c t (ix2 r k) = out0 V0 (ix2 (row t r) k) :=
  s_dx2 (k_dh h t) (b2 h t) (b4 h t) (b5 h t) r k

theorem k_dm (t : Fin cfg0.N) (r : Fin 256) (k : Fin 1024) : dmB m c t (ix2 r k) = DM V0 (ix2 (row t r) k) :=
  s_dm (k_dx2 h t) (b3 h t) (b6 h t) (b7 h t) r k

theorem k_dco (t : Fin cfg0.N) (r : Fin 256) (k : Fin 1024) : (k0_pay32 (F := Ideal) (k0_pay26 (dmB m c t) (iblk m c 8 t))) (ix2 r k) = DCO V0 (ix2 (row t r) k) :=
  s_dco (k_dm h t) (b8 h t) r k

theorem k_dao (t : Fin cfg0.N) (r : Fin 256) (k : Fin 1024) : (k0_pay33 (F := Ideal) (k0_pay27 (dmB m c t) (iblk m c 9 t))) (ix2 r k) = DAO V0 (ix2 (row t r) k) :=
  s_dao (k_dm h t) (b9 h t) r k

theorem k_co (t : Fin cfg0.N) (r : Fin 256) (k : Fin 1024) :
    (k0_pay22 (F := Ideal) (k0_pay19 (iblk m c 10 t)) (k0_pay21 (View.ld (iblk m c 12 t) (Rect.unit ![0, 0, 0] ![1, 512, 256] inb_S4x512x256_S1x512x256_0_0_0)))
      (View.ld (iblk m c 12 t) (Rect.unit ![1, 0, 0] ![1, 512, 256] inb_S4x512x256_S1x512x256_1_0_0))
      (View.ld (iblk m c 12 t) (Rect.unit ![2, 0, 0] ![1, 512, 256] inb_S4x512x256_S1x512x256_2_0_0))
      (View.ld (iblk m c 12 t) (Rect.unit ![3, 0, 0] ![1, 512, 256] inb_S4x512x256_S1x512x256_3_0_0)) (iblk m c 13 t)) (ix2 r k) = CO V0 (ix2 (row t r) k) :=
  s_co (w := iblk m c 12 t) (b10 h t) (b12 h t) (b13 h t) (ldb0 _) (ldb1 _) (ldb2 _) (ldb3 _) r k

theorem k_ao (t : Fin cfg0.N) (r : Fin 256) (k : Fin 1024) :
    (k0_pay23 (F := Ideal) (k0_pay20 (iblk m c 11 t)) (View.ld (iblk m c 14 t) (Rect.unit ![0, 0, 0] ![1, 512, 256] inb_S4x512x256_S1x512x256_0_0_0))
      (View.ld (iblk m c 14 t) (Rect.unit ![1, 0, 0] ![1, 512, 256] inb_S4x512x256_S1x512x256_1_0_0))
      (View.ld (iblk m c 14 t) (Rect.unit ![2, 0, 0] ![1, 512, 256] inb_S4x512x256_S1x512x256_2_0_0))
      (View.ld (iblk m c 14 t) (Rect.unit ![3, 0, 0] ![1, 512, 256] inb_S4x512x256_S1x512x256_3_0_0))) (ix2 r k) = AO V0 (ix2 (row t r) k) :=
  s_ao (w := iblk m c 14 t) (b11 h t) (b14 h t) (ldb0 _) (ldb1 _) (ldb2 _) (ldb3 _) r k

end Cert.MergeIdeal.Value
end
-- ==== Proof.MergeFinal.lean ====
/- The row results of the merge kernel after the last grid point: the cotangents of the residual stream, of the mixed branches and of the two branches. -/
module

public import proofs.«01_k».proof.Proof.MergeIdealBlocks
public import proofs.«01_k».proof.Proof.MergePoint
public import Idealize.ShloMosaic.Lib.Pipeline.ValueKit
public import Idealize.ShloMosaic.Lib.Pipeline.ReadBack

@[expose] public section

set_option maxRecDepth 16384
set_option maxHeartbeats 4000000

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

variable {m : (ℓ : Loc nD τ sig) → Buf (Elt Ideal) ℓ} {c : Dev nD} {V0 : Valuation Cert.MergeRefIdeal.τ Cert.MergeRefIdeal.sig (Elt Ideal)}
  (h : Agree m c V0)
include h

omit h in
theorem emb16 (t : Fin cfg0.N) (r : Fin 256) (k : Fin 1024) : (((cfg0.win 16).blk t).view.emb (ix2 r k) : S2048x1024.Idx) = ix2 (row t r) k := by
  unfold row
  blk_ext [idx t]

theorem final16 : (dats m 0 c).arrAt 16 cfg0.N = out0 V0 := by
  refine (dats m 0 c).arrAt_eq_of_covers 16 _ (by decide +kernel) fun t hf y => ?_
  blk_simp
  rw [after0_16]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (k_dx2 h t _ _).trans (congrArg (out0 V0) (emb16 t _ _)).symm
  · have h1 : 1 ≤ t.val := by omega
    rw [outsAt0_B m c t h0 h1 h0 h1 h0 h1]
    frame_out
    idx_vars y
    exact (k_dx2 h t _ _).trans (congrArg (out0 V0) (emb16 t _ _)).symm

omit h in
theorem emb17 (t : Fin cfg0.N) (r : Fin 256) (k : Fin 1024) : (((cfg0.win 17).blk t).view.emb (ix2 r k) : S2048x1024.Idx) = ix2 (row t r) k := by
  unfold row
  blk_ext [idx t]

theorem final17 : (dats m 0 c).arrAt 17 cfg0.N = out1 V0 := by
  refine (dats m 0 c).arrAt_eq_of_covers 17 _ (by decide +kernel) fun t hf y => ?_
  blk_simp
  rw [after0_17]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (s_dmix (k_dx2 h t) (b3 h t) (b6 h t) _ _).trans (congrArg (out1 V0) (emb17 t _ _)).symm
  · have h1 : 1 ≤ t.val := by omega
    rw [outsAt0_B m c t h0 h1 h0 h1 h0 h1]
    frame_out
    idx_vars y
    exact (s_dmix (k_dx2 h t) (b3 h t) (b6 h t) _ _).trans (congrArg (out1 V0) (emb17 t _ _)).symm

omit h in
theorem emb20 (t : Fin cfg0.N) (r : Fin 256) (k : Fin 1024) : (((cfg0.win 20).blk t).view.emb (ix2 r k) : S2048x1024.Idx) = ix2 (row t r) k := by
  unfold row
  blk_ext [idx t]

theorem final20 : (dats m 0 c).arrAt 20 cfg0.N = out4 V0 := by
  refine (dats m 0 c).arrAt_eq_of_covers 20 _ (by decide +kernel) fun t hf y => ?_
  blk_simp
  rw [after0_20]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (k_dco h t _ _).trans (congrArg (out4 V0) (emb20 t _ _)).symm
  · have h1 : 1 ≤ t.val := by omega
    rw [outsAt0_B m c t h0 h1 h0 h1 h0 h1]
    frame_out
    idx_vars y
    exact (k_dco h t _ _).trans (congrArg (out4 V0) (emb20 t _ _)).symm

omit h in
theorem emb21 (t : Fin cfg0.N) (r : Fin 256) (k : Fin 1024) : (((cfg0.win 21).blk t).view.emb (ix2 r k) : S2048x1024.Idx) = ix2 (row t r) k := by
  unfold row
  blk_ext [idx t]

theorem final21 : (dats m 0 c).arrAt 21 cfg0.N = out5 V0 := by
  refine (dats m 0 c).arrAt_eq_of_covers 21 _ (by decide +kernel) fun t hf y => ?_
  blk_simp
  rw [after0_21]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (k_dao h t _ _).trans (congrArg (out5 V0) (emb21 t _ _)).symm
  · have h1 : 1 ≤ t.val := by omega
    rw [outsAt0_B m c t h0 h1 h0 h1 h0 h1]
    frame_out
    idx_vars y
    exact (k_dao h t _ _).trans (congrArg (out5 V0) (emb21 t _ _)).symm

end Cert.MergeIdeal.Value
end
-- ==== Proof.MergeBranch.lean ====
/- The cotangents of the two branches before their output projections, after the last grid point. -/
module

public import proofs.«01_k».proof.Proof.MergeIdealBlocks
public import proofs.«01_k».proof.Proof.MergePoint
public import Idealize.ShloMosaic.Lib.Pipeline.ValueKit
public import Idealize.ShloMosaic.Lib.Pipeline.ReadBack

@[expose] public section

set_option maxRecDepth 16384
set_option maxHeartbeats 4000000

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

/-- The piece of the block just stored, read back. -/
abbrev cut0 (v : View sig .tc .vmem S256x1024 .bf16) (x : Vec Ideal S256x1024 .bf16) : Vec Ideal S256x256 .bf16 := by
  exact v.readCov [⟨Rect.unit ![0, 0] ![256, 1024] inb_S256x1024_S256x1024_0_0, x⟩] (Rect.unit ![0, 0] ![256, 256] inb_S256x1024_S256x256_0_0).toLoadRect

theorem cut0_ld (v : View sig .tc .vmem S256x1024 .bf16) (x : Vec Ideal S256x1024 .bf16) :
    cut0 v x = View.ld x (Rect.unit ![0, 0] ![256, 256] inb_S256x1024_S256x256_0_0) := by
  unfold cut0
  exact View.readCov_fill v inb_S256x1024_S256x1024_0_0 x [] _ (by decide)

theorem cut0_at (v : View sig .tc .vmem S256x1024 .bf16) (x : Vec Ideal S256x1024 .bf16) (r n : Fin 256) : cut0 v x (ix2 r n) = x (ix2 r ⟨n, by omega⟩) := by
  rw [cut0_ld]
  exact ldc0 x r n

/-- The piece of the block just stored, read back. -/
abbrev cut1 (v : View sig .tc .vmem S256x1024 .bf16) (x : Vec Ideal S256x1024 .bf16) : Vec Ideal S256x256 .bf16 := by
  exact v.readCov [⟨Rect.unit ![0, 0] ![256, 1024] inb_S256x1024_S256x1024_0_0, x⟩] (Rect.unit ![0, 256] ![256, 256] inb_S256x1024_S256x256_0_256).toLoadRect

theorem cut1_ld (v : View sig .tc .vmem S256x1024 .bf16) (x : Vec Ideal S256x1024 .bf16) :
    cut1 v x = View.ld x (Rect.unit ![0, 256] ![256, 256] inb_S256x1024_S256x256_0_256) := by
  unfold cut1
  exact View.readCov_fill v inb_S256x1024_S256x1024_0_0 x [] _ (by decide)

theorem cut1_at (v : View sig .tc .vmem S256x1024 .bf16) (x : Vec Ideal S256x1024 .bf16) (r n : Fin 256) : cut1 v x (ix2 r n) = x (ix2 r ⟨256 + n, by omega⟩) := by
  rw [cut1_ld]
  exact ldc1 x r n

/-- The piece of the block just stored, read back. -/
abbrev cut2 (v : View sig .tc .vmem S256x1024 .bf16) (x : Vec Ideal S256x1024 .bf16) : Vec Ideal S256x256 .bf16 := by
  exact v.readCov [⟨Rect.unit ![0, 0] ![256, 1024] inb_S256x1024_S256x1024_0_0, x⟩] (Rect.unit ![0, 512] ![256, 256] inb_S256x1024_S256x256_0_512).toLoadRect

theorem cut2_ld (v : View sig .tc .vmem S256x1024 .bf16) (x : Vec Ideal S256x1024 .bf16) :
    cut2 v x = View.ld x (Rect.unit ![0, 512] ![256, 256] inb_S256x1024_S256x256_0_512) := by
  unfold cut2
  exact View.readCov_fill v inb_S256x1024_S256x1024_0_0 x [] _ (by decide)

theorem cut2_at (v : View sig .tc .vmem S256x1024 .bf16) (x : Vec Ideal S256x1024 .bf16) (r n : Fin 256) : cut2 v x (ix2 r n) = x (ix2 r ⟨512 + n, by omega⟩) := by
  rw [cut2_ld]
  exact ldc2 x r n

/-- The piece of the block just stored, read back. -/
abbrev cut3 (v : View sig .tc .vmem S256x1024 .bf16) (x : Vec Ideal S256x1024 .bf16) : Vec Ideal S256x256 .bf16 := by
  exact v.readCov [⟨Rect.unit ![0, 0] ![256, 1024] inb_S256x1024_S256x1024_0_0, x⟩] (Rect.unit ![0, 768] ![256, 256] inb_S256x1024_S256x256_0_768).toLoadRect

theorem cut3_ld (v : View sig .tc .vmem S256x1024 .bf16) (x : Vec Ideal S256x1024 .bf16) :
    cut3 v x = View.ld x (Rect.unit ![0, 768] ![256, 256] inb_S256x1024_S256x256_0_768) := by
  unfold cut3
  exact View.readCov_fill v inb_S256x1024_S256x1024_0_0 x [] _ (by decide)

theorem cut3_at (v : View sig .tc .vmem S256x1024 .bf16) (x : Vec Ideal S256x1024 .bf16) (r n : Fin 256) : cut3 v x (ix2 r n) = x (ix2 r ⟨768 + n, by omega⟩) := by
  rw [cut3_ld]
  exact ldc3 x r n

/-- The blocks' rows, read back from the block just stored. -/
theorem cov_du3 {V0 : Valuation Cert.MergeRefIdeal.τ Cert.MergeRefIdeal.sig (Elt Ideal)} {t : Fin cfg0.N} (v : View sig .tc .vmem S256x1024 .bf16)
    {x : Vec Ideal S256x1024 .bf16} {w : Vec Ideal S4x512x256 .bf16}
    (hx : ∀ r k, x (ix2 r k) = DCO V0 (ix2 (row t r) k)) (hw : ∀ (j : Fin 4) n (l : Fin 256), w (ix3 j n l) = WCB V0 (ix2 n ⟨j * 256 + l, by omega⟩))
    (r : Fin 256) (k : Fin 512) : (k0_pay36 (F := Ideal) (k0_pay34 (F := Ideal)
      (cut0 v x) (View.ld w (Rect.unit ![0, 0, 0] ![1, 512, 256] inb_S4x512x256_S1x512x256_0_0_0))
      (cut1 v x) (View.ld w (Rect.unit ![1, 0, 0] ![1, 512, 256] inb_S4x512x256_S1x512x256_1_0_0)))
      (cut2 v x) (View.ld w (Rect.unit ![2, 0, 0] ![1, 512, 256] inb_S4x512x256_S1x512x256_2_0_0))
      (cut3 v x) (View.ld w (Rect.unit ![3, 0, 0] ![1, 512, 256] inb_S4x512x256_S1x512x256_3_0_0))) (ix2 r k) = out7 V0 (ix2 (row t r) k) := by
  rw [du3_at (fun r k => x (ix2 r k)) w _ _ _ _ _ _ _ _ r k (cut0_at v x r) (cut1_at v x r) (cut2_at v x r) (cut3_at v x r) (ldb0 w k) (ldb1 w k) (ldb2 w k) (ldb3 w k), out7_at]
  simp only [hx, hw]
  exact Fin.sum_mul_add_congr (S := 4) (n := 256) fun j n hl => rfl

/-- The blocks' rows, read back from the block just stored. -/
theorem cov_datt {V0 : Valuation Cert.MergeRefIdeal.τ Cert.MergeRefIdeal.sig (Elt Ideal)} {t : Fin cfg0.N} (v : View sig .tc .vmem S256x1024 .bf16)
    {x : Vec Ideal S256x1024 .bf16} {w : Vec Ideal S4x512x256 .bf16}
    (hx : ∀ r k, x (ix2 r k) = DAO V0 (ix2 (row t r) k)) (hw : ∀ (j : Fin 4) n (l : Fin 256), w (ix3 j n l) = WAB V0 (ix2 n ⟨j * 256 + l, by omega⟩))
    (r : Fin 256) (k : Fin 512) : (k0_pay37 (F := Ideal) (k0_pay35 (F := Ideal)
      (cut0 v x) (View.ld w (Rect.unit ![0, 0, 0] ![1, 512, 256] inb_S4x512x256_S1x512x256_0_0_0))
      (cut1 v x) (View.ld w (Rect.unit ![1, 0, 0] ![1, 512, 256] inb_S4x512x256_S1x512x256_1_0_0)))
      (cut2 v x) (View.ld w (Rect.unit ![2, 0, 0] ![1, 512, 256] inb_S4x512x256_S1x512x256_2_0_0))
      (cut3 v x) (View.ld w (Rect.unit ![3, 0, 0] ![1, 512, 256] inb_S4x512x256_S1x512x256_3_0_0))) (ix2 r k) = out8 V0 (ix2 (row t r) k) := by
  rw [datt_at (fun r k => x (ix2 r k)) w _ _ _ _ _ _ _ _ r k (cut0_at v x r) (cut1_at v x r) (cut2_at v x r) (cut3_at v x r) (ldb0 w k) (ldb1 w k) (ldb2 w k) (ldb3 w k), out8_at]
  simp only [hx, hw]
  exact Fin.sum_mul_add_congr (S := 4) (n := 256) fun j n hl => rfl

variable {m : (ℓ : Loc nD τ sig) → Buf (Elt Ideal) ℓ} {c : Dev nD} {V0 : Valuation Cert.MergeRefIdeal.τ Cert.MergeRefIdeal.sig (Elt Ideal)}
  (h : Agree m c V0)
include h

omit h in
theorem emb23 (t : Fin cfg0.N) (r : Fin 256) (k : Fin 512) : (((cfg0.win 23).blk t).view.emb (ix2 r k) : S2048x512.Idx) = ix2 (row t r) k := by
  unfold row
  blk_ext [idx t]

theorem final23 : (dats m 0 c).arrAt 23 cfg0.N = out7 V0 := by
  refine (dats m 0 c).arrAt_eq_of_covers 23 _ (by decide +kernel) fun t hf y => ?_
  blk_simp
  rw [after0_23]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (cov_du3 (ms0_20 t).view (k_dco h t) (b12 h t) _ _).trans (congrArg (out7 V0) (emb23 t _ _)).symm
  · have h1 : 1 ≤ t.val := by omega
    rw [outsAt0_B m c t h0 h1 h0 h1 h0 h1]
    frame_out
    idx_vars y
    exact (cov_du3 (ms0_20 t).view (k_dco h t) (b12 h t) _ _).trans (congrArg (out7 V0) (emb23 t _ _)).symm

omit h in
theorem emb24 (t : Fin cfg0.N) (r : Fin 256) (k : Fin 512) : (((cfg0.win 24).blk t).view.emb (ix2 r k) : S2048x512.Idx) = ix2 (row t r) k := by
  unfold row
  blk_ext [idx t]

theorem final24 : (dats m 0 c).arrAt 24 cfg0.N = out8 V0 := by
  refine (dats m 0 c).arrAt_eq_of_covers 24 _ (by decide +kernel) fun t hf y => ?_
  blk_simp
  rw [after0_24]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    exact (cov_datt (ms0_21 t).view (k_dao h t) (b14 h t) _ _).trans (congrArg (out8 V0) (emb24 t _ _)).symm
  · have h1 : 1 ≤ t.val := by omega
    rw [outsAt0_B m c t h0 h1 h0 h1 h0 h1]
    frame_out
    idx_vars y
    exact (cov_datt (ms0_21 t).view (k_dao h t) (b14 h t) _ _).trans (congrArg (out8 V0) (emb24 t _ _)).symm

end Cert.MergeIdeal.Value
end
-- ==== Proof.MergeGates.lean ====
/- The cotangent of the two gates side by side, after the last grid point. -/
module

public import proofs.«01_k».proof.Proof.MergeIdealBlocks
public import proofs.«01_k».proof.Proof.MergePoint
public import Idealize.ShloMosaic.Lib.Pipeline.ValueKit
public import Idealize.ShloMosaic.Lib.Pipeline.ReadBack

@[expose] public section

set_option maxRecDepth 16384
set_option maxHeartbeats 4000000

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

variable {m : (ℓ : Loc nD τ sig) → Buf (Elt Ideal) ℓ} {c : Dev nD} {V0 : Valuation Cert.MergeRefIdeal.τ Cert.MergeRefIdeal.sig (Elt Ideal)}
  (h : Agree m c V0)
include h

omit h in
theorem emb22 (t : Fin cfg0.N) (r : Fin 256) (k : Fin 2048) : (((cfg0.win 22).blk t).view.emb (ix2 r k) : S2048x2048.Idx) = ix2 (row t r) k := by
  unfold row
  blk_ext [idx t]

theorem k_dgc (t : Fin cfg0.N) (r : Fin 256) (k : Fin 1024) :
    (k0_pay28 (F := Ideal) (dmB m c t) (k0_pay22 (F := Ideal) (k0_pay19 (iblk m c 10 t)) (k0_pay21 (View.ld (iblk m c 12 t) (Rect.unit ![0, 0, 0] ![1, 512, 256] inb_S4x512x256_S1x512x256_0_0_0)))
      (View.ld (iblk m c 12 t) (Rect.unit ![1, 0, 0] ![1, 512, 256] inb_S4x512x256_S1x512x256_1_0_0))
      (View.ld (iblk m c 12 t) (Rect.unit ![2, 0, 0] ![1, 512, 256] inb_S4x512x256_S1x512x256_2_0_0))
      (View.ld (iblk m c 12 t) (Rect.unit ![3, 0, 0] ![1, 512, 256] inb_S4x512x256_S1x512x256_3_0_0)) (iblk m c 13 t)) (iblk m c 8 t)) (ix2 r k)
      = DM V0 (ix2 (row t r) k) * CO V0 (ix2 (row t r) k) * (sigm (GC V0 (ix2 (row t r) k)) * (1 - sigm (GC V0 (ix2 (row t r) k)))) := by
  rw [dgc_at, k_dm h, k_co h, b8 h]

theorem k_dga (t : Fin cfg0.N) (r : Fin 256) (k : Fin 1024) :
    (k0_pay29 (F := Ideal) (dmB m c t) (k0_pay23 (F := Ideal) (k0_pay20 (iblk m c 11 t)) (View.ld (iblk m c 14 t) (Rect.unit ![0, 0, 0] ![1, 512, 256] inb_S4x512x256_S1x512x256_0_0_0))
      (View.ld (iblk m c 14 t) (Rect.unit ![1, 0, 0] ![1, 512, 256] inb_S4x512x256_S1x512x256_1_0_0))
      (View.ld (iblk m c 14 t) (Rect.unit ![2, 0, 0] ![1, 512, 256] inb_S4x512x256_S1x512x256_2_0_0))
      (View.ld (iblk m c 14 t) (Rect.unit ![3, 0, 0] ![1, 512, 256] inb_S4x512x256_S1x512x256_3_0_0))) (iblk m c 9 t)) (ix2 r k)
      = DM V0 (ix2 (row t r) k) * AO V0 (ix2 (row t r) k) * (sigm (GA V0 (ix2 (row t r) k)) * (1 - sigm (GA V0 (ix2 (row t r) k)))) := by
  rw [dga_at, k_dm h, k_ao h, b9 h]

theorem final22 : (dats m 0 c).arrAt 22 cfg0.N = out6 V0 := by
  refine (dats m 0 c).arrAt_eq_of_covers 22 _ (by decide +kernel) fun t hf y => ?_
  blk_simp
  rw [after0_22]
  by_cases h0 : t.val % 8 = 0
  · have h1 : ¬1 ≤ t.val := by have := (idx t).2.2.2.2.2.2.2.2.2.2.2.2.2.2.2.2.2.2.2.2.2.2.2.2.2; omega
    rw [outsAt0_A m c t h0 h1 h0 h1 h0 h1]
    frame_out
    idx_vars y
    refine Eq.trans ?_ (congrArg (out6 V0) (emb22 t y0 y1)).symm
    canon_tiles x hx
    case piece0 =>
      idx_vars x
      change (y0 : ℕ) = (x0 : ℕ) at hx0
      change (y1 : ℕ) = 1024 + (x1 : ℕ) at hx1
      rw [out6_at, dif_neg (by omega)]
      obtain rfl : y0 = x0 := Fin.ext hx0
      have e : (⟨(y1 : ℕ) - 1024, by omega⟩ : Fin 1024) = x1 := Fin.ext (show (y1 : ℕ) - 1024 = x1 by omega)
      rw [e]
      exact k_dga h t y0 x1
    case piece1 =>
      idx_vars x
      change (y0 : ℕ) = (x0 : ℕ) at hx0
      change (y1 : ℕ) = (x1 : ℕ) at hx1
      have hl : (y1 : ℕ) < 1024 := by omega
      rw [out6_at, dif_pos hl]
      obtain rfl : y0 = x0 := Fin.ext hx0
      have e : (⟨(y1 : ℕ), hl⟩ : Fin 1024) = x1 := Fin.ext hx1
      rw [e]
      exact k_dgc h t y0 x1
  · have h1 : 1 ≤ t.val := by omega
    rw [outsAt0_B m c t h0 h1 h0 h1 h0 h1]
    frame_out
    idx_vars y
    refine Eq.trans ?_ (congrArg (out6 V0) (emb22 t y0 y1)).symm
    canon_tiles x hx
    case piece0 =>
      idx_vars x
      change (y0 : ℕ) = (x0 : ℕ) at hx0
      change (y1 : ℕ) = 1024 + (x1 : ℕ) at hx1
      rw [out6_at, dif_neg (by omega)]
      obtain rfl : y0 = x0 := Fin.ext hx0
      have e : (⟨(y1 : ℕ) - 1024, by omega⟩ : Fin 1024) = x1 := Fin.ext (show (y1 : ℕ) - 1024 = x1 by omega)
      rw [e]
      exact k_dga h t y0 x1
    case piece1 =>
      idx_vars x
      change (y0 : ℕ) = (x0 : ℕ) at hx0
      change (y1 : ℕ) = (x1 : ℕ) at hx1
      have hl : (y1 : ℕ) < 1024 := by omega
      rw [out6_at, dif_pos hl]
      obtain rfl : y0 = x0 := Fin.ext hx0
      have e : (⟨(y1 : ℕ), hl⟩ : Fin 1024) = x1 := Fin.ext hx1
      rw [e]
      exact k_dgc h t y0 x1

end Cert.MergeIdeal.Value
end
-- ==== Proof.MergeSums.lean ====
/- The three sums over all rows, after the last grid point: a tile's part is added to the sum of the tiles before it. -/
module

public import proofs.«01_k».proof.Proof.MergeIdealBlocks
public import proofs.«01_k».proof.Proof.MergePoint
public import Idealize.ShloMosaic.Lib.Pipeline.ValueKit
public import Idealize.ShloMosaic.Lib.Pipeline.ReadBack

@[expose] public section

set_option maxRecDepth 16384
set_option maxHeartbeats 4000000

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read

variable {m : (ℓ : Loc nD τ sig) → Buf (Elt Ideal) ℓ} {c : Dev nD} {V0 : Valuation Cert.MergeRefIdeal.τ Cert.MergeRefIdeal.sig (Elt Ideal)}
  (h : Agree m c V0)
include h

/-- A tile's part of the sum over the rows. -/
abbrev part18 (m : (ℓ : Loc nD τ sig) → Buf (Elt Ideal) ℓ) (c : Dev nD) (t : Fin cfg0.N) : FVec Ideal S1x1024 .f32 :=
  k0_pay8 (F := Ideal) (dhB m c t) (k0_pay2 (iblk m c 2 t)) (k0_pay3 (iblk m c 2 t)) k0_pay4

omit h in
theorem reset18 (t : Fin cfg0.N) (h0 : t.val % 8 = 0) (i : S1x1024.Idx) : (outsAt0 m c t.val t.isLt).2.2.1 i = 0 + part18 m c t i := by
  have h1 : ¬1 ≤ t.val := by have := (idx t).2.2.2.2.2.2.2.2.2.2.2.2.2.2.2.2.2.2.2.2.2.2.2.2.2; omega
  rw [outsAt0_A m c t h0 h1 h0 h1 h0 h1, zero_add]
  frame_out
  rfl

omit h in
theorem step18 (t : Fin cfg0.N) (h0 : ¬t.val % 8 = 0) (i : S1x1024.Idx) :
    (outsAt0 m c t.val t.isLt).2.2.1 i = (outsAt0 m c (t.val - 1) (Nat.lt_of_le_of_lt (Nat.sub_le _ _) t.isLt)).2.2.1 i + part18 m c t i := by
  have h1 : 1 ≤ t.val := by omega
  rw [outsAt0_B m c t h0 h1 h0 h1 h0 h1]
  frame_out
  idx_vars i
  obtain rfl : i0 = 0 := Subsingleton.elim _ _
  exact dg3s_at _ _ _ _

theorem final18 : (dats m 0 c).arrAt 18 cfg0.N = out2 V0 := by
  refine (dats m 0 c).arrAt_eq_of_after_last 18 t0_7 (by decide +kernel) _ fun j => ?_
  blk_simp
  rw [after0_18]
  idx_vars j
  obtain rfl : j0 = 0 := Subsingleton.elim _ _
  have hs := Pipeline.eq_sum_fin_of_reset_step_apply_last (fun n h => (outsAt0 m c n h).2.2.1) 8 (fun _ => 0) (fun t j => part18 m c t j)
    reset18 step18 (le_of_eq N_0) t0_7 rfl (ix2 0 j1)
  refine hs.trans ?_
  rw [zero_add, out2_at]
  refine (Finset.sum_congr rfl fun t _ => s_dg3 (k_dh h t) (b2 h t) j1).trans ?_
  exact Fin.sum_mul_add_congr (S := 8) (n := 256) fun s k hl => rfl

/-- A tile's part of the sum over the rows. -/
abbrev part19 (m : (ℓ : Loc nD τ sig) → Buf (Elt Ideal) ℓ) (c : Dev nD) (t : Fin cfg0.N) : FVec Ideal S1x1024 .f32 :=
  k0_pay16 (F := Ideal) (dx2B m c t) (k0_pay10 (iblk m c 3 t)) (k0_pay11 (iblk m c 3 t)) k0_pay12

omit h in
theorem reset19 (t : Fin cfg0.N) (h0 : t.val % 8 = 0) (i : S1x1024.Idx) : (outsAt0 m c t.val t.isLt).2.2.2.1 i = 0 + part19 m c t i := by
  have h1 : ¬1 ≤ t.val := by have := (idx t).2.2.2.2.2.2.2.2.2.2.2.2.2.2.2.2.2.2.2.2.2.2.2.2.2; omega
  rw [outsAt0_A m c t h0 h1 h0 h1 h0 h1, zero_add]
  frame_out
  rfl

omit h in
theorem step19 (t : Fin cfg0.N) (h0 : ¬t.val % 8 = 0) (i : S1x1024.Idx) :
    (outsAt0 m c t.val t.isLt).2.2.2.1 i = (outsAt0 m c (t.val - 1) (Nat.lt_of_le_of_lt (Nat.sub_le _ _) t.isLt)).2.2.2.1 i + part19 m c t i := by
  have h1 : 1 ≤ t.val := by omega
  rw [outsAt0_B m c t h0 h1 h0 h1 h0 h1]
  frame_out
  idx_vars i
  obtain rfl : i0 = 0 := Subsingleton.elim _ _
  exact dg2s_at _ _ _ _

theorem final19 : (dats m 0 c).arrAt 19 cfg0.N = out3 V0 := by
  refine (dats m 0 c).arrAt_eq_of_after_last 19 t0_7 (by decide +kernel) _ fun j => ?_
  blk_simp
  rw [after0_19]
  idx_vars j
  obtain rfl : j0 = 0 := Subsingleton.elim _ _
  have hs := Pipeline.eq_sum_fin_of_reset_step_apply_last (fun n h => (outsAt0 m c n h).2.2.2.1) 8 (fun _ => 0) (fun t j => part19 m c t j)
    reset19 step19 (le_of_eq N_0) t0_7 rfl (ix2 0 j1)
  refine hs.trans ?_
  rw [zero_add, out3_at]
  refine (Finset.sum_congr rfl fun t _ => s_dg2 (k_dx2 h t) (b3 h t) j1).trans ?_
  exact Fin.sum_mul_add_congr (S := 8) (n := 256) fun s k hl => rfl

/-- A tile's part of the sum over the rows. -/
abbrev part25 (m : (ℓ : Loc nD τ sig) → Buf (Elt Ideal) ℓ) (c : Dev nD) (t : Fin cfg0.N) : FVec Ideal S1x1024 .f32 :=
  k0_pay30 (F := Ideal) (dmB m c t) (iblk m c 8 t)

omit h in
theorem reset25 (t : Fin cfg0.N) (h0 : t.val % 8 = 0) (i : S1x1024.Idx) : (outsAt0 m c t.val t.isLt).2.2.2.2.2.2.2.2.2 i = 0 + part25 m c t i := by
  have h1 : ¬1 ≤ t.val := by have := (idx t).2.2.2.2.2.2.2.2.2.2.2.2.2.2.2.2.2.2.2.2.2.2.2.2.2; omega
  rw [outsAt0_A m c t h0 h1 h0 h1 h0 h1, zero_add]
  frame_out
  rfl

omit h in
theorem step25 (t : Fin cfg0.N) (h0 : ¬t.val % 8 = 0) (i : S1x1024.Idx) :
    (outsAt0 m c t.val t.isLt).2.2.2.2.2.2.2.2.2 i = (outsAt0 m c (t.val - 1) (Nat.lt_of_le_of_lt (Nat.sub_le _ _) t.isLt)).2.2.2.2.2.2.2.2.2 i + part25 m c t i := by
  have h1 : 1 ≤ t.val := by omega
  rw [outsAt0_B m c t h0 h1 h0 h1 h0 h1]
  frame_out
  idx_vars i
  obtain rfl : i0 = 0 := Subsingleton.elim _ _
  exact dbcbs_at _ _ _ _

theorem final25 : (dats m 0 c).arrAt 25 cfg0.N = out9 V0 := by
  refine (dats m 0 c).arrAt_eq_of_after_last 25 t0_7 (by decide +kernel) _ fun j => ?_
  blk_simp
  rw [after0_25]
  idx_vars j
  obtain rfl : j0 = 0 := Subsingleton.elim _ _
  have hs := Pipeline.eq_sum_fin_of_reset_step_apply_last (fun n h => (outsAt0 m c n h).2.2.2.2.2.2.2.2.2) 8 (fun _ => 0) (fun t j => part25 m c t j)
    reset25 step25 (le_of_eq N_0) t0_7 rfl (ix2 0 j1)
  refine hs.trans ?_
  rw [zero_add, out9_at]
  refine (Finset.sum_congr rfl fun t _ => s_dbcb (k_dm h t) (b8 h t) j1).trans ?_
  exact Fin.sum_mul_add_congr (S := 8) (n := 256) fun s k hl => rfl

end Cert.MergeIdeal.Value
end
-- ==== Proof.MergeAlg.lean ====
/- The kernel's ten results are the reference's, of equal arguments. -/
module

public import proofs.«01_k».proof.Proof.MergeIdealBlocks
public import proofs.«01_k».proof.Proof.MergeFinal
public import proofs.«01_k».proof.Proof.MergeBranch
public import proofs.«01_k».proof.Proof.MergeGates
public import proofs.«01_k».proof.Proof.MergeSums
public import proofs.«01_k».proof.Proof.Gen.MergeRefIdeal.Run
public import proofs.«01_k».proof.Defs
public import Idealize.ShloMosaic.Lib.Pipeline.ValueKit
public import Idealize.ShloMosaic.Lib.Pipeline.ReadBack

@[expose] public section

set_option maxRecDepth 16384
set_option maxHeartbeats 4000000

noncomputable section

namespace Cert.MergeIdeal.Value

open Cert.MergeIdeal Cert.MergeIdeal.Gen Cert.MergeIdeal.Pay Cert.MergeMath Idealize.ShloMosaic Idealize.ShloMosaic.TcCoe Idealize.SL.Sem
open Cert.MergeRefIdeal.Read
open Idealize.ShloMosaic.StableHlo (launchContents)

/-- Equal arguments give the agreement the entry facts ask for. -/
theorem agree_of {m : (ℓ : Loc nD τ sig) → Buf (Elt Ideal) ℓ} {m' : (ℓ : Loc Cert.MergeRefIdeal.nD Cert.MergeRefIdeal.τ Cert.MergeRefIdeal.sig) → Buf (Elt Ideal) ℓ} {c : Dev nD}
    (a0 : m' ((c : Thread Cert.MergeRefIdeal.nD Cert.MergeRefIdeal.τ).loc Cert.MergeRefIdeal.main_arg0) = m ((c : Thread nD τ).loc main_arg0))
    (a1 : m' ((c : Thread Cert.MergeRefIdeal.nD Cert.MergeRefIdeal.τ).loc Cert.MergeRefIdeal.main_arg1) = m ((c : Thread nD τ).loc main_arg1))
    (a2 : m' ((c : Thread Cert.MergeRefIdeal.nD Cert.MergeRefIdeal.τ).loc Cert.MergeRefIdeal.main_arg2) = m ((c : Thread nD τ).loc main_arg2))
    (a3 : m' ((c : Thread Cert.MergeRefIdeal.nD Cert.MergeRefIdeal.τ).loc Cert.MergeRefIdeal.main_arg3) = m ((c : Thread nD τ).loc main_arg3))
    (a4 : m' ((c : Thread Cert.MergeRefIdeal.nD Cert.MergeRefIdeal.τ).loc Cert.MergeRefIdeal.main_arg4) = m ((c : Thread nD τ).loc main_arg4))
    (a5 : m' ((c : Thread Cert.MergeRefIdeal.nD Cert.MergeRefIdeal.τ).loc Cert.MergeRefIdeal.main_arg5) = m ((c : Thread nD τ).loc main_arg5))
    (a6 : m' ((c : Thread Cert.MergeRefIdeal.nD Cert.MergeRefIdeal.τ).loc Cert.MergeRefIdeal.main_arg6) = m ((c : Thread nD τ).loc main_arg6))
    (a7 : m' ((c : Thread Cert.MergeRefIdeal.nD Cert.MergeRefIdeal.τ).loc Cert.MergeRefIdeal.main_arg7) = m ((c : Thread nD τ).loc main_arg7))
    (a8 : m' ((c : Thread Cert.MergeRefIdeal.nD Cert.MergeRefIdeal.τ).loc Cert.MergeRefIdeal.main_arg8) = m ((c : Thread nD τ).loc main_arg8))
    (a9 : m' ((c : Thread Cert.MergeRefIdeal.nD Cert.MergeRefIdeal.τ).loc Cert.MergeRefIdeal.main_arg9) = m ((c : Thread nD τ).loc main_arg9))
    (a10 : m' ((c : Thread Cert.MergeRefIdeal.nD Cert.MergeRefIdeal.τ).loc Cert.MergeRefIdeal.main_arg10) = m ((c : Thread nD τ).loc main_arg10))
    (a11 : m' ((c : Thread Cert.MergeRefIdeal.nD Cert.MergeRefIdeal.τ).loc Cert.MergeRefIdeal.main_arg11) = m ((c : Thread nD τ).loc main_arg11))
    (a12 : m' ((c : Thread Cert.MergeRefIdeal.nD Cert.MergeRefIdeal.τ).loc Cert.MergeRefIdeal.main_arg12) = m ((c : Thread nD τ).loc main_arg12))
    (a13 : m' ((c : Thread Cert.MergeRefIdeal.nD Cert.MergeRefIdeal.τ).loc Cert.MergeRefIdeal.main_arg13) = m ((c : Thread nD τ).loc main_arg13)) :
    Agree m c (launchContents m' c) :=
  ⟨a0.symm, a1.symm, a2.symm, a3.symm, a4.symm, a5.symm, a6.symm, a7.symm, a8.symm, a9.symm, a10.symm, a11.symm, a12.symm, a13.symm⟩

/-- The two programs end with equal results. -/
theorem algebraic : Cert.algebraic_MergeIdeal_MergeRefIdeal (hMergeIdeal := Cert.MergeIdeal.Gen.facts) (hMergeRefIdeal := Cert.MergeRefIdeal.Gen.facts) := by
  intro m g m' g' hpre hag
  have ha : ∀ c : Dev nD, Agree m c (launchContents m' c) := by
    intro c
    obtain ⟨a0, a1, a2, a3, a4, a5, a6, a7, a8, a9, a10, a11, a12, a13⟩ := hag c
    exact agree_of a0 a1 a2 a3 a4 a5 a6 a7 a8 a9 a10 a11 a12 a13
  refine ⟨fun c => out0 (launchContents m' c), fun c => out1 (launchContents m' c), fun c => out2 (launchContents m' c), fun c => out3 (launchContents m' c), fun c => out4 (launchContents m' c), fun c => out5 (launchContents m' c), fun c => out6 (launchContents m' c), fun c => out7 (launchContents m' c), fun c => out8 (launchContents m' c), fun c => out9 (launchContents m' c), ?_, ?_⟩
  · exact (θ_run _ _ _).mono (fun r h c => ⟨(h c).1.trans (final16 (ha c)), (h c).2.1.trans (final17 (ha c)), (h c).2.2.1.trans (final18 (ha c)), (h c).2.2.2.1.trans (final19 (ha c)), (h c).2.2.2.2.1.trans (final20 (ha c)), (h c).2.2.2.2.2.1.trans (final21 (ha c)), (h c).2.2.2.2.2.2.1.trans (final22 (ha c)), (h c).2.2.2.2.2.2.2.1.trans (final23 (ha c)), (h c).2.2.2.2.2.2.2.2.1.trans (final24 (ha c)), (h c).2.2.2.2.2.2.2.2.2.1.trans (final25 (ha c)), (h c).2.2.2.2.2.2.2.2.2.2⟩) (run_blocks m g)
  · exact (θ_run _ _ _).mono (fun r h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Cert.MergeRefIdeal.Value.run m' g')

end Cert.MergeIdeal.Value
end
-- ==== Proof.ProjRead.lean ====
/- What the reference of the input projection's gradient computes, read at one element. -/
module

public import proofs.«01_k».proof.Proof.Gen.ProjRefIdeal.Run
public import proofs.«01_k».proof.Proof.MergeMath
public import Idealize.ShloMosaic.Lib.Pointwise
public import Idealize.ShloMosaic.Lib.Tactic.CleanTypes

@[expose] public section

set_option maxRecDepth 16384

noncomputable section

namespace Cert.ProjRefIdeal.Read

open Cert.ProjRefIdeal Cert.ProjRefIdeal.Gen Cert.MergeMath Idealize.ShloMosaic Idealize.ShloMosaic.TcCoe Idealize.SL.Sem

variable (A0 : FVec Ideal S2048x1024 .f32) (A1 : FVec Ideal S2048x1536 .f32) (A2 : FVec Ideal S2048x2048 .f32) (DX2 X : FVec Ideal S2048x1024 .f32) (G : FVec Ideal S1024 .f32) (W : FVec Ideal S1024x4608 .f32)

/-! ## The stages, by name -/

def dproj : FVec Ideal S2048x4608 .f32 :=
  concatenate S2048x4608 1 [⟨S2048x1024, (A0 : (⟨S2048x1024, .f32⟩ : BufTy).Contents (Elt Ideal))⟩, ⟨S2048x1536, (A1 : (⟨S2048x1536, .f32⟩ : BufTy).Contents (Elt Ideal))⟩, ⟨S2048x2048, (A2 : (⟨S2048x2048, .f32⟩ : BufTy).Contents (Elt Ideal))⟩] concatenates_S2048x1024_S2048x1536_S2048x2048_S2048x4608_d1

def dh : FVec Ideal S2048x1024 .f32 :=
  Host.dotGeneral dot_S2048x4608_S1024x4608_S2048x1024_1_1_0_0_n_n none (dproj A0 A1 A2) W

def ms : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def cot (H : FVec Ideal S2048x1024 .f32) : FVec Ideal S2048x1024 .f32 :=
  mulf H (broadcastInDim S2048x1024 ![0, 1] bcast_S1x1024_S2048x1024_0_1 (broadcastInDim S1x1024 ![1] bcast_S1024_S1x1024_1 G))

def coef (H : FVec Ideal S2048x1024 .f32) : FVec Ideal S2048x1024 .f32 :=
  broadcastInDim S2048x1024 ![0] bcast_S2048_S2048x1024_0 (Host.reduceAdd (Host.divf (mulf (shapeCast S2048x1 (Host.reduceAdd (mulf X (cot G H)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (ms X)) (ms X)))) (broadcastInDim S2048x1 ![] bcast_S_S2048x1 (constant S_ .f32 0x44800000#32))) (constant S_ .f32 0x00000000#32) reducesTo_S2048x1_S2048_d1 h_S_)

def dxOf (H : FVec Ideal S2048x1024 .f32) : FVec Ideal S2048x1024 .f32 :=
  addf (addf (addf DX2 (mulf (cot G H) (broadcastInDim S2048x1024 ![0, 1] bcast_S2048x1_S2048x1024_0_1 (Host.rsqrt (ms X))))) (mulf X (coef X G H))) (mulf (coef X G H) X)

def dgOf (H : FVec Ideal S2048x1024 .f32) : FVec Ideal S1x1024 .f32 :=
  shapeCast S1x1024 (Host.reduceAdd (shapeCast S1x1024 (Host.reduceAdd (mulf (mulf X (broadcastInDim S2048x1024 ![0, 1] bcast_S2048x1_S2048x1024_0_1 (Host.rsqrt (ms X)))) H) (constant S_ .f32 0x00000000#32) reducesTo_S2048x1024_S1024_d0 h_S_) shapeCasts_S1024_S1x1024) (constant S_ .f32 0x00000000#32) reducesTo_S1x1024_S1024_d0 h_S_) shapeCasts_S1024_S1x1024

/-! ## Each stage at an element -/

/-- The three cotangents side by side. -/
def cat (i : Fin 2048) (n : Fin 4608) : EReal :=
  if h0 : (n : ℕ) < 1024 then A0 (ix2 i ⟨n, h0⟩) else if h1 : (n : ℕ) - 1024 < 1536 then A1 (ix2 i ⟨n - 1024, h1⟩) else A2 (ix2 i ⟨n - 1024 - 1536, by omega⟩)

theorem dproj_at (i : Fin 2048) (n : Fin 4608) : dproj A0 A1 A2 (ix2 i n) = cat A0 A1 A2 i n := by
  unfold cat
  pointwise [dproj]

theorem dh_at (i : Fin 2048) (k : Fin 1024) : dh A0 A1 A2 W (ix2 i k) = ∑ n : Fin 4608, cat A0 A1 A2 i n * W (ix2 k n) := by
  pointwise [dh]
  simp only [dproj_at]

theorem ms_at (i : Fin 2048) : ms X (ix2 i 0)
    = Ideal.div (∑ k : Fin 1024, X (ix2 i k) * X (ix2 i k)) (Ideal.ofBits .f32 0x44800000#32) + Ideal.ofBits .f32 0x358637BD#32 := by
  pointwise [ms]

theorem rs_at (i : Fin 2048) : (Host.rsqrt (ms X) : FVec Ideal S2048x1 .f32) (ix2 i 0) = rinv fun k : Fin 1024 => X (ix2 i k) := by
  unfold rinv
  pointwise [ms_at X]

variable (H : FVec Ideal S2048x1024 .f32)

theorem cot_at (i : Fin 2048) (k : Fin 1024) : cot G H (ix2 i k) = H (ix2 i k) * G (ix1 k) := by
  pointwise [cot]

theorem coef_at (i : Fin 2048) (k : Fin 1024) : coef X G H (ix2 i k)
    = rmsCoef (fun k : Fin 1024 => X (ix2 i k)) fun k => H (ix2 i k) * G (ix1 k) := by
  unfold coef rmsCoef
  pointwise [cot_at G H]
  simp only [Finset.univ_unique, Finset.sum_singleton, Fin.default_eq_zero, Fin.isValue, ms_at X, rs_at X]
  unfold rinv
  rfl

theorem dxOf_at (i : Fin 2048) (k : Fin 1024) : dxOf DX2 X G H (ix2 i k)
    = DX2 (ix2 i k) + rmsBwd (fun k : Fin 1024 => X (ix2 i k)) (fun k => H (ix2 i k) * G (ix1 k)) k := by
  rw [rms_eq]
  unfold dxOf
  pointwise [coef_at X G H, cot_at G H]
  simp only [ms_at X, rinv, add_assoc]

theorem dgOf_at (k : Fin 1024) : dgOf X H (ix2 0 k)
    = ∑ i : Fin 2048, H (ix2 i k) * (X (ix2 i k) * rinv fun k : Fin 1024 => X (ix2 i k)) := by
  unfold dgOf
  pointwise
  simp only [Finset.univ_unique, Finset.sum_singleton, ms_at X]
  exact Finset.sum_congr rfl fun i _ => mul_comm (G := EReal) _ _

end Cert.ProjRefIdeal.Read
end
-- ==== Proof.ProjValue.lean ====
/- The gradient of the input projection: the kernel's tiles are the tiles of the reference's arrays. -/
module

public import proofs.«01_k».proof.Proof.Gen.ProjIdeal.Value
public import proofs.«01_k».proof.Proof.ProjRead
public import Idealize.ShloMosaic.Lib.Pipeline.ValueKit
public import Idealize.ShloMosaic.Lib.Pipeline.ReadBack
public import proofs.«01_k».proof.Defs

@[expose] public section

set_option maxRecDepth 16384

noncomputable section

namespace Cert.ProjIdeal.Value

open Cert.ProjIdeal Cert.ProjIdeal.Gen Cert.MergeMath Idealize.ShloMosaic Idealize.ShloMosaic.TcCoe Idealize.SL.Sem
open Cert.ProjRefIdeal.Read

section Pay

variable (dh x dx2 : FVec Ideal S256x1024 .f32) (g acc : FVec Ideal S1x1024 .f32) (v : FVec Ideal S256x1152 .bf16) (w : FVec Ideal S1x1024x1152 .bf16)

theorem rinv_at (r : Fin 256) : (k0_pay4 (F := Ideal) x) (ix2 r 0) = rinv fun k : Fin 1024 => x (ix2 r k) := by
  unfold rinv
  pointwise [k0_pay4]

theorem n_at (r : Fin 256) (k : Fin 1024) : (k0_pay5 (F := Ideal) x) (ix2 r k) = x (ix2 r k) * rinv fun k : Fin 1024 => x (ix2 r k) := by
  pointwise [k0_pay5]
  simp only [rinv_at]

theorem dx_at (r : Fin 256) (k : Fin 1024) : (k0_pay6 (F := Ideal) dh v w x dx2 g) (ix2 r k)
    = dx2 (ix2 r k) + rmsBwd (fun k : Fin 1024 => x (ix2 r k)) (fun k => (k0_pay3 (F := Ideal) dh v w) (ix2 r k) * g (ix2 0 k)) k := by
  unfold rmsBwd
  pointwise [k0_pay6]
  simp only [rinv_at, n_at]

theorem dg_at (k : Fin 1024) : (k0_pay7 (F := Ideal) dh v w x) (ix2 0 k)
    = ∑ r : Fin 256, (k0_pay3 (F := Ideal) dh v w) (ix2 r k) * (x (ix2 r k) * rinv fun k : Fin 1024 => x (ix2 r k)) := by
  pointwise [k0_pay7]
  simp only [n_at]

theorem dgs_at (p : FVec Ideal S1x1024 .f32) (k : Fin 1024) : (k0_pay1 (F := Ideal) p acc) (ix2 0 k) = acc (ix2 0 k) + p (ix2 0 k) := by
  pointwise [k0_pay1]

theorem sum_split {a b c : ℕ} (h : a + b = c) (f : Fin c → EReal) :
    ∑ n, f n = (∑ n : Fin a, f ⟨n, by omega⟩) + ∑ n : Fin b, f ⟨a + n, by omega⟩ := by
  subst h; exact Fin.sum_univ_add f

/-- The six segments of a row of the cotangents against the shards of the weight, in the order of their columns. -/
theorem seg (f : Fin 4608 → EReal) : ∑ n, f n
    = (((((∑ n : Fin 1024, f ⟨n, by omega⟩) + ∑ n : Fin 128, f ⟨1024 + n, by omega⟩) + ∑ n : Fin 1152, f ⟨1152 + n, by omega⟩)
      + ∑ n : Fin 256, f ⟨2304 + n, by omega⟩) + ∑ n : Fin 896, f ⟨2560 + n, by omega⟩) + ∑ n : Fin 1152, f ⟨3456 + n, by omega⟩ := by
  rw [sum_split (show 3456 + 1152 = 4608 from rfl), sum_split (show 2560 + 896 = 3456 from rfl), sum_split (show 2304 + 256 = 2560 from rfl),
    sum_split (show 1152 + 1152 = 2304 from rfl), sum_split (show 1024 + 128 = 1152 from rfl)]

theorem pay_at (p0 : FVec Ideal S256x1024 .bf16) (w0 : FVec Ideal S1x1024x1024 .bf16) (p1 : FVec Ideal S256x128 .bf16) (w1 : FVec Ideal S1x1024x128 .bf16)
    (p2 : FVec Ideal S256x1152 .bf16) (w2 : FVec Ideal S1x1024x1152 .bf16) (p3 : FVec Ideal S256x256 .bf16) (w3 : FVec Ideal S1x1024x256 .bf16)
    (p4 : FVec Ideal S256x896 .bf16) (w4 : FVec Ideal S1x1024x896 .bf16) (r : Fin 256) (k : Fin 1024) :
    (k0_pay3 (F := Ideal) (k0_pay2 p0 w0 p1 w1 p2 w2 p3 w3 p4 w4) v w) (ix2 r k)
      = (((((∑ n : Fin 1024, p0 (ix2 r n) * w0 (ix3 0 k n)) + ∑ n : Fin 128, p1 (ix2 r n) * w1 (ix3 0 k n)) + ∑ n : Fin 1152, p2 (ix2 r n) * w2 (ix3 0 k n))
        + ∑ n : Fin 256, p3 (ix2 r n) * w3 (ix3 0 k n)) + ∑ n : Fin 896, p4 (ix2 r n) * w4 (ix3 0 k n)) + ∑ n : Fin 1152, v (ix2 r n) * w (ix3 0 k n) := by
  pointwise [k0_pay3, k0_pay2]

end Pay

/-! ## Loads of a part of a block -/

theorem ldw0 {e : EltTy} (x : Vec Ideal S4x1024x1152 e) (k : Fin 1024) (n : Fin 1024) :
    View.ld x (Rect.unit ![0, 0, 0] ![1, 1024, 1024] inb_S4x1024x1152_S1x1024x1024_0_0_0) (ix3 0 k n) = x (ix3 0 k ⟨n, by omega⟩) := by
  pointwise

theorem ldp1 {e : EltTy} (x : Vec Ideal S256x1536 e) (r : Fin 256) (n : Fin 128) :
    View.ld x (Rect.unit ![0, 0] ![256, 128] inb_S256x1536_S256x128_0_0) (ix2 r n) = x (ix2 r ⟨n, by omega⟩) := by
  pointwise

theorem ldw1 {e : EltTy} (x : Vec Ideal S4x1024x1152 e) (k : Fin 1024) (n : Fin 128) :
    View.ld x (Rect.unit ![0, 0, 1024] ![1, 1024, 128] inb_S4x1024x1152_S1x1024x128_0_0_1024) (ix3 0 k n) = x (ix3 0 k ⟨1024 + n, by omega⟩) := by
  pointwise

theorem ldp2 {e : EltTy} (x : Vec Ideal S256x1536 e) (r : Fin 256) (n : Fin 1152) :
    View.ld x (Rect.unit ![0, 128] ![256, 1152] inb_S256x1536_S256x1152_0_128) (ix2 r n) = x (ix2 r ⟨128 + n, by omega⟩) := by
  pointwise

theorem ldw2 {e : EltTy} (x : Vec Ideal S4x1024x1152 e) (k : Fin 1024) (n : Fin 1152) :
    View.ld x (Rect.unit ![1, 0, 0] ![1, 1024, 1152] inb_S4x1024x1152_S1x1024x1152_1_0_0) (ix3 0 k n) = x (ix3 1 k ⟨n, by omega⟩) := by
  pointwise

theorem ldp3 {e : EltTy} (x : Vec Ideal S256x1536 e) (r : Fin 256) (n : Fin 256) :
    View.ld x (Rect.unit ![0, 1280] ![256, 256] inb_S256x1536_S256x256_0_1280) (ix2 r n) = x (ix2 r ⟨1280 + n, by omega⟩) := by
  pointwise

theorem ldw3 {e : EltTy} (x : Vec Ideal S4x1024x1152 e) (k : Fin 1024) (n : Fin 256) :
    View.ld x (Rect.unit ![2, 0, 0] ![1, 1024, 256] inb_S4x1024x1152_S1x1024x256_2_0_0) (ix3 0 k n) = x (ix3 2 k ⟨n, by omega⟩) := by
  pointwise

theorem ldp4 {e : EltTy} (x : Vec Ideal S256x2048 e) (r : Fin 256) (n : Fin 896) :
    View.ld x (Rect.unit ![0, 0] ![256, 896] inb_S256x2048_S256x896_0_0) (ix2 r n) = x (ix2 r ⟨n, by omega⟩) := by
  pointwise

theorem ldw4 {e : EltTy} (x : Vec Ideal S4x1024x1152 e) (k : Fin 1024) (n : Fin 896) :
    View.ld x (Rect.unit ![2, 0, 256] ![1, 1024, 896] inb_S4x1024x1152_S1x1024x896_2_0_256) (ix3 0 k n) = x (ix3 2 k ⟨256 + n, by omega⟩) := by
  pointwise

theorem ldp5 {e : EltTy} (x : Vec Ideal S256x2048 e) (r : Fin 256) (n : Fin 1152) :
    View.ld x (Rect.unit ![0, 896] ![256, 1152] inb_S256x2048_S256x1152_0_896) (ix2 r n) = x (ix2 r ⟨896 + n, by omega⟩) := by
  pointwise

theorem ldw5 {e : EltTy} (x : Vec Ideal S4x1024x1152 e) (k : Fin 1024) (n : Fin 1152) :
    View.ld x (Rect.unit ![3, 0, 0] ![1, 1024, 1152] inb_S4x1024x1152_S1x1024x1152_3_0_0) (ix3 0 k n) = x (ix3 3 k ⟨n, by omega⟩) := by
  pointwise

/-! ## The blocks -/

variable (m : (ℓ : Loc nD τ sig) → Buf (Elt Ideal) ℓ) (c : Dev nD)

abbrev A0 : FVec Ideal S2048x1024 .f32 := m ((c : Thread nD τ).loc main_arg0)
abbrev A1 : FVec Ideal S2048x1536 .f32 := m ((c : Thread nD τ).loc main_arg1)
abbrev A2 : FVec Ideal S2048x2048 .f32 := m ((c : Thread nD τ).loc main_arg2)
abbrev DX2 : FVec Ideal S2048x1024 .f32 := m ((c : Thread nD τ).loc main_arg3)
abbrev X : FVec Ideal S2048x1024 .f32 := m ((c : Thread nD τ).loc main_arg4)
abbrev G : FVec Ideal S1024 .f32 := m ((c : Thread nD τ).loc main_arg5)
abbrev W : FVec Ideal S1024x4608 .f32 := m ((c : Thread nD τ).loc main_arg6)

theorem in0 (i : Fin 2048) (n : Fin 1024) : (V m c main_v0 : FVec Ideal S2048x1024 .bf16) (ix2 i n) = A0 m c (ix2 i n) := by
  entry_read
  pointwise

theorem in1 (i : Fin 2048) (n : Fin 1536) : (V m c main_v1 : FVec Ideal S2048x1536 .bf16) (ix2 i n) = A1 m c (ix2 i n) := by
  entry_read
  pointwise

theorem in2 (i : Fin 2048) (n : Fin 2048) : (V m c main_v2 : FVec Ideal S2048x2048 .bf16) (ix2 i n) = A2 m c (ix2 i n) := by
  entry_read
  pointwise

theorem in3 (j : Fin 4) (k : Fin 1024) (n : Fin 1152) : (V m c main_v5 : FVec Ideal S4x1024x1152 .bf16) (ix3 j k n) = W m c (ix2 k ⟨j * 1152 + n, by omega⟩) := by
  entry_read
  pointwise

theorem in6 (k : Fin 1024) : (V m c main_v6 : FVec Ideal S1x1024 .f32) (ix2 0 k) = G m c (ix1 k) := by
  entry_read
  pointwise

theorem idx : ∀ t : Fin cfg0.N, win0_0.index t = ![t.val, 0] ∧ win0_1.index t = ![t.val, 0] ∧ win0_2.index t = ![t.val, 0] ∧ win0_3.index t = ![0, 0, 0]
    ∧ win0_4.index t = ![t.val, 0] ∧ win0_5.index t = ![t.val, 0] ∧ win0_6.index t = ![0, 0] ∧ win0_8.index t = ![t.val, 0] ∧ win0_9.index t = ![0, 0] ∧ t.val < 8 :=
  (by decide +kernel : ∀ t : Fin grid0.N, _)

/-- The array's row that a tile's row is. -/
def row (t : Fin cfg0.N) (r : Fin 256) : Fin 2048 := ⟨t.val * 256 + r, by have := lt_of_lt_of_eq t.isLt (show cfg0.N = 8 from N_0); omega⟩

theorem b0 (t : Fin cfg0.N) (r : Fin 256) (n : Fin 1024) : (iblk m c 0 t : FVec Ideal S256x1024 .bf16) (ix2 r n) = A0 m c (ix2 (row t r) n) := by
  rw [← in0]; unfold row; blk_ext [iblk, idx t]

theorem b1 (t : Fin cfg0.N) (r : Fin 256) (n : Fin 1536) : (iblk m c 1 t : FVec Ideal S256x1536 .bf16) (ix2 r n) = A1 m c (ix2 (row t r) n) := by
  rw [← in1]; unfold row; blk_ext [iblk, idx t]

theorem b2 (t : Fin cfg0.N) (r : Fin 256) (n : Fin 2048) : (iblk m c 2 t : FVec Ideal S256x2048 .bf16) (ix2 r n) = A2 m c (ix2 (row t r) n) := by
  rw [← in2]; unfold row; blk_ext [iblk, idx t]

theorem b3 (t : Fin cfg0.N) (j : Fin 4) (k : Fin 1024) (n : Fin 1152) : (iblk m c 3 t : FVec Ideal S4x1024x1152 .bf16) (ix3 j k n) = W m c (ix2 k ⟨j * 1152 + n, by omega⟩) := by
  rw [← in3]; blk_ext [iblk, idx t]

theorem b4 (t : Fin cfg0.N) (r : Fin 256) (n : Fin 1024) : (iblk m c 4 t : FVec Ideal S256x1024 .f32) (ix2 r n) = X m c (ix2 (row t r) n) := by
  unfold row; blk_ext [iblk, V, idx t]

theorem b5 (t : Fin cfg0.N) (r : Fin 256) (n : Fin 1024) : (iblk m c 5 t : FVec Ideal S256x1024 .f32) (ix2 r n) = DX2 m c (ix2 (row t r) n) := by
  unfold row; blk_ext [iblk, V, idx t]

theorem b6 (t : Fin cfg0.N) (k : Fin 1024) : (iblk m c 6 t : FVec Ideal S1x1024 .f32) (ix2 0 k) = G m c (ix1 k) := by
  rw [← in6]; blk_ext [iblk, idx t]

theorem cat0 (i : Fin 2048) (n : Fin 4608) (q : Fin 1024) (h : n.val = q) : cat (A0 m c) (A1 m c) (A2 m c) i n = A0 m c (ix2 i q) := by
  unfold cat
  rw [dif_pos (by omega)]
  exact congrArg (fun z => A0 m c (ix2 i z)) (Fin.ext h)

theorem cat1 (i : Fin 2048) (n : Fin 4608) (q : Fin 1536) (h : n.val = 1024 + q) : cat (A0 m c) (A1 m c) (A2 m c) i n = A1 m c (ix2 i q) := by
  unfold cat
  rw [dif_neg (by omega), dif_pos (by omega)]
  exact congrArg (fun z => A1 m c (ix2 i z)) (Fin.ext (show n.val - 1024 = q by omega))

theorem cat2 (i : Fin 2048) (n : Fin 4608) (q : Fin 2048) (h : n.val = 2560 + q) : cat (A0 m c) (A1 m c) (A2 m c) i n = A2 m c (ix2 i q) := by
  unfold cat
  rw [dif_neg (by omega), dif_neg (by omega)]
  exact congrArg (fun z => A2 m c (ix2 i z)) (Fin.ext (show n.val - 1024 - 1536 = q by omega))

theorem emb8 (t : Fin cfg0.N) (r : Fin 256) (k : Fin 1024) : (((cfg0.win 8).blk t).view.emb (ix2 r k) : S2048x1024.Idx) = ix2 (row t r) k := by
  unfold row; blk_ext [idx t]

/-- The product of a tile's first five segments, of the blocks it loads. -/
abbrev preB (t : Fin cfg0.N) : FVec Ideal S256x1024 .f32 :=
  k0_pay2 (iblk m c 0 t)
    (View.ld (iblk m c 3 t) (Rect.unit ![0, 0, 0] ![1, 1024, 1024] inb_S4x1024x1152_S1x1024x1024_0_0_0))
    (View.ld (iblk m c 1 t) (Rect.unit ![0, 0] ![256, 128] inb_S256x1536_S256x128_0_0))
    (View.ld (iblk m c 3 t) (Rect.unit ![0, 0, 1024] ![1, 1024, 128] inb_S4x1024x1152_S1x1024x128_0_0_1024))
    (View.ld (iblk m c 1 t) (Rect.unit ![0, 128] ![256, 1152] inb_S256x1536_S256x1152_0_128))
    (View.ld (iblk m c 3 t) (Rect.unit ![1, 0, 0] ![1, 1024, 1152] inb_S4x1024x1152_S1x1024x1152_1_0_0))
    (View.ld (iblk m c 1 t) (Rect.unit ![0, 1280] ![256, 256] inb_S256x1536_S256x256_0_1280))
    (View.ld (iblk m c 3 t) (Rect.unit ![2, 0, 0] ![1, 1024, 256] inb_S4x1024x1152_S1x1024x256_2_0_0))
    (View.ld (iblk m c 2 t) (Rect.unit ![0, 0] ![256, 896] inb_S256x2048_S256x896_0_0))
    (View.ld (iblk m c 3 t) (Rect.unit ![2, 0, 256] ![1, 1024, 896] inb_S4x1024x1152_S1x1024x896_2_0_256))

theorem k_dh (t : Fin cfg0.N) (r : Fin 256) (k : Fin 1024) :
    (k0_pay3 (F := Ideal) (preB m c t) (View.ld (iblk m c 2 t) (Rect.unit ![0, 896] ![256, 1152] inb_S256x2048_S256x1152_0_896))
      (View.ld (iblk m c 3 t) (Rect.unit ![3, 0, 0] ![1, 1024, 1152] inb_S4x1024x1152_S1x1024x1152_3_0_0))) (ix2 r k) = dh (A0 m c) (A1 m c) (A2 m c) (W m c) (ix2 (row t r) k) := by
  refine (pay_at (View.ld (iblk m c 2 t) (Rect.unit ![0, 896] ![256, 1152] inb_S256x2048_S256x1152_0_896)) (View.ld (iblk m c 3 t) (Rect.unit ![3, 0, 0] ![1, 1024, 1152] inb_S4x1024x1152_S1x1024x1152_3_0_0)) _ _ _ _ _ _ _ _ _ _ r k).trans ?_
  rw [dh_at, seg]
  refine congrArg₂ (· + ·) (congrArg₂ (· + ·) (congrArg₂ (· + ·) (congrArg₂ (· + ·) (congrArg₂ (· + ·) ?_ ?_) ?_) ?_) ?_) ?_
  · exact Finset.sum_congr rfl fun n _ => congrArg₂ (· * ·) (((b0 m c t r _).trans (cat0 m c _ _ _ (by dsimp only <;> omega)).symm)) ((ldw0 _ k n).trans ((b3 m c t _ k _).trans (congrArg (fun z => W m c (ix2 k z)) (Fin.ext (show 0 * 1152 + (n.val) = n.val by omega)))))
  · exact Finset.sum_congr rfl fun n _ => congrArg₂ (· * ·) ((ldp1 _ r n).trans ((b1 m c t r _).trans (cat1 m c _ _ _ (by dsimp only <;> omega)).symm)) ((ldw1 _ k n).trans ((b3 m c t _ k _).trans (congrArg (fun z => W m c (ix2 k z)) (Fin.ext (show 0 * 1152 + (1024 + n.val) = 1024 + n.val by omega)))))
  · exact Finset.sum_congr rfl fun n _ => congrArg₂ (· * ·) ((ldp2 _ r n).trans ((b1 m c t r _).trans (cat1 m c _ _ _ (by dsimp only <;> omega)).symm)) ((ldw2 _ k n).trans ((b3 m c t _ k _).trans (congrArg (fun z => W m c (ix2 k z)) (Fin.ext (show 1 * 1152 + (n.val) = 1152 + n.val by omega)))))
  · exact Finset.sum_congr rfl fun n _ => congrArg₂ (· * ·) ((ldp3 _ r n).trans ((b1 m c t r _).trans (cat1 m c _ _ _ (by dsimp only <;> omega)).symm)) ((ldw3 _ k n).trans ((b3 m c t _ k _).trans (congrArg (fun z => W m c (ix2 k z)) (Fin.ext (show 2 * 1152 + (n.val) = 2304 + n.val by omega)))))
  · exact Finset.sum_congr rfl fun n _ => congrArg₂ (· * ·) ((ldp4 _ r n).trans ((b2 m c t r _).trans (cat2 m c _ _ _ (by dsimp only <;> omega)).symm)) ((ldw4 _ k n).trans ((b3 m c t _ k _).trans (congrArg (fun z => W m c (ix2 k z)) (Fin.ext (show 2 * 1152 + (256 + n.val) = 2560 + n.val by omega)))))
  · exact Finset.sum_congr rfl fun n _ => congrArg₂ (· * ·) ((ldp5 _ r n).trans ((b2 m c t r _).trans (cat2 m c _ _ _ (by dsimp only <;> omega)).symm)) ((ldw5 _ k n).trans ((b3 m c t _ k _).trans (congrArg (fun z => W m c (ix2 k z)) (Fin.ext (show 3 * 1152 + (n.val) = 3456 + n.val by omega)))))

theorem k_dx (t : Fin cfg0.N) (r : Fin 256) (k : Fin 1024) :
    (k0_pay6 (F := Ideal) (preB m c t) (View.ld (iblk m c 2 t) (Rect.unit ![0, 896] ![256, 1152] inb_S256x2048_S256x1152_0_896))
      (View.ld (iblk m c 3 t) (Rect.unit ![3, 0, 0] ![1, 1024, 1152] inb_S4x1024x1152_S1x1024x1152_3_0_0)) (iblk m c 4 t) (iblk m c 5 t) (iblk m c 6 t)) (ix2 r k)
      = dxOf (DX2 m c) (X m c) (G m c) (dh (A0 m c) (A1 m c) (A2 m c) (W m c)) (ix2 (row t r) k) := by
  rw [dx_at, dxOf_at]
  simp only [k_dh, b4, b5, b6]

/-- A tile's part of the norm's gradient. -/
abbrev partB (t : Fin cfg0.N) : FVec Ideal S1x1024 .f32 :=
  k0_pay7 (preB m c t) (View.ld (iblk m c 2 t) (Rect.unit ![0, 896] ![256, 1152] inb_S256x2048_S256x1152_0_896))
    (View.ld (iblk m c 3 t) (Rect.unit ![3, 0, 0] ![1, 1024, 1152] inb_S4x1024x1152_S1x1024x1152_3_0_0)) (iblk m c 4 t)

theorem k_dg (t : Fin cfg0.N) (k : Fin 1024) : partB m c t (ix2 0 k)
    = ∑ r : Fin 256, dh (A0 m c) (A1 m c) (A2 m c) (W m c) (ix2 (row t r) k) * (X m c (ix2 (row t r) k) * rinv fun k : Fin 1024 => X m c (ix2 (row t r) k)) := by
  rw [partB, dg_at]
  simp only [k_dh, b4]

theorem final8 : (dats m 0 c).arrAt 8 cfg0.N = dxOf (DX2 m c) (X m c) (G m c) (dh (A0 m c) (A1 m c) (A2 m c) (W m c)) := by
  refine (dats m 0 c).arrAt_eq_of_covers 8 _ (by decide +kernel) fun t hf y => ?_
  blk_simp
  rw [after0_8]
  by_cases h0 : t.val % 8 = 0
  · have h1 : ¬1 ≤ t.val := by have := (idx t).2.2.2.2.2.2.2.2.2; omega
    rw [outsAt0_A m c t h0 h1]
    frame_out
    idx_vars y
    exact (k_dx m c t _ _).trans (congrArg (dxOf _ _ _ _) (emb8 t _ _)).symm
  · have h1 : 1 ≤ t.val := by omega
    rw [outsAt0_B m c t h0 h1]
    frame_out
    idx_vars y
    exact (k_dx m c t _ _).trans (congrArg (dxOf _ _ _ _) (emb8 t _ _)).symm

theorem r9 (t : Fin cfg0.N) (h0 : t.val % 8 = 0) (i : S1x1024.Idx) : (outsAt0 m c t.val t.isLt).2 i = 0 + partB m c t i := by
  have h1 : ¬1 ≤ t.val := by have := (idx t).2.2.2.2.2.2.2.2.2; omega
  rw [outsAt0_A m c t h0 h1, zero_add]
  frame_out
  rfl

theorem s9 (t : Fin cfg0.N) (h0 : ¬t.val % 8 = 0) (i : S1x1024.Idx) : (outsAt0 m c t.val t.isLt).2 i = (outsAt0 m c (t.val - 1) (Nat.lt_of_le_of_lt (Nat.sub_le _ _) t.isLt)).2 i + partB m c t i := by
  have h1 : 1 ≤ t.val := by omega
  rw [outsAt0_B m c t h0 h1]
  frame_out
  idx_vars i
  obtain rfl : i0 = 0 := Subsingleton.elim _ _
  exact dgs_at _ _ _

theorem final9 : (dats m 0 c).arrAt 9 cfg0.N = dgOf (X m c) (dh (A0 m c) (A1 m c) (A2 m c) (W m c)) := by
  refine (dats m 0 c).arrAt_eq_of_after_last 9 t0_7 (by decide +kernel) _ fun j => ?_
  blk_simp
  rw [after0_9]
  idx_vars j
  obtain rfl : j0 = 0 := Subsingleton.elim _ _
  have hs := Pipeline.eq_sum_fin_of_reset_step_apply_last (fun n h => (outsAt0 m c n h).2) 8 (fun _ => 0) (fun t j => partB m c t j)
    (r9 m c) (s9 m c) (le_of_eq N_0) t0_7 rfl (ix2 0 j1)
  refine hs.trans ?_
  rw [zero_add, dgOf_at]
  simp only [k_dg]
  exact Fin.sum_mul_add_congr (S := 8) (n := 256) fun s k hl => rfl

/-- The two programs end with equal results. -/
theorem algebraic : Cert.algebraic_ProjIdeal_ProjRefIdeal (hProjIdeal := Cert.ProjIdeal.Gen.facts) (hProjRefIdeal := Cert.ProjRefIdeal.Gen.facts) := by
  intro m g m' g' hpre hag
  refine ⟨fun c => dxOf (DX2 m c) (X m c) (G m c) (dh (A0 m c) (A1 m c) (A2 m c) (W m c)), fun c => dgOf (X m c) (dh (A0 m c) (A1 m c) (A2 m c) (W m c)), ?_, ?_⟩
  · exact (θ_run _ _ _).mono (fun r h c => ⟨(h c).1.trans (final8 m c), (h c).2.1.trans (final9 m c), (h c).2.2⟩) (run_blocks m g)
  · refine (θ_run _ _ _).mono (fun r h c => ⟨(h c).1.trans ?_, (h c).2.1.trans ?_, (h c).2.2⟩) (Cert.ProjRefIdeal.Value.run m' g')
    · obtain ⟨a0, a1, a2, a3, a4, a5, a6⟩ := hag c
      refine Eq.trans (b := dxOf (m' ((c : Thread Cert.ProjRefIdeal.nD Cert.ProjRefIdeal.τ).loc Cert.ProjRefIdeal.main_arg3)) (m' ((c : Thread Cert.ProjRefIdeal.nD Cert.ProjRefIdeal.τ).loc Cert.ProjRefIdeal.main_arg4)) (m' ((c : Thread Cert.ProjRefIdeal.nD Cert.ProjRefIdeal.τ).loc Cert.ProjRefIdeal.main_arg5)) (dh (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) (m' ((c : Thread Cert.ProjRefIdeal.nD Cert.ProjRefIdeal.τ).loc Cert.ProjRefIdeal.main_arg6)))) rfl ?_
      rw [a0, a1, a2, a3, a4, a5, a6]
    · obtain ⟨a0, a1, a2, a3, a4, a5, a6⟩ := hag c
      refine Eq.trans (b := dgOf (m' ((c : Thread Cert.ProjRefIdeal.nD Cert.ProjRefIdeal.τ).loc Cert.ProjRefIdeal.main_arg4)) (dh (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) (m' ((c : Thread Cert.ProjRefIdeal.nD Cert.ProjRefIdeal.τ).loc Cert.ProjRefIdeal.main_arg6)))) rfl ?_
      rw [a0, a1, a2, a4, a6]

end Cert.ProjIdeal.Value
end
-- ==== Proof.DwUpValue.lean ====
/- The gradient of the feed-forward up-projection's weight: the kernel's blocks are the blocks of the transposed product of the normalised input and the incoming gradient. -/
module

public import proofs.«01_k».proof.Proof.Gen.DwUpIdeal.Value
public import proofs.«01_k».proof.Proof.Gen.DwUpRefIdeal.Run
public import Idealize.ShloMosaic.Lib.Pipeline.ValueKit
public import proofs.«01_k».proof.Defs

@[expose] public section

set_option maxRecDepth 16384

noncomputable section

namespace Cert.DwUpRefIdeal.Read

open Cert.DwUpRefIdeal Cert.DwUpRefIdeal.Gen Idealize.ShloMosaic Idealize.ShloMosaic.TcCoe Idealize.SL.Sem

/-- The normalised input, as the reference's host lines compute it. -/
def normed (x : FVec Ideal S2048x1024 .f32) (g : FVec Ideal S1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))

/-- The reference's gradient of the weight, from the normalised input and the incoming gradient. -/
def grad (d : FVec Ideal S2048x5632 .f32) (h : FVec Ideal S2048x1024 .f32) : FVec Ideal S4x2x512x1408 .bf16 :=
  truncf .bf16 (transpose S4x2x512x1408 [2, 0, 1, 3] (shapeCast _ (transpose S1024x5632 [1, 0] (Host.dotGeneral dot_S2048x5632_S2048x1024_S5632x1024_0_0_1_1_n_n none d h) transposes_S5632x1024_S1024x5632_1_0) shapeCasts_S1024x5632_S2x512x4x1408) transposes_S2x512x4x1408_S4x2x512x1408_2_0_1_3) bitsLt_bf16_f32

theorem grad_at (d : FVec Ideal S2048x5632 .f32) (h : FVec Ideal S2048x1024 .f32) (j : Fin 4) (p : Fin 2) (k : Fin 512) (n : Fin 1408) :
    grad d h (ix4 j p k n) = ∑ s : Fin 2048, h (ix2 s ⟨p * 512 + k, by omega⟩) * d (ix2 s ⟨j * 1408 + n, by omega⟩) := by
  pointwise [grad]
  exact Finset.sum_congr rfl fun s _ => mul_comm (G := EReal) _ _

end Cert.DwUpRefIdeal.Read

namespace Cert.DwUpIdeal.Value

open Cert.DwUpIdeal Cert.DwUpIdeal.Gen Idealize.ShloMosaic Idealize.ShloMosaic.TcCoe Idealize.SL.Sem
open Cert.DwUpRefIdeal.Read

theorem pay_at (a : FVec Ideal S2048x512 .bf16) (b : FVec Ideal S2048x1408 .bf16) (k : Fin 512) (n : Fin 1408) :
    (k0_pay1 (F := Ideal) a b) (ix4 0 0 k n) = ∑ s : Fin 2048, a (ix2 s k) * b (ix2 s n) := by
  pointwise [k0_pay1]

variable (m : (ℓ : Loc nD τ sig) → Buf (Elt Ideal) ℓ) (c : Dev nD)

theorem in0 : (V m c main_v13 : FVec Ideal S2048x1024 .bf16) = (normed (m ((c : Thread nD τ).loc main_arg0)) (m ((c : Thread nD τ).loc main_arg1)) : FVec Ideal S2048x1024 .f32) := by
  entry_read
  rfl

theorem in1 : (V m c main_v14 : FVec Ideal S2048x5632 .bf16) = (m ((c : Thread nD τ).loc main_arg2) : FVec Ideal S2048x5632 .f32) := by
  entry_read
  rfl

theorem idx : ∀ t : Fin cfg0.N, win0_0.index t = ![0, t.val / 4] ∧ win0_1.index t = ![0, t.val % 4] ∧ win0_2.index t = ![t.val % 4, t.val / 4, 0, 0] ∧ t.val < 8 :=
  (by decide +kernel : ∀ t : Fin grid0.N, _)

theorem b0 (t : Fin cfg0.N) (s : Fin 2048) (k : Fin 512) : (iblk m c 0 t : FVec Ideal S2048x512 .bf16) (ix2 s k)
    = (normed (m ((c : Thread nD τ).loc main_arg0)) (m ((c : Thread nD τ).loc main_arg1)) : FVec Ideal S2048x1024 .f32) (ix2 s ⟨t.val / 4 * 512 + k, by have := (idx t).2.2.2; omega⟩) := by
  rw [← in0 (m := m) (c := c)]
  blk_ext [iblk, idx t]

theorem b1 (t : Fin cfg0.N) (s : Fin 2048) (n : Fin 1408) : (iblk m c 1 t : FVec Ideal S2048x1408 .bf16) (ix2 s n)
    = (m ((c : Thread nD τ).loc main_arg2) : FVec Ideal S2048x5632 .f32) (ix2 s ⟨t.val % 4 * 1408 + n, by have := (idx t).2.2.2; omega⟩) := by
  rw [← in1 (m := m) (c := c)]
  blk_ext [iblk, idx t]

theorem emb2 (t : Fin cfg0.N) (a b : Fin 1) (k : Fin 512) (n : Fin 1408) : (((cfg0.win 2).blk t).view.emb (ix4 a b k n) : S4x2x512x1408.Idx)
    = ix4 ⟨t.val % 4, by omega⟩ ⟨t.val / 4, by have := (idx t).2.2.2; omega⟩ k n := by
  blk_ext [idx t]

/-- After the last point the result is the reference's gradient of the weight. -/
theorem final2 : (dats m 0 c).arrAt 2 cfg0.N
    = grad (m ((c : Thread nD τ).loc main_arg2)) (normed (m ((c : Thread nD τ).loc main_arg0)) (m ((c : Thread nD τ).loc main_arg1))) := by
  refine (dats m 0 c).arrAt_eq_of_covers 2 _ (by decide +kernel) fun t hf y => ?_
  blk_simp
  rw [after0_2]
  frame_out
  idx_vars y
  obtain rfl : y0 = 0 := Subsingleton.elim _ _
  obtain rfl : y1 = 0 := Subsingleton.elim _ _
  refine (pay_at _ _ _ _).trans (Eq.trans ?_ (congrArg (grad _ _) (emb2 t _ _ _ _)).symm)
  refine Eq.trans ?_ (grad_at _ _ _ _ _ _).symm
  refine Finset.sum_congr rfl fun s _ => ?_
  rw [b0, b1]

/-- The two programs end with equal results. -/
theorem algebraic : Cert.algebraic_DwUpIdeal_DwUpRefIdeal (hDwUpIdeal := Cert.DwUpIdeal.Gen.facts) (hDwUpRefIdeal := Cert.DwUpRefIdeal.Gen.facts) := by
  intro m g m' g' hpre hag
  refine ⟨fun c => grad (m ((c : Thread nD τ).loc main_arg2)) (normed (m ((c : Thread nD τ).loc main_arg0)) (m ((c : Thread nD τ).loc main_arg1))), ?_, ?_⟩
  · exact (θ_run _ _ _).mono (fun r h c => ⟨(h c).1.trans (final2 m c), (h c).2⟩) (run_blocks m g)
  · refine (θ_run _ _ _).mono (fun r h c => ⟨(h c).1.trans ?_, (h c).2⟩) (Cert.DwUpRefIdeal.Value.run m' g')
    obtain ⟨a0, a1, a2⟩ := hag c
    refine Eq.trans (b := grad (m' ((c : Thread Cert.DwUpRefIdeal.nD Cert.DwUpRefIdeal.τ).loc Cert.DwUpRefIdeal.main_arg2)) (normed (m' ((c : Thread Cert.DwUpRefIdeal.nD Cert.DwUpRefIdeal.τ).loc Cert.DwUpRefIdeal.main_arg0)) (m' ((c : Thread Cert.DwUpRefIdeal.nD Cert.DwUpRefIdeal.τ).loc Cert.DwUpRefIdeal.main_arg1)))) rfl ?_
    rw [a0, a1, a2]

end Cert.DwUpIdeal.Value
end
-- ==== Proof.DwDownValue.lean ====
/- The gradient of the feed-forward down-projection's weight: the kernel's blocks are the row blocks of the transposed product of the activation and the incoming gradient. -/
module

public import proofs.«01_k».proof.Proof.Gen.DwDownIdeal.Value
public import proofs.«01_k».proof.Proof.Gen.DwDownRefIdeal.Run
public import Idealize.ShloMosaic.Lib.Pipeline.ValueKit
public import proofs.«01_k».proof.Defs

@[expose] public section

set_option maxRecDepth 16384

noncomputable section

namespace Cert.DwDownRefIdeal.Read

open Cert.DwDownRefIdeal Cert.DwDownRefIdeal.Gen Idealize.ShloMosaic Idealize.ShloMosaic.TcCoe Idealize.SL.Sem

/-- The activation of the two halves of the up-projection, as the reference's host lines compute it. -/
def activation (gu : FVec Ideal S2048x5632 .f32) : FVec Ideal S2048x2816 .f32 :=
  mulf (mulf (extractStridedSlice S2048x2816 ![0, 0] gu slices_S2048x5632_S2048x2816_0_0) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extractStridedSlice S2048x2816 ![0, 0] gu slices_S2048x5632_S2048x2816_0_0)))))) (extractStridedSlice S2048x2816 ![0, 2816] gu slices_S2048x5632_S2048x2816_0_2816)

/-- The reference's gradient of the weight, from the activation and the incoming gradient. -/
def grad (d : FVec Ideal S2048x1024 .f32) (a : FVec Ideal S2048x2816 .f32) : FVec Ideal S2816x1024 .bf16 :=
  truncf .bf16 (transpose S2816x1024 [1, 0] (Host.dotGeneral dot_S2048x1024_S2048x2816_S1024x2816_0_0_1_1_n_n none d a) transposes_S1024x2816_S2816x1024_1_0) bitsLt_bf16_f32

theorem grad_at (d : FVec Ideal S2048x1024 .f32) (a : FVec Ideal S2048x2816 .f32) (k : Fin 2816) (n : Fin 1024) :
    grad d a (ix2 k n) = ∑ s : Fin 2048, a (ix2 s k) * d (ix2 s n) := by
  pointwise [grad]
  exact Finset.sum_congr rfl fun s _ => mul_comm (G := EReal) _ _

end Cert.DwDownRefIdeal.Read

namespace Cert.DwDownIdeal.Value

open Cert.DwDownIdeal Cert.DwDownIdeal.Gen Idealize.ShloMosaic Idealize.ShloMosaic.TcCoe Idealize.SL.Sem
open Cert.DwDownRefIdeal.Read

theorem pay_at (a : FVec Ideal S2048x1408 .bf16) (b : FVec Ideal S2048x1024 .bf16) (k : Fin 1408) (n : Fin 1024) :
    (k0_pay1 (F := Ideal) a b) (ix2 k n) = ∑ s : Fin 2048, a (ix2 s k) * b (ix2 s n) := by
  pointwise [k0_pay1]

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ t.val < 2 :=
  (by decide +kernel : ∀ t : Fin grid0.N, _)

theorem in0 : (V m c main_v4 : FVec Ideal S2048x2816 .bf16) = (activation (m ((c : Thread nD τ).loc main_arg0)) : FVec Ideal S2048x2816 .f32) := by
  entry_read
  rfl

theorem in1 : (V m c main_v5 : FVec Ideal S2048x1024 .bf16) = (m ((c : Thread nD τ).loc main_arg1) : FVec Ideal S2048x1024 .f32) := by
  entry_read
  rfl

theorem b0 (t : Fin cfg0.N) (s : Fin 2048) (k : Fin 1408) : (iblk m c 0 t : FVec Ideal S2048x1408 .bf16) (ix2 s k)
    = (activation (m ((c : Thread nD τ).loc main_arg0)) : FVec Ideal S2048x2816 .f32) (ix2 s ⟨t.val * 1408 + k, by have := (idx t).2.2.2; omega⟩) := by
  rw [← in0]
  blk_ext [iblk, idx t]

theorem b1 (t : Fin cfg0.N) (s : Fin 2048) (n : Fin 1024) : (iblk m c 1 t : FVec Ideal S2048x1024 .bf16) (ix2 s n)
    = (m ((c : Thread nD τ).loc main_arg1) : FVec Ideal S2048x1024 .f32) (ix2 s n) := by
  rw [← in1 (m := m) (c := c)]
  blk_ext [iblk, idx t]

theorem emb2 (t : Fin cfg0.N) (k : Fin 1408) (n : Fin 1024) : (((cfg0.win 2).blk t).view.emb (ix2 k n) : S2816x1024.Idx)
    = ix2 ⟨t.val * 1408 + k, by have := (idx t).2.2.2; omega⟩ n := by
  blk_ext [idx t]

/-- After the last point the result is the reference's gradient of the weight. -/
theorem final2 : (dats m 0 c).arrAt 2 cfg0.N
    = grad (m ((c : Thread nD τ).loc main_arg1)) (activation (m ((c : Thread nD τ).loc main_arg0))) := by
  refine (dats m 0 c).arrAt_eq_of_covers 2 _ (by decide +kernel) fun t hf y => ?_
  blk_simp
  rw [after0_2]
  frame_out
  idx_vars y
  refine (pay_at _ _ _ _).trans (Eq.trans ?_ (congrArg (grad _ _) (emb2 t _ _)).symm)
  refine Eq.trans ?_ (grad_at _ _ _ _).symm
  refine Finset.sum_congr rfl fun s _ => ?_
  rw [b0, b1]

/-- The two programs end with equal results. -/
theorem algebraic : Cert.algebraic_DwDownIdeal_DwDownRefIdeal (hDwDownIdeal := Cert.DwDownIdeal.Gen.facts) (hDwDownRefIdeal := Cert.DwDownRefIdeal.Gen.facts) := by
  intro m g m' g' hpre hag
  refine ⟨fun c => grad (m ((c : Thread nD τ).loc main_arg1)) (activation (m ((c : Thread nD τ).loc main_arg0))), ?_, ?_⟩
  · exact (θ_run _ _ _).mono (fun r h c => ⟨(h c).1.trans (final2 m c), (h c).2⟩) (run_blocks m g)
  · refine (θ_run _ _ _).mono (fun r h c => ⟨(h c).1.trans ?_, (h c).2⟩) (Cert.DwDownRefIdeal.Value.run m' g')
    obtain ⟨a0, a1⟩ := hag c
    refine Eq.trans (b := grad (m' ((c : Thread Cert.DwDownRefIdeal.nD Cert.DwDownRefIdeal.τ).loc Cert.DwDownRefIdeal.main_arg1)) (activation (m' ((c : Thread Cert.DwDownRefIdeal.nD Cert.DwDownRefIdeal.τ).loc Cert.DwDownRefIdeal.main_arg0)))) rfl ?_
    rw [a0, a1]

end Cert.DwDownIdeal.Value
end
-- ==== Proof.FfnMath.lean ====
/- The scalar facts behind the feed-forward sub-layer's gradient and the loss, over the extended reals. -/
module

public import proofs.«01_k».proof.Proof.MergeMath
public import Idealize.ShloMosaic.Lib.IdealHost
public import Mathlib.Tactic.Linarith

@[expose] public section

noncomputable section

namespace Cert.FfnMath

open Idealize.ShloMosaic Cert.MergeMath

theorem cHalf : Ideal.ofBits .f32 0x3F000000#32 = ((1 / 2 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cInv : Ideal.ofBits .f32 0x3A800000#32 = ((1 / 1024 : ℝ) : EReal) := by
  simp [Ideal.ofBits, Ideal.ieee, -EReal.coe_mul]; norm_num

/-- Half of the mean of squares has the gradient `err / 1024`. -/
theorem dy_eq (e : EReal) :
    Ideal.div (Ideal.ofBits .f32 0x3F000000#32 * 1) (Ideal.ofBits .f32 0x44800000#32) * (Ideal.ofBits .f32 0x40000000#32 * e)
      = e * Ideal.ofBits .f32 0x3A800000#32 := by
  rw [div1024, cHalf, cTwo, cInv, mul_one, ← EReal.coe_mul, ← mul_assoc, ← EReal.coe_mul, mul_comm]
  norm_num

/-- A constant factor of the rows' losses may be taken out of their sum. -/
theorem loss_eq {n : ℕ} (f : Fin n → EReal) :
    ∑ r, Ideal.ofBits .f32 0x3F000000#32 * f r = Ideal.ofBits .f32 0x3F000000#32 * ∑ r, f r := by
  rw [cHalf, mul_comm, ← sum_mul_real f (1 / 2) (by norm_num)]
  exact Finset.sum_congr rfl fun r _ => mul_comm (G := EReal) _ _

/-- The slope of SiLU, in the two forms in which it is written. -/
theorem silu_eq (g : EReal) : sigm g + g * (sigm g * (1 - sigm g)) = sigm g * (1 + g * (1 - sigm g)) := by
  induction g using EReal.rec with
  | bot =>
    have ht : (1 : EReal) + ⊤ = ⊤ := by
      rw [show (1 : EReal) = ((1 : ℝ) : EReal) from rfl, EReal.coe_add_top]
    have h : sigm ⊥ = 0 := by simp [sigm, Ideal.div, ht]
    simp [h]
  | top =>
    have h : sigm ⊤ = 1 := by simp [sigm, Ideal.div]
    have h1 : (1 : EReal) - 1 = 0 := by
      rw [show (1 : EReal) = ((1 : ℝ) : EReal) from rfl, ← EReal.coe_sub, sub_self, EReal.coe_zero]
    simp [h, h1]
  | coe r =>
    have he : (0 : ℝ) < 1 + Real.exp (-r) := by positivity
    have h : sigm (r : EReal) = ((1 / (1 + Real.exp (-r)) : ℝ) : EReal) := by
      rw [sigm, ← EReal.coe_neg, Ideal.exp_coe, show (1 : EReal) = ((1 : ℝ) : EReal) from rfl, ← EReal.coe_add, Ideal.div_coe he.ne', ← EReal.coe_mul, one_mul]
    rw [h, show (1 : EReal) = ((1 : ℝ) : EReal) from rfl]
    simp only [← EReal.coe_sub, ← EReal.coe_mul, ← EReal.coe_add]
    congr 1
    ring

end Cert.FfnMath
end
-- ==== Proof.FfnRead.lean ====
/- What the reference of the feed-forward sub-layer and the loss computes, read at one element. -/
module

public import proofs.«01_k».proof.Proof.Gen.FfnRefIdeal.Run
public import proofs.«01_k».proof.Proof.FfnMath
public import Idealize.ShloMosaic.Lib.Pointwise
public import Idealize.ShloMosaic.Lib.Tactic.CleanTypes

@[expose] public section

set_option maxRecDepth 16384

noncomputable section

namespace Cert.FfnRefIdeal.Read

open Cert.FfnRefIdeal Cert.FfnRefIdeal.Gen Cert.MergeMath Cert.FfnMath Idealize.ShloMosaic Idealize.ShloMosaic.TcCoe Idealize.SL.Sem

/-! ## The stages, by name -/

section Defs

variable (X : FVec Ideal S2048x1024 .f32) (G : FVec Ideal S1024 .f32) (W : FVec Ideal S1024x5632 .f32) (H : FVec Ideal S2048x5632 .f32)
  (WD : FVec Ideal S2816x1024 .f32) (A : FVec Ideal S2048x2816 .f32) (X2 T : FVec Ideal S2048x1024 .f32) (E : FVec Ideal S2048x1024 .f32)

def ms : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def nrm : FVec Ideal S2048x1024 .f32 :=
  mulf X (broadcastInDim S2048x1024 ![0, 1] bcast_S2048x1_S2048x1024_0_1 (Host.rsqrt (ms X)))

def gu : FVec Ideal S2048x5632 .f32 :=
  Host.dotGeneral dot_S2048x1024_S1024x5632_S2048x5632_1_0_0_1_n_n none (mulf (nrm X) (broadcastInDim S2048x1024 ![0, 1] bcast_S1x1024_S2048x1024_0_1 (broadcastInDim S1x1024 ![1] bcast_S1024_S1x1024_1 G))) W

def gate : FVec Ideal S2048x2816 .f32 := extractStridedSlice S2048x2816 ![0, 0] H slices_S2048x5632_S2048x2816_0_0

def up : FVec Ideal S2048x2816 .f32 := extractStridedSlice S2048x2816 ![0, 2816] H slices_S2048x5632_S2048x2816_0_2816

def sg : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf (gate H))))

def act : FVec Ideal S2048x2816 .f32 := mulf (mulf (gate H) (sg H)) (up H)

def ff : FVec Ideal S2048x1024 .f32 := Host.dotGeneral dot_S2048x2816_S2816x1024_S2048x1024_1_0_0_1_n_n none (act H) WD

/-- The output's distance from the target, of the sub-layer's `X`. -/
def err : FVec Ideal S2048x1024 .f32 := subf (addf X2 (mulf (nrm X) (broadcastInDim S2048x1024 ![0, 1] bcast_S1x1024_S2048x1024_0_1 (broadcastInDim S1x1024 ![1] bcast_S1024_S1x1024_1 G)))) T

def dyOf : FVec Ideal S2048x1024 .f32 :=
  mulf (broadcastInDim S2048x1024 ![0] bcast_S2048_S2048x1024_0 (Host.divf (mulf (broadcastInDim S2048 ![] bcast_S_S2048 (constant S_ .f32 0x3F000000#32)) (broadcastInDim S2048 ![] bcast_S_S2048 (constant S_ .f32 0x3F800000#32))) (broadcastInDim S2048 ![] bcast_S_S2048 (constant S_ .f32 0x44800000#32)))) (mulf (broadcastInDim S2048x1024 ![] bcast_S_S2048x1024 (constant S_ .f32 0x40000000#32)) E)

def cot : FVec Ideal S2048x1024 .f32 := mulf (dyOf E) (broadcastInDim S2048x1024 ![0, 1] bcast_S1x1024_S2048x1024_0_1 (broadcastInDim S1x1024 ![1] bcast_S1024_S1x1024_1 G))

def coef : FVec Ideal S2048x1024 .f32 :=
  broadcastInDim S2048x1024 ![0] bcast_S2048_S2048x1024_0 (Host.reduceAdd (Host.divf (mulf (shapeCast S2048x1 (Host.reduceAdd (mulf X (cot G E)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (ms X)) (ms X)))) (broadcastInDim S2048x1 ![] bcast_S_S2048x1 (constant S_ .f32 0x44800000#32))) (constant S_ .f32 0x00000000#32) reducesTo_S2048x1_S2048_d1 h_S_)

def dffOf : FVec Ideal S2048x1024 .f32 :=
  addf (addf (mulf (cot G E) (broadcastInDim S2048x1024 ![0, 1] bcast_S2048x1_S2048x1024_0_1 (Host.rsqrt (ms X)))) (mulf X (coef X G E))) (mulf (coef X G E) X)

def dact (WD : FVec Ideal S2816x1024 .f32) (X : FVec Ideal S2048x1024 .f32) : FVec Ideal S2048x2816 .f32 := Host.dotGeneral dot_S2048x1024_S2816x1024_S2048x2816_1_1_0_0_n_n none X WD

def lossOf : FVec Ideal S64x128 .f32 :=
  shapeCast S64x128 (broadcastInDim S8x8x128 ![0, 1, 2] bcast_S8x1x1_S8x8x128_0_1_2 (broadcastInDim S8x1x1 ![0] bcast_S8_S8x1x1_0 (Host.reduceAdd (shapeCast S8x256 (mulf (broadcastInDim S2048 ![] bcast_S_S2048 (constant S_ .f32 0x3F000000#32)) (Host.divf (Host.reduceAdd (mulf E E) (constant S_ .f32 0x00000000#32) reducesTo_S2048x1024_S2048_d1 h_S_) (broadcastInDim S2048 ![] bcast_S_S2048 (constant S_ .f32 0x44800000#32)))) shapeCasts_S2048_S8x256) (constant S_ .f32 0x00000000#32) reducesTo_S8x256_S8_d1 h_S_))) shapeCasts_S8x8x128_S64x128

def dgOf : FVec Ideal S1x1024 .f32 :=
  shapeCast S1x1024 (Host.reduceAdd (shapeCast S1x1024 (Host.reduceAdd (mulf (nrm X) (dyOf E)) (constant S_ .f32 0x00000000#32) reducesTo_S2048x1024_S1024_d0 h_S_) shapeCasts_S1024_S1x1024) (constant S_ .f32 0x00000000#32) reducesTo_S1x1024_S1024_d0 h_S_) shapeCasts_S1024_S1x1024

/-- The gradients of the gate and of the up projection side by side, of the activation's gradient `A`. -/
def dguOf : FVec Ideal S2048x5632 .bf16 :=
  truncf .bf16 (concatenate S2048x5632 1 [⟨S2048x2816, (mulf (mulf A (up H)) (addf (mulf (broadcastInDim S2048x2816 ![] bcast_S_S2048x2816 (constant S_ .f32 0x3F800000#32)) (sg H)) (mulf (mulf (gate H) (broadcastInDim S2048x2816 ![] bcast_S_S2048x2816 (constant S_ .f32 0x3F800000#32))) (mulf (sg H) (subf (broadcastInDim S2048x2816 ![] bcast_S_S2048x2816 (constant S_ .f32 0x3F800000#32)) (sg H))))) : (⟨S2048x2816, .f32⟩ : BufTy).Contents (Elt Ideal))⟩, ⟨S2048x2816, (mulf A (mulf (gate H) (sg H)) : (⟨S2048x2816, .f32⟩ : BufTy).Contents (Elt Ideal))⟩] concatenates_S2048x2816_S2048x2816_S2048x5632_d1) bitsLt_bf16_f32

/-! ## Each stage at an element -/

theorem ms_at (i : Fin 2048) : ms X (ix2 i 0)
    = Ideal.div (∑ k : Fin 1024, X (ix2 i k) * X (ix2 i k)) (Ideal.ofBits .f32 0x44800000#32) + Ideal.ofBits .f32 0x358637BD#32 := by
  pointwise [ms]

theorem rs_at (i : Fin 2048) : (Host.rsqrt (ms X) : FVec Ideal S2048x1 .f32) (ix2 i 0) = rinv fun k : Fin 1024 => X (ix2 i k) := by
  unfold rinv
  pointwise [ms_at X]

theorem nrm_at (i : Fin 2048) (k : Fin 1024) : nrm X (ix2 i k) = X (ix2 i k) * rinv fun k : Fin 1024 => X (ix2 i k) := by
  unfold rinv
  pointwise [nrm, ms_at X]

theorem gu_at (i : Fin 2048) (n : Fin 5632) : gu X G W (ix2 i n) = ∑ k : Fin 1024, (nrm X (ix2 i k) * G (ix1 k)) * W (ix2 k n) := by
  pointwise [gu]

theorem gate_at (i : Fin 2048) (n : Fin 2816) : gate H (ix2 i n) = H (ix2 i ⟨n, by omega⟩) := by
  pointwise [gate]

theorem up_at (i : Fin 2048) (n : Fin 2816) : up H (ix2 i n) = H (ix2 i ⟨2816 + n, by omega⟩) := by
  pointwise [up]

theorem sg_at (i : Fin 2048) (n : Fin 2816) : sg H (ix2 i n) = sigm (gate H (ix2 i n)) := by
  unfold sigm
  pointwise [sg]

theorem act_at (i : Fin 2048) (n : Fin 2816) : act H (ix2 i n) = gate H (ix2 i n) * sigm (gate H (ix2 i n)) * up H (ix2 i n) := by
  pointwise [act, sg_at H]

theorem ff_at (i : Fin 2048) (k : Fin 1024) : ff H WD (ix2 i k) = ∑ n : Fin 2816, act H (ix2 i n) * WD (ix2 n k) := by
  pointwise [ff]

theorem err_at (i : Fin 2048) (k : Fin 1024) : err X G X2 T (ix2 i k)
    = X2 (ix2 i k) + X (ix2 i k) * (rinv fun k : Fin 1024 => X (ix2 i k)) * G (ix1 k) - T (ix2 i k) := by
  pointwise [err, nrm_at X]

theorem dyOf_at (i : Fin 2048) (k : Fin 1024) : dyOf E (ix2 i k) = E (ix2 i k) * Ideal.ofBits .f32 0x3A800000#32 := by
  rw [← dy_eq]
  pointwise [dyOf]

theorem cot_at (i : Fin 2048) (k : Fin 1024) : cot G E (ix2 i k) = dyOf E (ix2 i k) * G (ix1 k) := by
  pointwise [cot]

theorem coef_at (i : Fin 2048) (k : Fin 1024) : coef X G E (ix2 i k)
    = rmsCoef (fun k : Fin 1024 => X (ix2 i k)) fun k => dyOf E (ix2 i k) * G (ix1 k) := by
  unfold coef rmsCoef
  pointwise [cot_at G E]
  simp only [Finset.univ_unique, Finset.sum_singleton, Fin.default_eq_zero, Fin.isValue, ms_at X, rs_at X]
  unfold rinv
  rfl

theorem dffOf_at (i : Fin 2048) (k : Fin 1024) : dffOf X G E (ix2 i k)
    = rmsBwd (fun k : Fin 1024 => X (ix2 i k)) (fun k => dyOf E (ix2 i k) * G (ix1 k)) k := by
  rw [rms_eq]
  unfold dffOf
  pointwise [coef_at X G E, cot_at G E]
  simp only [ms_at X, rinv, add_assoc]

theorem dact_at (i : Fin 2048) (n : Fin 2816) : dact WD X (ix2 i n) = ∑ k : Fin 1024, X (ix2 i k) * WD (ix2 n k) := by
  pointwise [dact]

theorem dgOf_at (k : Fin 1024) : dgOf X E (ix2 0 k)
    = ∑ i : Fin 2048, dyOf E (ix2 i k) * (X (ix2 i k) * rinv fun k : Fin 1024 => X (ix2 i k)) := by
  unfold dgOf
  pointwise
  simp only [Finset.univ_unique, Finset.sum_singleton, nrm_at X]
  exact Finset.sum_congr rfl fun i _ => mul_comm (G := EReal) _ _

theorem dguOf_at (i : Fin 2048) (n : Fin 5632) : dguOf H A (ix2 i n)
    = if h : (n : ℕ) < 2816 then A (ix2 i ⟨n, h⟩) * up H (ix2 i ⟨n, h⟩) * (sigm (gate H (ix2 i ⟨n, h⟩)) * (1 + gate H (ix2 i ⟨n, h⟩) * (1 - sigm (gate H (ix2 i ⟨n, h⟩)))))
      else A (ix2 i ⟨n - 2816, by omega⟩) * (gate H (ix2 i ⟨n - 2816, by omega⟩) * sigm (gate H (ix2 i ⟨n - 2816, by omega⟩))) := by
  unfold dguOf
  pointwise
  split
  · rw [← silu_eq, sg_at]
  · rw [sg_at]

theorem lossOf_at (t : Fin 8) (a : Fin 8) (b : Fin 128) : lossOf E (ix2 ⟨t * 8 + a, by omega⟩ b)
    = Ideal.ofBits .f32 0x3F000000#32 * ∑ r : Fin 256, Ideal.div (∑ k : Fin 1024, E (ix2 ⟨t * 256 + r, by omega⟩ k) * E (ix2 ⟨t * 256 + r, by omega⟩ k)) (Ideal.ofBits .f32 0x44800000#32) := by
  rw [← loss_eq]
  unfold lossOf
  pointwise

end Defs

/-! ## The results, as functions of the program's arguments -/

section Out

variable (X : FVec Ideal S2048x1024 .f32) (G3 : FVec Ideal S1024 .f32) (WU : FVec Ideal S1024x5632 .f32) (WD : FVec Ideal S2816x1024 .f32)
  (G4 : FVec Ideal S1024 .f32) (T : FVec Ideal S2048x1024 .f32)

abbrev oFF : FVec Ideal S2048x1024 .f32 := ff (gu X G3 WU) WD

abbrev oE : FVec Ideal S2048x1024 .f32 := err (oFF X G3 WU WD) G4 X T

abbrev oD : FVec Ideal S2048x1024 .f32 := dffOf (oFF X G3 WU WD) G4 (oE X G3 WU WD G4 T)

def o6 : FVec Ideal S2048x2816 .bf16 := truncf .bf16 (act (gu X G3 WU)) bitsLt_bf16_f32

def o7 : FVec Ideal S2048x1024 .bf16 := truncf .bf16 (oD X G3 WU WD G4 T) bitsLt_bf16_f32

def o8 : FVec Ideal S2048x1024 .f32 := dyOf (oE X G3 WU WD G4 T)

def o9 : FVec Ideal S64x128 .f32 := lossOf (oE X G3 WU WD G4 T)

def o10 : FVec Ideal S1x1024 .f32 := dgOf (oFF X G3 WU WD) (oE X G3 WU WD G4 T)

def o11 : FVec Ideal S2048x5632 .bf16 := dguOf (gu X G3 WU) (dact WD (oD X G3 WU WD G4 T))

theorem o6_at (i : Fin 2048) (n : Fin 2816) : o6 X G3 WU (ix2 i n) = act (gu X G3 WU) (ix2 i n) := by
  pointwise [o6]

theorem o7_at (i : Fin 2048) (k : Fin 1024) : o7 X G3 WU WD G4 T (ix2 i k) = oD X G3 WU WD G4 T (ix2 i k) := by
  pointwise [o7]

end Out

end Cert.FfnRefIdeal.Read
end
-- ==== Proof.FfnPay.lean ====
/- What the kernel of the feed-forward sub-layer and the loss computes on blocks of any contents, read at one element. -/
module

public import proofs.«01_k».proof.Proof.Gen.FfnIdeal.Skeleton
public import proofs.«01_k».proof.Proof.FfnMath
public import Idealize.ShloMosaic.Lib.Pointwise
public import Idealize.ShloMosaic.Lib.Tactic.CleanTypes

@[expose] public section

set_option maxRecDepth 16384

noncomputable section

namespace Cert.FfnIdeal.Pay

open Cert.FfnIdeal Cert.FfnIdeal.Gen Cert.MergeMath Cert.FfnMath Idealize.ShloMosaic Idealize.ShloMosaic.TcCoe Idealize.SL.Sem

section Forward

variable (h : FVec Ideal S256x1024 .bf16) (a b c d : FVec Ideal S1x1024x1408 .bf16) (w : FVec Ideal S2816x1024 .bf16)

theorem gate_at (r : Fin 256) (n : Fin 2816) : (k0_pay8 (F := Ideal) h a b) (ix2 r n)
    = if hn : (n : ℕ) < 1408 then ∑ k : Fin 1024, h (ix2 r k) * a (ix3 0 k ⟨n, hn⟩) else ∑ k : Fin 1024, h (ix2 r k) * b (ix3 0 k ⟨n - 1408, by omega⟩) := by
  pointwise [k0_pay8, k0_pay7]

theorem up_at (r : Fin 256) (n : Fin 2816) : (k0_pay9 (F := Ideal) h c d) (ix2 r n)
    = if hn : (n : ℕ) < 1408 then ∑ k : Fin 1024, h (ix2 r k) * c (ix3 0 k ⟨n, hn⟩) else ∑ k : Fin 1024, h (ix2 r k) * d (ix3 0 k ⟨n - 1408, by omega⟩) := by
  pointwise [k0_pay9, k0_pay7]

theorem sg_at (r : Fin 256) (n : Fin 2816) : (k0_pay10 (F := Ideal) h a b) (ix2 r n) = sigm ((k0_pay8 (F := Ideal) h a b) (ix2 r n)) := by
  unfold sigm
  pointwise [k0_pay10]
  rw [zero_sub]

theorem act_at (r : Fin 256) (n : Fin 2816) : (k0_pay11 (F := Ideal) h a b c d) (ix2 r n)
    = (k0_pay8 (F := Ideal) h a b) (ix2 r n) * sigm ((k0_pay8 (F := Ideal) h a b) (ix2 r n)) * (k0_pay9 (F := Ideal) h c d) (ix2 r n) := by
  rw [← sg_at]
  pointwise [k0_pay11]

theorem ff_at (r : Fin 256) (k : Fin 1024) : (k0_pay12 (F := Ideal) h a b c d w) (ix2 r k)
    = ∑ n : Fin 2816, (k0_pay11 (F := Ideal) h a b c d) (ix2 r n) * w (ix2 n k) := by
  pointwise [k0_pay12]

theorem sq_at (r : Fin 256) (k : Fin 1024) : (k0_pay13 (F := Ideal) h a b c d w) (ix2 r k)
    = (k0_pay12 (F := Ideal) h a b c d w) (ix2 r k) * (k0_pay12 (F := Ideal) h a b c d w) (ix2 r k) := by
  pointwise [k0_pay13]

end Forward

section Loss

variable (f q : FVec Ideal S256x1024 .f32) (g acc : FVec Ideal S1x1024 .f32) (x y : FVec Ideal S256x1024 .f32)
  (hq : ∀ (r : Fin 256) (k : Fin 1024), q (ix2 r k) = f (ix2 r k) * f (ix2 r k))

include hq

theorem rinv_at (r : Fin 256) : (k0_pay14 (F := Ideal) q) (ix2 r 0) = rinv fun k : Fin 1024 => f (ix2 r k) := by
  unfold rinv
  pointwise [k0_pay14]
  simp only [hq]

theorem n_at (r : Fin 256) (k : Fin 1024) : (k0_pay15 (F := Ideal) f q) (ix2 r k) = f (ix2 r k) * rinv fun k : Fin 1024 => f (ix2 r k) := by
  pointwise [k0_pay15]
  rw [rinv_at f q hq]

theorem err_at (r : Fin 256) (k : Fin 1024) : (k0_pay17 (F := Ideal) f q g x y) (ix2 r k)
    = x (ix2 r k) + f (ix2 r k) * (rinv fun k : Fin 1024 => f (ix2 r k)) * g (ix2 0 k) - y (ix2 r k) := by
  pointwise [k0_pay17, k0_pay16]
  rw [n_at f q hq]

omit hq in
theorem loss_at (a : Fin 8) (b : Fin 128) : (k0_pay18 (F := Ideal) f q g x y) (ix2 a b)
    = Ideal.ofBits .f32 0x3F000000#32 * ∑ r : Fin 256, Ideal.div (∑ k : Fin 1024, (k0_pay17 (F := Ideal) f q g x y) (ix2 r k) * (k0_pay17 (F := Ideal) f q g x y) (ix2 r k)) (Ideal.ofBits .f32 0x44800000#32) := by
  pointwise [k0_pay18]

omit hq in
theorem dy_at (r : Fin 256) (k : Fin 1024) : (k0_pay19 (F := Ideal) f q g x y) (ix2 r k)
    = (k0_pay17 (F := Ideal) f q g x y) (ix2 r k) * Ideal.ofBits .f32 0x3A800000#32 := by
  pointwise [k0_pay19]

omit hq in
theorem cot_at (r : Fin 256) (k : Fin 1024) : (k0_pay20 (F := Ideal) f q g x y) (ix2 r k)
    = (k0_pay19 (F := Ideal) f q g x y) (ix2 r k) * g (ix2 0 k) := by
  pointwise [k0_pay20, k0_pay16]

theorem s_at (r : Fin 256) : (k0_pay21 (F := Ideal) f q g x y) (ix2 r 0)
    = ∑ k : Fin 1024, (k0_pay19 (F := Ideal) f q g x y) (ix2 r k) * g (ix2 0 k) * (f (ix2 r k) * rinv fun k : Fin 1024 => f (ix2 r k)) := by
  pointwise [k0_pay21]
  simp only [n_at f q hq, cot_at]

/-- The gradient of the norm's input, from the values that the kernel keeps. -/
abbrev dffP : FVec Ideal S256x1024 .bf16 :=
  k0_pay1 (F := Ideal) (k0_pay14 q) (k0_pay15 f q) (k0_pay20 f q g x y) (k0_pay21 f q g x y) (Scalar.ofBits .f32 0x44800000#32)

theorem dff_at (r : Fin 256) (k : Fin 1024) : dffP f q g x y (ix2 r k)
    = rmsBwd (fun k : Fin 1024 => f (ix2 r k)) (fun k => (k0_pay19 (F := Ideal) f q g x y) (ix2 r k) * g (ix2 0 k)) k := by
  unfold rmsBwd
  pointwise [dffP, k0_pay1]
  simp only [n_at f q hq, cot_at, s_at f q g x y hq, rinv_at f q hq]

theorem dg_at (k : Fin 1024) : (k0_pay2 (F := Ideal) (k0_pay15 f q) (k0_pay19 f q g x y)) (ix2 0 k)
    = ∑ r : Fin 256, (k0_pay19 (F := Ideal) f q g x y) (ix2 r k) * (f (ix2 r k) * rinv fun k : Fin 1024 => f (ix2 r k)) := by
  pointwise [k0_pay2]
  simp only [n_at f q hq]

omit hq in
theorem dgs_at (k : Fin 1024) : (k0_pay3 (F := Ideal) x y acc) (ix2 0 k) = acc (ix2 0 k) + (k0_pay2 (F := Ideal) x y) (ix2 0 k) := by
  pointwise [k0_pay3]

end Loss

section Back

variable (u v s : FVec Ideal S256x2816 .f32) (p : FVec Ideal S256x1 .f32) (n e : FVec Ideal S256x1024 .f32) (z : FVec Ideal S256x1 .f32) (o : EReal) (w : FVec Ideal S2816x1024 .bf16)

theorem dact_at (r : Fin 256) (j : Fin 2816) : (k0_pay4 (F := Ideal) p n e z o w) (ix2 r j)
    = ∑ k : Fin 1024, (k0_pay1 (F := Ideal) p n e z o) (ix2 r k) * w (ix2 j k) := by
  pointwise [k0_pay4]

theorem dgate_at (r : Fin 256) (j : Fin 2816) : (k0_pay5 (F := Ideal) u v s p n e z o w) (ix2 r j)
    = (k0_pay4 (F := Ideal) p n e z o w) (ix2 r j) * v (ix2 r j) * (s (ix2 r j) * (1 + u (ix2 r j) * (1 - s (ix2 r j)))) := by
  pointwise [k0_pay5]

theorem dup_at (r : Fin 256) (j : Fin 2816) : (k0_pay6 (F := Ideal) u s p n e z o w) (ix2 r j)
    = (k0_pay4 (F := Ideal) p n e z o w) (ix2 r j) * (u (ix2 r j) * s (ix2 r j)) := by
  pointwise [k0_pay6]

end Back

end Cert.FfnIdeal.Pay
end
-- ==== Proof.FfnTile.lean ====
/- The feed-forward sub-layer, its gradient and the loss: the kernel's tiles are the tiles of the reference's arrays. -/
module

public import proofs.«01_k».proof.Proof.Gen.FfnIdeal.Value
public import proofs.«01_k».proof.Proof.FfnRead
public import proofs.«01_k».proof.Proof.FfnPay
public import Idealize.ShloMosaic.Lib.Pipeline.ValueKit
public import Idealize.ShloMosaic.Lib.Pipeline.ReadBack
public import proofs.«01_k».proof.Defs

@[expose] public section

set_option maxRecDepth 16384

set_option maxHeartbeats 4000000

noncomputable section

namespace Cert.FfnIdeal.Value

open Cert.FfnIdeal Cert.FfnIdeal.Gen Cert.MergeMath Cert.FfnMath Idealize.ShloMosaic Idealize.ShloMosaic.TcCoe Idealize.SL.Sem
open Cert.FfnRefIdeal.Read

/-! ## Loads of a shard of a block -/

theorem ldw0 {e : EltTy} (x : Vec Ideal S4x1024x1408 e) (k : Fin 1024) (n : Fin 1408) :
    View.ld x (Rect.unit ![0, 0, 0] ![1, 1024, 1408] inb_S4x1024x1408_S1x1024x1408_0_0_0) (ix3 0 k n) = x (ix3 0 k n) := by
  pointwise

theorem ldw1 {e : EltTy} (x : Vec Ideal S4x1024x1408 e) (k : Fin 1024) (n : Fin 1408) :
    View.ld x (Rect.unit ![1, 0, 0] ![1, 1024, 1408] inb_S4x1024x1408_S1x1024x1408_1_0_0) (ix3 0 k n) = x (ix3 1 k n) := by
  pointwise

theorem ldw2 {e : EltTy} (x : Vec Ideal S4x1024x1408 e) (k : Fin 1024) (n : Fin 1408) :
    View.ld x (Rect.unit ![2, 0, 0] ![1, 1024, 1408] inb_S4x1024x1408_S1x1024x1408_2_0_0) (ix3 0 k n) = x (ix3 2 k n) := by
  pointwise

theorem ldw3 {e : EltTy} (x : Vec Ideal S4x1024x1408 e) (k : Fin 1024) (n : Fin 1408) :
    View.ld x (Rect.unit ![3, 0, 0] ![1, 1024, 1408] inb_S4x1024x1408_S1x1024x1408_3_0_0) (ix3 0 k n) = x (ix3 3 k n) := by
  pointwise

/-! ## The blocks -/

variable (m : (ℓ : Loc nD τ sig) → Buf (Elt Ideal) ℓ) (c : Dev nD)

abbrev X : FVec Ideal S2048x1024 .f32 := m ((c : Thread nD τ).loc main_arg0)
abbrev G3 : FVec Ideal S1024 .f32 := m ((c : Thread nD τ).loc main_arg1)
abbrev WU : FVec Ideal S1024x5632 .f32 := m ((c : Thread nD τ).loc main_arg2)
abbrev WD : FVec Ideal S2816x1024 .f32 := m ((c : Thread nD τ).loc main_arg3)
abbrev G4 : FVec Ideal S1024 .f32 := m ((c : Thread nD τ).loc main_arg4)
abbrev T : FVec Ideal S2048x1024 .f32 := m ((c : Thread nD τ).loc main_arg5)

theorem in0 (i : Fin 2048) (k : Fin 1024) : (V m c main_v13 : FVec Ideal S2048x1024 .bf16) (ix2 i k)
    = X m c (ix2 i k) * (rinv fun k : Fin 1024 => X m c (ix2 i k)) * G3 m c (ix1 k) := by
  unfold rinv
  entry_read
  pointwise

theorem in1 (j : Fin 4) (k : Fin 1024) (n : Fin 1408) : (V m c main_v16 : FVec Ideal S4x1024x1408 .bf16) (ix3 j k n) = WU m c (ix2 k ⟨j * 1408 + n, by omega⟩) := by
  entry_read
  pointwise

theorem in2 (n : Fin 2816) (k : Fin 1024) : (V m c main_v17 : FVec Ideal S2816x1024 .bf16) (ix2 n k) = WD m c (ix2 n k) := by
  entry_read
  pointwise

theorem in5 (k : Fin 1024) : (V m c main_v18 : FVec Ideal S1x1024 .f32) (ix2 0 k) = G4 m c (ix1 k) := by
  entry_read
  pointwise

theorem idx : ∀ t : Fin cfg0.N, win0_0.index t = ![t.val, 0] ∧ win0_1.index t = ![0, 0, 0] ∧ win0_2.index t = ![0, 0] ∧ win0_3.index t = ![t.val, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] ∧ win0_11.index t = ![t.val, 0] ∧ t.val < 8 :=
  (by decide +kernel : ∀ t : Fin grid0.N, _)

/-- The array's row that a tile's row is. -/
def row (t : Fin cfg0.N) (r : Fin 256) : Fin 2048 := ⟨t.val * 256 + r, by have := lt_of_lt_of_eq t.isLt (show cfg0.N = 8 from N_0); omega⟩

theorem b0 (t : Fin cfg0.N) (r : Fin 256) (k : Fin 1024) : (iblk m c 0 t : FVec Ideal S256x1024 .bf16) (ix2 r k)
    = X m c (ix2 (row t r) k) * (rinv fun k : Fin 1024 => X m c (ix2 (row t r) k)) * G3 m c (ix1 k) := by
  rw [← in0]; unfold row; blk_ext [iblk, idx t]

theorem b1 (t : Fin cfg0.N) (j : Fin 4) (k : Fin 1024) (n : Fin 1408) : (iblk m c 1 t : FVec Ideal S4x1024x1408 .bf16) (ix3 j k n) = WU m c (ix2 k ⟨j * 1408 + n, by omega⟩) := by
  rw [← in1]; blk_ext [iblk, idx t]

theorem b2 (t : Fin cfg0.N) (n : Fin 2816) (k : Fin 1024) : (iblk m c 2 t : FVec Ideal S2816x1024 .bf16) (ix2 n k) = WD m c (ix2 n k) := by
  rw [← in2]; blk_ext [iblk, idx t]

theorem b3 (t : Fin cfg0.N) (r : Fin 256) (k : Fin 1024) : (iblk m c 3 t : FVec Ideal S256x1024 .f32) (ix2 r k) = X m c (ix2 (row t r) k) := by
  unfold row; blk_ext [iblk, V, idx t]

theorem b4 (t : Fin cfg0.N) (r : Fin 256) (k : Fin 1024) : (iblk m c 4 t : FVec Ideal S256x1024 .f32) (ix2 r k) = T m c (ix2 (row t r) k) := by
  unfold row; blk_ext [iblk, V, idx t]

theorem b5 (t : Fin cfg0.N) (k : Fin 1024) : (iblk m c 5 t : FVec Ideal S1x1024 .f32) (ix2 0 k) = G4 m c (ix1 k) := by
  rw [← in5]; blk_ext [iblk, idx t]

theorem emb6 (t : Fin cfg0.N) (r : Fin 256) (k : Fin 2816) : (((cfg0.win 6).blk t).view.emb (ix2 r k) : S2048x2816.Idx) = ix2 (row t r) k := by
  unfold row; blk_ext [idx t]

theorem emb7 (t : Fin cfg0.N) (r : Fin 256) (k : Fin 1024) : (((cfg0.win 7).blk t).view.emb (ix2 r k) : S2048x1024.Idx) = ix2 (row t r) k := by
  unfold row; blk_ext [idx t]

theorem emb8 (t : Fin cfg0.N) (r : Fin 256) (k : Fin 1024) : (((cfg0.win 8).blk t).view.emb (ix2 r k) : S2048x1024.Idx) = ix2 (row t r) k := by
  unfold row; blk_ext [idx t]

theorem emb9 (t : Fin cfg0.N) (a : Fin 8) (b : Fin 128) : (((cfg0.win 9).blk t).view.emb (ix2 a b) : S64x128.Idx)
    = ix2 ⟨t.val * 8 + a, by have := lt_of_lt_of_eq t.isLt (show cfg0.N = 8 from N_0); omega⟩ b := by
  blk_ext [idx t]

theorem emb11 (t : Fin cfg0.N) (r : Fin 256) (k : Fin 5632) : (((cfg0.win 11).blk t).view.emb (ix2 r k) : S2048x5632.Idx) = ix2 (row t r) k := by
  unfold row; blk_ext [idx t]

/-! ## The stages on a tile are the reference's stages on its rows -/

abbrev H : FVec Ideal S2048x5632 .f32 := gu (X m c) (G3 m c) (WU m c)
abbrev FF : FVec Ideal S2048x1024 .f32 := oFF (X m c) (G3 m c) (WU m c) (WD m c)
abbrev E : FVec Ideal S2048x1024 .f32 := oE (X m c) (G3 m c) (WU m c) (WD m c) (G4 m c) (T m c)
abbrev D : FVec Ideal S2048x1024 .f32 := oD (X m c) (G3 m c) (WU m c) (WD m c) (G4 m c) (T m c)

variable (t : Fin cfg0.N)

abbrev gateB : FVec Ideal S256x2816 .f32 := k0_pay8 (iblk m c 0 t)
  (View.ld (iblk m c 1 t) (Rect.unit ![0, 0, 0] ![1, 1024, 1408] inb_S4x1024x1408_S1x1024x1408_0_0_0))
  (View.ld (iblk m c 1 t) (Rect.unit ![1, 0, 0] ![1, 1024, 1408] inb_S4x1024x1408_S1x1024x1408_1_0_0))

abbrev sgB : FVec Ideal S256x2816 .f32 := k0_pay10 (iblk m c 0 t)
  (View.ld (iblk m c 1 t) (Rect.unit ![0, 0, 0] ![1, 1024, 1408] inb_S4x1024x1408_S1x1024x1408_0_0_0))
  (View.ld (iblk m c 1 t) (Rect.unit ![1, 0, 0] ![1, 1024, 1408] inb_S4x1024x1408_S1x1024x1408_1_0_0))

abbrev upB : FVec Ideal S256x2816 .f32 := k0_pay9 (iblk m c 0 t)
  (View.ld (iblk m c 1 t) (Rect.unit ![2, 0, 0] ![1, 1024, 1408] inb_S4x1024x1408_S1x1024x1408_2_0_0))
  (View.ld (iblk m c 1 t) (Rect.unit ![3, 0, 0] ![1, 1024, 1408] inb_S4x1024x1408_S1x1024x1408_3_0_0))

abbrev actB : FVec Ideal S256x2816 .bf16 := k0_pay11 (iblk m c 0 t)
  (View.ld (iblk m c 1 t) (Rect.unit ![0, 0, 0] ![1, 1024, 1408] inb_S4x1024x1408_S1x1024x1408_0_0_0))
  (View.ld (iblk m c 1 t) (Rect.unit ![1, 0, 0] ![1, 1024, 1408] inb_S4x1024x1408_S1x1024x1408_1_0_0))
  (View.ld (iblk m c 1 t) (Rect.unit ![2, 0, 0] ![1, 1024, 1408] inb_S4x1024x1408_S1x1024x1408_2_0_0))
  (View.ld (iblk m c 1 t) (Rect.unit ![3, 0, 0] ![1, 1024, 1408] inb_S4x1024x1408_S1x1024x1408_3_0_0))

abbrev ffB : FVec Ideal S256x1024 .f32 := k0_pay12 (iblk m c 0 t)
  (View.ld (iblk m c 1 t) (Rect.unit ![0, 0, 0] ![1, 1024, 1408] inb_S4x1024x1408_S1x1024x1408_0_0_0))
  (View.ld (iblk m c 1 t) (Rect.unit ![1, 0, 0] ![1, 1024, 1408] inb_S4x1024x1408_S1x1024x1408_1_0_0))
  (View.ld (iblk m c 1 t) (Rect.unit ![2, 0, 0] ![1, 1024, 1408] inb_S4x1024x1408_S1x1024x1408_2_0_0))
  (View.ld (iblk m c 1 t) (Rect.unit ![3, 0, 0] ![1, 1024, 1408] inb_S4x1024x1408_S1x1024x1408_3_0_0)) (iblk m c 2 t)

abbrev sqB : FVec Ideal S256x1024 .f32 := k0_pay13 (iblk m c 0 t)
  (View.ld (iblk m c 1 t) (Rect.unit ![0, 0, 0] ![1, 1024, 1408] inb_S4x1024x1408_S1x1024x1408_0_0_0))
  (View.ld (iblk m c 1 t) (Rect.unit ![1, 0, 0] ![1, 1024, 1408] inb_S4x1024x1408_S1x1024x1408_1_0_0))
  (View.ld (iblk m c 1 t) (Rect.unit ![2, 0, 0] ![1, 1024, 1408] inb_S4x1024x1408_S1x1024x1408_2_0_0))
  (View.ld (iblk m c 1 t) (Rect.unit ![3, 0, 0] ![1, 1024, 1408] inb_S4x1024x1408_S1x1024x1408_3_0_0)) (iblk m c 2 t)

theorem k_gate (r : Fin 256) (n : Fin 2816) : gateB m c t (ix2 r n) = gate (H m c) (ix2 (row t r) n) := by
  rw [Cert.FfnRefIdeal.Read.gate_at, H, gu_at]
  refine (Pay.gate_at _ _ _ r n).trans ?_
  split
  · exact Finset.sum_congr rfl fun k _ => congrArg₂ (· * ·) ((b0 m c t r k).trans (congrArg (· * _) (nrm_at _ _ _).symm))
      ((ldw0 _ k _).trans ((b1 m c t _ k _).trans (congrArg (fun z => WU m c (ix2 k z)) (Fin.ext (show 0 * 1408 + n.val = n.val by omega)))))
  · exact Finset.sum_congr rfl fun k _ => congrArg₂ (· * ·) ((b0 m c t r k).trans (congrArg (· * _) (nrm_at _ _ _).symm))
      ((ldw1 _ k _).trans ((b1 m c t _ k _).trans (congrArg (fun z => WU m c (ix2 k z)) (Fin.ext (show 1 * 1408 + (n.val - 1408) = n.val by omega)))))

theorem k_up (r : Fin 256) (n : Fin 2816) : upB m c t (ix2 r n) = up (H m c) (ix2 (row t r) n) := by
  rw [Cert.FfnRefIdeal.Read.up_at, H, gu_at]
  refine (Pay.up_at _ _ _ r n).trans ?_
  split
  · exact Finset.sum_congr rfl fun k _ => congrArg₂ (· * ·) ((b0 m c t r k).trans (congrArg (· * _) (nrm_at _ _ _).symm))
      ((ldw2 _ k _).trans ((b1 m c t _ k _).trans (congrArg (fun z => WU m c (ix2 k z)) (Fin.ext (show 2 * 1408 + n.val = 2816 + n.val by omega)))))
  · exact Finset.sum_congr rfl fun k _ => congrArg₂ (· * ·) ((b0 m c t r k).trans (congrArg (· * _) (nrm_at _ _ _).symm))
      ((ldw3 _ k _).trans ((b1 m c t _ k _).trans (congrArg (fun z => WU m c (ix2 k z)) (Fin.ext (show 3 * 1408 + (n.val - 1408) = 2816 + n.val by omega)))))

theorem k_sg (r : Fin 256) (n : Fin 2816) : sgB m c t (ix2 r n) = sigm (gate (H m c) (ix2 (row t r) n)) :=
  (Pay.sg_at _ _ _ r n).trans (congrArg sigm (k_gate m c t r n))

theorem k_act (r : Fin 256) (n : Fin 2816) : actB m c t (ix2 r n) = act (H m c) (ix2 (row t r) n) := by
  rw [Cert.FfnRefIdeal.Read.act_at]
  refine (Pay.act_at _ _ _ _ _ r n).trans ?_
  exact congrArg₂ (· * ·) (congrArg₂ (· * ·) (k_gate m c t r n) (congrArg sigm (k_gate m c t r n))) (k_up m c t r n)

theorem k_act' (r : Fin 256) (n : Fin 2816) : actB m c t (ix2 r n) = o6 (X m c) (G3 m c) (WU m c) (ix2 (row t r) n) := by
  rw [o6_at]; exact k_act m c t r n

theorem k_ff (r : Fin 256) (k : Fin 1024) : ffB m c t (ix2 r k) = FF m c (ix2 (row t r) k) := by
  rw [FF, oFF, Cert.FfnRefIdeal.Read.ff_at]
  refine (Pay.ff_at _ _ _ _ _ _ r k).trans ?_
  exact Finset.sum_congr rfl fun n _ => congrArg₂ (· * ·) (k_act m c t r n) (b2 m c t n k)

theorem k_sq (r : Fin 256) (k : Fin 1024) : sqB m c t (ix2 r k) = ffB m c t (ix2 r k) * ffB m c t (ix2 r k) := Pay.sq_at _ _ _ _ _ _ r k

theorem k_err (r : Fin 256) (k : Fin 1024) : (k0_pay17 (F := Ideal) (ffB m c t) (sqB m c t) (iblk m c 5 t) (iblk m c 3 t) (iblk m c 4 t)) (ix2 r k) = E m c (ix2 (row t r) k) := by
  rw [E, oE, Cert.FfnRefIdeal.Read.err_at]
  refine (Pay.err_at _ _ _ _ _ (k_sq m c t) r k).trans ?_
  simp only [k_ff, b3, b4, b5]

theorem k_dy (r : Fin 256) (k : Fin 1024) : (k0_pay19 (F := Ideal) (ffB m c t) (sqB m c t) (iblk m c 5 t) (iblk m c 3 t) (iblk m c 4 t)) (ix2 r k) = o8 (X m c) (G3 m c) (WU m c) (WD m c) (G4 m c) (T m c) (ix2 (row t r) k) := by
  rw [o8, Cert.FfnRefIdeal.Read.dyOf_at]
  exact (Pay.dy_at _ _ _ _ _ r k).trans (congrArg (· * _) (k_err m c t r k))

theorem k_dff (r : Fin 256) (k : Fin 1024) : Pay.dffP (ffB m c t) (sqB m c t) (iblk m c 5 t) (iblk m c 3 t) (iblk m c 4 t) (ix2 r k) = D m c (ix2 (row t r) k) := by
  rw [D, oD, Cert.FfnRefIdeal.Read.dffOf_at]
  refine (Pay.dff_at _ _ _ _ _ (k_sq m c t) r k).trans ?_
  simp only [k_ff, k_dy, b5]
  rfl

theorem k_dff' (r : Fin 256) (k : Fin 1024) : Pay.dffP (ffB m c t) (sqB m c t) (iblk m c 5 t) (iblk m c 3 t) (iblk m c 4 t) (ix2 r k) = o7 (X m c) (G3 m c) (WU m c) (WD m c) (G4 m c) (T m c) (ix2 (row t r) k) := by
  rw [o7_at]; exact k_dff m c t r k

theorem k_loss (a : Fin 8) (b : Fin 128) : (k0_pay18 (F := Ideal) (ffB m c t) (sqB m c t) (iblk m c 5 t) (iblk m c 3 t) (iblk m c 4 t)) (ix2 a b)
    = o9 (X m c) (G3 m c) (WU m c) (WD m c) (G4 m c) (T m c) (ix2 ⟨t.val * 8 + a, by have := lt_of_lt_of_eq t.isLt (show cfg0.N = 8 from N_0); omega⟩ b) := by
  refine (Pay.loss_at _ _ _ _ _ a b).trans ?_
  simp only [k_err]
  exact (lossOf_at _ ⟨t.val, lt_of_lt_of_eq t.isLt (show cfg0.N = 8 from N_0)⟩ a b).symm

/-- A tile's part of the norm's gradient. -/
abbrev partB : FVec Ideal S1x1024 .f32 :=
  k0_pay2 (k0_pay15 (ffB m c t) (sqB m c t)) (k0_pay19 (ffB m c t) (sqB m c t) (iblk m c 5 t) (iblk m c 3 t) (iblk m c 4 t))

theorem k_dg (k : Fin 1024) : partB m c t (ix2 0 k)
    = ∑ r : Fin 256, o8 (X m c) (G3 m c) (WU m c) (WD m c) (G4 m c) (T m c) (ix2 (row t r) k) * (FF m c (ix2 (row t r) k) * rinv fun k : Fin 1024 => FF m c (ix2 (row t r) k)) := by
  refine (Pay.dg_at _ _ _ _ _ (k_sq m c t) k).trans ?_
  simp only [k_dy, k_ff]

abbrev dactB : FVec Ideal S256x2816 .f32 :=
  k0_pay4 (k0_pay14 (sqB m c t)) (k0_pay15 (ffB m c t) (sqB m c t)) (k0_pay20 (ffB m c t) (sqB m c t) (iblk m c 5 t) (iblk m c 3 t) (iblk m c 4 t))
    (k0_pay21 (ffB m c t) (sqB m c t) (iblk m c 5 t) (iblk m c 3 t) (iblk m c 4 t)) (Scalar.ofBits .f32 0x44800000#32) (iblk m c 2 t)

theorem k_dact (r : Fin 256) (n : Fin 2816) : dactB m c t (ix2 r n) = dact (WD m c) (D m c) (ix2 (row t r) n) := by
  rw [Cert.FfnRefIdeal.Read.dact_at]
  refine (Pay.dact_at _ _ _ _ _ _ r n).trans ?_
  exact Finset.sum_congr rfl fun k _ => congrArg₂ (· * ·) (k_dff m c t r k) (b2 m c t n k)

theorem k_dgate (r : Fin 256) (n : Fin 2816) :
    (k0_pay5 (F := Ideal) (gateB m c t) (upB m c t) (sgB m c t) (k0_pay14 (sqB m c t)) (k0_pay15 (ffB m c t) (sqB m c t)) (k0_pay20 (ffB m c t) (sqB m c t) (iblk m c 5 t) (iblk m c 3 t) (iblk m c 4 t))
      (k0_pay21 (ffB m c t) (sqB m c t) (iblk m c 5 t) (iblk m c 3 t) (iblk m c 4 t)) (Scalar.ofBits .f32 0x44800000#32) (iblk m c 2 t)) (ix2 r n)
    = dact (WD m c) (D m c) (ix2 (row t r) n) * up (H m c) (ix2 (row t r) n)
      * (sigm (gate (H m c) (ix2 (row t r) n)) * (1 + gate (H m c) (ix2 (row t r) n) * (1 - sigm (gate (H m c) (ix2 (row t r) n))))) := by
  refine (Pay.dgate_at _ _ _ _ _ _ _ _ _ r n).trans ?_
  rw [k_gate, k_up, k_sg]
  exact congrArg (fun z => z * _ * _) (k_dact m c t r n)

theorem k_dup (r : Fin 256) (n : Fin 2816) :
    (k0_pay6 (F := Ideal) (gateB m c t) (sgB m c t) (k0_pay14 (sqB m c t)) (k0_pay15 (ffB m c t) (sqB m c t)) (k0_pay20 (ffB m c t) (sqB m c t) (iblk m c 5 t) (iblk m c 3 t) (iblk m c 4 t))
      (k0_pay21 (ffB m c t) (sqB m c t) (iblk m c 5 t) (iblk m c 3 t) (iblk m c 4 t)) (Scalar.ofBits .f32 0x44800000#32) (iblk m c 2 t)) (ix2 r n)
    = dact (WD m c) (D m c) (ix2 (row t r) n) * (gate (H m c) (ix2 (row t r) n) * sigm (gate (H m c) (ix2 (row t r) n))) := by
  refine (Pay.dup_at _ _ _ _ _ _ _ _ r n).trans ?_
  rw [k_gate, k_sg]
  exact congrArg (fun z => z * _) (k_dact m c t r n)

end Cert.FfnIdeal.Value
end
-- ==== Proof.FfnValue.lean ====
/- The feed-forward sub-layer, its gradient and the loss: the kernel's final arrays are the reference's results. -/
module

public import proofs.«01_k».proof.Proof.FfnTile

@[expose] public section

set_option maxRecDepth 16384

set_option maxHeartbeats 4000000

noncomputable section

namespace Cert.FfnIdeal.Value

open Cert.FfnIdeal Cert.FfnIdeal.Gen Cert.MergeMath Cert.FfnMath Idealize.ShloMosaic Idealize.ShloMosaic.TcCoe Idealize.SL.Sem
open Cert.FfnRefIdeal.Read

variable (m : (ℓ : Loc nD τ sig) → Buf (Elt Ideal) ℓ) (c : Dev nD)

theorem final6 : (dats m 0 c).arrAt 6 cfg0.N = o6 (X m c) (G3 m c) (WU m c) := by
  refine (dats m 0 c).arrAt_eq_of_covers 6 _ (by decide +kernel) fun t hf y => ?_
  blk_simp
  rw [after0_6]
  by_cases h0 : t.val % 8 = 0
  · have h1 : ¬1 ≤ t.val := by have := (idx t).2.2.2.2.2.2.2.2.2.2.2.2; omega
    rw [outsAt0_A m c t h0 h1]
    frame_out
    idx_vars y
    exact (k_act' m c t _ _).trans (congrArg (o6 (X m c) (G3 m c) (WU m c)) (emb6 t _ _)).symm
  · have h1 : 1 ≤ t.val := by omega
    rw [outsAt0_B m c t h0 h1]
    frame_out
    idx_vars y
    exact (k_act' m c t _ _).trans (congrArg (o6 (X m c) (G3 m c) (WU m c)) (emb6 t _ _)).symm

theorem final7 : (dats m 0 c).arrAt 7 cfg0.N = o7 (X m c) (G3 m c) (WU m c) (WD m c) (G4 m c) (T m c) := by
  refine (dats m 0 c).arrAt_eq_of_covers 7 _ (by decide +kernel) fun t hf y => ?_
  blk_simp
  rw [after0_7]
  by_cases h0 : t.val % 8 = 0
  · have h1 : ¬1 ≤ t.val := by have := (idx t).2.2.2.2.2.2.2.2.2.2.2.2; omega
    rw [outsAt0_A m c t h0 h1]
    frame_out
    idx_vars y
    exact (k_dff' m c t _ _).trans (congrArg (o7 (X m c) (G3 m c) (WU m c) (WD m c) (G4 m c) (T m c)) (emb7 t _ _)).symm
  · have h1 : 1 ≤ t.val := by omega
    rw [outsAt0_B m c t h0 h1]
    frame_out
    idx_vars y
    exact (k_dff' m c t _ _).trans (congrArg (o7 (X m c) (G3 m c) (WU m c) (WD m c) (G4 m c) (T m c)) (emb7 t _ _)).symm

theorem final8 : (dats m 0 c).arrAt 8 cfg0.N = o8 (X m c) (G3 m c) (WU m c) (WD m c) (G4 m c) (T m c) := by
  refine (dats m 0 c).arrAt_eq_of_covers 8 _ (by decide +kernel) fun t hf y => ?_
  blk_simp
  rw [after0_8]
  by_cases h0 : t.val % 8 = 0
  · have h1 : ¬1 ≤ t.val := by have := (idx t).2.2.2.2.2.2.2.2.2.2.2.2; omega
    rw [outsAt0_A m c t h0 h1]
    frame_out
    idx_vars y
    exact (k_dy m c t _ _).trans (congrArg (o8 (X m c) (G3 m c) (WU m c) (WD m c) (G4 m c) (T m c)) (emb8 t _ _)).symm
  · have h1 : 1 ≤ t.val := by omega
    rw [outsAt0_B m c t h0 h1]
    frame_out
    idx_vars y
    exact (k_dy m c t _ _).trans (congrArg (o8 (X m c) (G3 m c) (WU m c) (WD m c) (G4 m c) (T m c)) (emb8 t _ _)).symm

theorem final9 : (dats m 0 c).arrAt 9 cfg0.N = o9 (X m c) (G3 m c) (WU m c) (WD m c) (G4 m c) (T m c) := by
  refine (dats m 0 c).arrAt_eq_of_covers 9 _ (by decide +kernel) fun t hf y => ?_
  blk_simp
  rw [after0_9]
  by_cases h0 : t.val % 8 = 0
  · have h1 : ¬1 ≤ t.val := by have := (idx t).2.2.2.2.2.2.2.2.2.2.2.2; omega
    rw [outsAt0_A m c t h0 h1]
    frame_out
    idx_vars y
    exact (k_loss m c t _ _).trans (congrArg (o9 (X m c) (G3 m c) (WU m c) (WD m c) (G4 m c) (T m c)) (emb9 t _ _)).symm
  · have h1 : 1 ≤ t.val := by omega
    rw [outsAt0_B m c t h0 h1]
    frame_out
    idx_vars y
    exact (k_loss m c t _ _).trans (congrArg (o9 (X m c) (G3 m c) (WU m c) (WD m c) (G4 m c) (T m c)) (emb9 t _ _)).symm

theorem final11 : (dats m 0 c).arrAt 11 cfg0.N = o11 (X m c) (G3 m c) (WU m c) (WD m c) (G4 m c) (T m c) := by
  refine (dats m 0 c).arrAt_eq_of_covers 11 _ (by decide +kernel) fun t hf y => ?_
  blk_simp
  rw [after0_11]
  by_cases h0 : t.val % 8 = 0
  · have h1 : ¬1 ≤ t.val := by have := (idx t).2.2.2.2.2.2.2.2.2.2.2.2; omega
    rw [outsAt0_A m c t h0 h1]
    frame_out
    idx_vars y
    refine Eq.trans ?_ (congrArg (o11 (X m c) (G3 m c) (WU m c) (WD m c) (G4 m c) (T m c)) (emb11 t y0 y1)).symm
    canon_tiles x hx
    case piece0 =>
      idx_vars x
      change (y0 : ℕ) = (x0 : ℕ) at hx0
      change (y1 : ℕ) = 2816 + (x1 : ℕ) at hx1
      rw [o11, dguOf_at, dif_neg (by omega)]
      obtain rfl : y0 = x0 := Fin.ext hx0
      have e : (⟨(y1 : ℕ) - 2816, by omega⟩ : Fin 2816) = x1 := Fin.ext (show (y1 : ℕ) - 2816 = x1 by omega)
      rw [e]
      exact k_dup m c t y0 x1
    case piece1 =>
      idx_vars x
      change (y0 : ℕ) = (x0 : ℕ) at hx0
      change (y1 : ℕ) = (x1 : ℕ) at hx1
      have hl : (y1 : ℕ) < 2816 := by omega
      rw [o11, dguOf_at, dif_pos hl]
      obtain rfl : y0 = x0 := Fin.ext hx0
      have e : (⟨(y1 : ℕ), hl⟩ : Fin 2816) = x1 := Fin.ext hx1
      rw [e]
      exact k_dgate m c t y0 x1
  · have h1 : 1 ≤ t.val := by omega
    rw [outsAt0_B m c t h0 h1]
    frame_out
    idx_vars y
    refine Eq.trans ?_ (congrArg (o11 (X m c) (G3 m c) (WU m c) (WD m c) (G4 m c) (T m c)) (emb11 t y0 y1)).symm
    canon_tiles x hx
    case piece0 =>
      idx_vars x
      change (y0 : ℕ) = (x0 : ℕ) at hx0
      change (y1 : ℕ) = 2816 + (x1 : ℕ) at hx1
      rw [o11, dguOf_at, dif_neg (by omega)]
      obtain rfl : y0 = x0 := Fin.ext hx0
      have e : (⟨(y1 : ℕ) - 2816, by omega⟩ : Fin 2816) = x1 := Fin.ext (show (y1 : ℕ) - 2816 = x1 by omega)
      rw [e]
      exact k_dup m c t y0 x1
    case piece1 =>
      idx_vars x
      change (y0 : ℕ) = (x0 : ℕ) at hx0
      change (y1 : ℕ) = (x1 : ℕ) at hx1
      have hl : (y1 : ℕ) < 2816 := by omega
      rw [o11, dguOf_at, dif_pos hl]
      obtain rfl : y0 = x0 := Fin.ext hx0
      have e : (⟨(y1 : ℕ), hl⟩ : Fin 2816) = x1 := Fin.ext hx1
      rw [e]
      exact k_dgate m c t y0 x1

theorem r10 (t : Fin cfg0.N) (h0 : t.val % 8 = 0) (i : S1x1024.Idx) : (outsAt0 m c t.val t.isLt).2.2.2.2.1 i = 0 + partB m c t i := by
  have h1 : ¬1 ≤ t.val := by have := (idx t).2.2.2.2.2.2.2.2.2.2.2.2; omega
  rw [outsAt0_A m c t h0 h1, zero_add]
  frame_out
  rfl

theorem s10 (t : Fin cfg0.N) (h0 : ¬t.val % 8 = 0) (i : S1x1024.Idx) : (outsAt0 m c t.val t.isLt).2.2.2.2.1 i = (outsAt0 m c (t.val - 1) (Nat.lt_of_le_of_lt (Nat.sub_le _ _) t.isLt)).2.2.2.2.1 i + partB m c t i := by
  have h1 : 1 ≤ t.val := by omega
  rw [outsAt0_B m c t h0 h1]
  frame_out
  idx_vars i
  obtain rfl : i0 = 0 := Subsingleton.elim _ _
  exact Pay.dgs_at _ _ _ _

theorem final10 : (dats m 0 c).arrAt 10 cfg0.N = o10 (X m c) (G3 m c) (WU m c) (WD m c) (G4 m c) (T m c) := by
  refine (dats m 0 c).arrAt_eq_of_after_last 10 t0_7 (by decide +kernel) _ fun j => ?_
  blk_simp
  rw [after0_10]
  idx_vars j
  obtain rfl : j0 = 0 := Subsingleton.elim _ _
  have hs := Pipeline.eq_sum_fin_of_reset_step_apply_last (fun n h => (outsAt0 m c n h).2.2.2.2.1) 8 (fun _ => 0) (fun t j => partB m c t j)
    (r10 m c) (s10 m c) (le_of_eq N_0) t0_7 rfl (ix2 0 j1)
  refine hs.trans ?_
  rw [zero_add, o10, Cert.FfnRefIdeal.Read.dgOf_at]
  simp only [k_dg]
  exact Fin.sum_mul_add_congr (S := 8) (n := 256) fun s k hl => rfl

/-- The two programs end with equal results. -/
theorem algebraic : Cert.algebraic_FfnIdeal_FfnRefIdeal (hFfnIdeal := Cert.FfnIdeal.Gen.facts) (hFfnRefIdeal := Cert.FfnRefIdeal.Gen.facts) := by
  intro m g m' g' hpre hag
  refine ⟨fun c => o6 (X m c) (G3 m c) (WU m c), fun c => o7 (X m c) (G3 m c) (WU m c) (WD m c) (G4 m c) (T m c), fun c => o8 (X m c) (G3 m c) (WU m c) (WD m c) (G4 m c) (T m c), fun c => o9 (X m c) (G3 m c) (WU m c) (WD m c) (G4 m c) (T m c), fun c => o10 (X m c) (G3 m c) (WU m c) (WD m c) (G4 m c) (T m c), fun c => o11 (X m c) (G3 m c) (WU m c) (WD m c) (G4 m c) (T m c), ?_, ?_⟩
  · exact (θ_run _ _ _).mono (fun r h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c), (h c).2.2.2.2.2.2⟩) (run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.FfnRefIdeal.Value.run m' g')
    · obtain ⟨a0, a1, a2, a3, a4, a5⟩ := hag c
      refine Eq.trans (b := o6 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2))) rfl ?_
      rw [a0, a1, a2]
    · obtain ⟨a0, a1, a2, a3, a4, a5⟩ := hag c
      refine Eq.trans (b := o7 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5))) rfl ?_
      rw [a0, a1, a2, a3, a4, a5]
    · obtain ⟨a0, a1, a2, a3, a4, a5⟩ := hag c
      refine Eq.trans (b := o8 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5))) rfl ?_
      rw [a0, a1, a2, a3, a4, a5]
    · obtain ⟨a0, a1, a2, a3, a4, a5⟩ := hag c
      refine Eq.trans (b := o9 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5))) rfl ?_
      rw [a0, a1, a2, a3, a4, a5]
    · obtain ⟨a0, a1, a2, a3, a4, a5⟩ := hag c
      refine Eq.trans (b := o10 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5))) rfl ?_
      rw [a0, a1, a2, a3, a4, a5]
    · obtain ⟨a0, a1, a2, a3, a4, a5⟩ := hag c
      refine Eq.trans (b := o11 (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5))) rfl ?_
      rw [a0, a1, a2, a3, a4, a5]

end Cert.FfnIdeal.Value
end
-- ==== Proof.InFwdRead.lean ====
/- What the reference of the input projections computes, read at one element. -/
module

public import proofs.«01_k».proof.Proof.Gen.InFwdRefIdeal.Run
public import proofs.«01_k».proof.Proof.MergeMath
public import Idealize.ShloMosaic.Lib.Pointwise
public import Idealize.ShloMosaic.Lib.Tactic.CleanTypes

@[expose] public section

set_option maxRecDepth 16384
set_option maxHeartbeats 4000000

noncomputable section

namespace Cert.InFwdRefIdeal.Read

open Cert.InFwdRefIdeal Cert.InFwdRefIdeal.Gen Cert.MergeMath Idealize.ShloMosaic Idealize.ShloMosaic.TcCoe Idealize.SL.Sem

variable (X : FVec Ideal S2048x1024 .f32) (G : FVec Ideal S1024 .f32) (W : FVec Ideal S1024x4608 .f32)

/-! ## The stages, by name -/

def ms : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The normalised input times the norm's weight. -/
def hN : FVec Ideal S2048x1024 .f32 :=
  mulf (mulf X (broadcastInDim S2048x1024 ![0, 1] bcast_S2048x1_S2048x1024_0_1 (Host.rsqrt (ms X)))) (broadcastInDim S2048x1024 ![0, 1] bcast_S1x1024_S2048x1024_0_1 (broadcastInDim S1x1024 ![1] bcast_S1024_S1x1024_1 G))

/-- All the projections side by side. -/
def pr : FVec Ideal S2048x4608 .f32 := Host.dotGeneral dot_S2048x1024_S1024x4608_S2048x4608_1_0_0_1_n_n none (hN X G) W

def o4 : FVec Ideal S2048x1024 .bf16 := truncf .bf16 (hN X G) bitsLt_bf16_f32

def o5 : FVec Ideal S2048x1024 .f32 := extractStridedSlice S2048x1024 ![0, 0] (pr X G W) slices_S2048x4608_S2048x1024_0_0

def o6 : FVec Ideal S2048x512 .bf16 :=
  truncf .bf16 (mulf (extractStridedSlice S2048x512 ![0, 1024] (pr X G W) slices_S2048x4608_S2048x512_0_1024) (broadcastInDim S2048x512 ![] bcast_S_S2048x512 (constant S_ .f32 0x3E000000#32))) bitsLt_bf16_f32

def o7 : FVec Ideal S2048x512 .bf16 := truncf .bf16 (extractStridedSlice S2048x512 ![0, 1536] (pr X G W) slices_S2048x4608_S2048x512_0_1536) bitsLt_bf16_f32

def o8 : FVec Ideal S2048x512 .bf16 := truncf .bf16 (extractStridedSlice S2048x512 ![0, 2048] (pr X G W) slices_S2048x4608_S2048x512_0_2048) bitsLt_bf16_f32

def o9 : FVec Ideal S2048x1024 .f32 := extractStridedSlice S2048x1024 ![0, 2560] (pr X G W) slices_S2048x4608_S2048x1024_0_2560

def o10 : FVec Ideal S2048x1024 .f32 := extractStridedSlice S2048x1024 ![0, 3584] (pr X G W) slices_S2048x4608_S2048x1024_0_3584

/-! ## Each stage at an element -/

theorem ms_at (i : Fin 2048) : ms X (ix2 i 0)
    = Ideal.div (∑ k : Fin 1024, X (ix2 i k) * X (ix2 i k)) (Ideal.ofBits .f32 0x44800000#32) + Ideal.ofBits .f32 0x358637BD#32 := by
  pointwise [ms]

theorem hN_at (i : Fin 2048) (k : Fin 1024) : hN X G (ix2 i k) = X (ix2 i k) * (rinv fun k : Fin 1024 => X (ix2 i k)) * G (ix1 k) := by
  unfold rinv
  pointwise [hN, ms_at X]

theorem pr_at (i : Fin 2048) (n : Fin 4608) : pr X G W (ix2 i n) = ∑ k : Fin 1024, hN X G (ix2 i k) * W (ix2 k n) := by
  pointwise [pr]

theorem o4_at (i : Fin 2048) (k : Fin 1024) : o4 X G (ix2 i k) = hN X G (ix2 i k) := by
  pointwise [o4]

theorem o5_at (i : Fin 2048) (n : Fin 1024) : o5 X G W (ix2 i n) = pr X G W (ix2 i ⟨n, by omega⟩) := by
  pointwise [o5]

theorem o6_at (i : Fin 2048) (n : Fin 512) : o6 X G W (ix2 i n) = pr X G W (ix2 i ⟨1024 + n, by omega⟩) * Ideal.ofBits .f32 0x3E000000#32 := by
  pointwise [o6]

theorem o7_at (i : Fin 2048) (n : Fin 512) : o7 X G W (ix2 i n) = pr X G W (ix2 i ⟨1536 + n, by omega⟩) := by
  pointwise [o7]

theorem o8_at (i : Fin 2048) (n : Fin 512) : o8 X G W (ix2 i n) = pr X G W (ix2 i ⟨2048 + n, by omega⟩) := by
  pointwise [o8]

theorem o9_at (i : Fin 2048) (n : Fin 1024) : o9 X G W (ix2 i n) = pr X G W (ix2 i ⟨2560 + n, by omega⟩) := by
  pointwise [o9]

theorem o10_at (i : Fin 2048) (n : Fin 1024) : o10 X G W (ix2 i n) = pr X G W (ix2 i ⟨3584 + n, by omega⟩) := by
  pointwise [o10]

end Cert.InFwdRefIdeal.Read
end
-- ==== Proof.InFwdPay.lean ====
/- The input projections' kernel: what each store of its body holds, read at one element. -/
module

public import proofs.«01_k».proof.Proof.Gen.InFwdIdeal.Skeleton
public import proofs.«01_k».proof.Proof.MergeMath
public import Idealize.ShloMosaic.Lib.Pointwise
public import Idealize.ShloMosaic.Lib.Tactic.CleanTypes

@[expose] public section

set_option maxRecDepth 16384
set_option maxHeartbeats 4000000

noncomputable section

namespace Cert.InFwdIdeal.Pay

open Cert.InFwdIdeal Cert.InFwdIdeal.Gen Cert.MergeMath Idealize.ShloMosaic Idealize.ShloMosaic.TcCoe Idealize.SL.Sem

variable (x : FVec Ideal S256x1024 .f32) (g : FVec Ideal S1x1024 .f32) (h : FVec Ideal S256x1024 .bf16) (w : FVec Ideal S1x1024x1152 .bf16)

theorem h_at (r : Fin 256) (k : Fin 1024) : (k0_pay10 (F := Ideal) x g) (ix2 r k) = x (ix2 r k) * (rinv fun k : Fin 1024 => x (ix2 r k)) * g (ix2 0 k) := by
  unfold rinv
  pointwise [k0_pay10]

theorem s0_at (r : Fin 256) (n : Fin 1152) : (k0_pay11 (F := Ideal) x g w) (ix2 r n)
    = ∑ k : Fin 1024, (k0_pay10 (F := Ideal) x g) (ix2 r k) * w (ix3 0 k n) := by
  pointwise [k0_pay11]

theorem s1_at (r : Fin 256) (n : Fin 1152) : (k0_pay14 (F := Ideal) x g w) (ix2 r n)
    = ∑ k : Fin 1024, (k0_pay10 (F := Ideal) x g) (ix2 r k) * w (ix3 0 k n) := by
  pointwise [k0_pay14]

theorem s2_at (r : Fin 256) (n : Fin 1152) : (k0_pay4 (F := Ideal) h w) (ix2 r n)
    = ∑ k : Fin 1024, h (ix2 r k) * w (ix3 0 k n) := by
  pointwise [k0_pay4]

theorem s3_at (r : Fin 256) (n : Fin 1152) : (k0_pay7 (F := Ideal) h w) (ix2 r n)
    = ∑ k : Fin 1024, h (ix2 r k) * w (ix3 0 k n) := by
  pointwise [k0_pay7]

theorem ci_at (r : Fin 256) (n : Fin 1024) : (k0_pay12 (F := Ideal) x g w) (ix2 r n)
    = ∑ k : Fin 1024, (k0_pay10 (F := Ideal) x g) (ix2 r k) * w (ix3 0 k ⟨n, by omega⟩) := by
  pointwise [k0_pay12, s0_at x g w]

theorem q0_at (r : Fin 256) (n : Fin 128) : (k0_pay13 (F := Ideal) x g w) (ix2 r n)
    = (∑ k : Fin 1024, (k0_pay10 (F := Ideal) x g) (ix2 r k) * w (ix3 0 k ⟨1024 + n, by omega⟩)) * Ideal.ofBits .f32 0x3E000000#32 := by
  pointwise [k0_pay13, s0_at x g w]

theorem q1_at (r : Fin 256) (n : Fin 384) : (k0_pay1 (F := Ideal) (k0_pay15 x g w)) (ix2 r n)
    = (∑ k : Fin 1024, (k0_pay10 (F := Ideal) x g) (ix2 r k) * w (ix3 0 k ⟨n, by omega⟩)) * Ideal.ofBits .f32 0x3E000000#32 := by
  pointwise [k0_pay1, k0_pay15, s1_at x g w]

theorem k_at (r : Fin 256) (n : Fin 512) : (k0_pay2 (F := Ideal) (k0_pay14 x g w)) (ix2 r n)
    = ∑ k : Fin 1024, (k0_pay10 (F := Ideal) x g) (ix2 r k) * w (ix3 0 k ⟨384 + n, by omega⟩) := by
  pointwise [k0_pay2, s1_at x g w]

theorem v0_at (r : Fin 256) (n : Fin 256) : (k0_pay3 (F := Ideal) (k0_pay14 x g w)) (ix2 r n)
    = ∑ k : Fin 1024, (k0_pay10 (F := Ideal) x g) (ix2 r k) * w (ix3 0 k ⟨896 + n, by omega⟩) := by
  pointwise [k0_pay3, s1_at x g w]

theorem v1_at (r : Fin 256) (n : Fin 256) : (k0_pay5 (F := Ideal) h w) (ix2 r n)
    = ∑ k : Fin 1024, h (ix2 r k) * w (ix3 0 k ⟨n, by omega⟩) := by
  pointwise [k0_pay5, s2_at h w]

theorem gc0_at (r : Fin 256) (n : Fin 896) : (k0_pay6 (F := Ideal) h w) (ix2 r n)
    = ∑ k : Fin 1024, h (ix2 r k) * w (ix3 0 k ⟨256 + n, by omega⟩) := by
  pointwise [k0_pay6, s2_at h w]

theorem gc1_at (r : Fin 256) (n : Fin 128) : (k0_pay8 (F := Ideal) h w) (ix2 r n)
    = ∑ k : Fin 1024, h (ix2 r k) * w (ix3 0 k ⟨n, by omega⟩) := by
  pointwise [k0_pay8, s3_at h w]

theorem ga_at (r : Fin 256) (n : Fin 1024) : (k0_pay9 (F := Ideal) h w) (ix2 r n)
    = ∑ k : Fin 1024, h (ix2 r k) * w (ix3 0 k ⟨128 + n, by omega⟩) := by
  pointwise [k0_pay9, s3_at h w]

end Cert.InFwdIdeal.Pay
end
-- ==== Proof.InFwdTile.lean ====
/- The input projections: the kernel's tiles are the tiles of the reference's arrays. -/
module

public import proofs.«01_k».proof.Proof.Gen.InFwdIdeal.Value
public import proofs.«01_k».proof.Proof.InFwdRead
public import proofs.«01_k».proof.Proof.InFwdPay
public import Idealize.ShloMosaic.Lib.Pipeline.ValueKit
public import Idealize.ShloMosaic.Lib.Pipeline.ReadBack
public import proofs.«01_k».proof.Defs

@[expose] public section

set_option maxRecDepth 16384
set_option maxHeartbeats 4000000

noncomputable section

namespace Cert.InFwdIdeal.Value

open Cert.InFwdIdeal Cert.InFwdIdeal.Gen Cert.MergeMath Idealize.ShloMosaic Idealize.ShloMosaic.TcCoe Idealize.SL.Sem
open Cert.InFwdRefIdeal.Read

/-! ## Loads of a shard of a block -/

abbrev sh0 {e : EltTy} (x : Vec Ideal S4x1024x1152 e) : Vec Ideal S1x1024x1152 e :=
  View.ld x (Rect.unit ![0, 0, 0] ![1, 1024, 1152] inb_S4x1024x1152_S1x1024x1152_0_0_0)

theorem ldw0 {e : EltTy} (x : Vec Ideal S4x1024x1152 e) (k : Fin 1024) (n : Fin 1152) : sh0 x (ix3 0 k n) = x (ix3 0 k n) := by
  unfold sh0
  pointwise

abbrev sh1 {e : EltTy} (x : Vec Ideal S4x1024x1152 e) : Vec Ideal S1x1024x1152 e :=
  View.ld x (Rect.unit ![1, 0, 0] ![1, 1024, 1152] inb_S4x1024x1152_S1x1024x1152_1_0_0)

theorem ldw1 {e : EltTy} (x : Vec Ideal S4x1024x1152 e) (k : Fin 1024) (n : Fin 1152) : sh1 x (ix3 0 k n) = x (ix3 1 k n) := by
  unfold sh1
  pointwise

abbrev sh2 {e : EltTy} (x : Vec Ideal S4x1024x1152 e) : Vec Ideal S1x1024x1152 e :=
  View.ld x (Rect.unit ![2, 0, 0] ![1, 1024, 1152] inb_S4x1024x1152_S1x1024x1152_2_0_0)

theorem ldw2 {e : EltTy} (x : Vec Ideal S4x1024x1152 e) (k : Fin 1024) (n : Fin 1152) : sh2 x (ix3 0 k n) = x (ix3 2 k n) := by
  unfold sh2
  pointwise

abbrev sh3 {e : EltTy} (x : Vec Ideal S4x1024x1152 e) : Vec Ideal S1x1024x1152 e :=
  View.ld x (Rect.unit ![3, 0, 0] ![1, 1024, 1152] inb_S4x1024x1152_S1x1024x1152_3_0_0)

theorem ldw3 {e : EltTy} (x : Vec Ideal S4x1024x1152 e) (k : Fin 1024) (n : Fin 1152) : sh3 x (ix3 0 k n) = x (ix3 3 k n) := by
  unfold sh3
  pointwise

/-! ## The blocks -/

variable (m : (ℓ : Loc nD τ sig) → Buf (Elt Ideal) ℓ) (c : Dev nD)

abbrev X : FVec Ideal S2048x1024 .f32 := m ((c : Thread nD τ).loc main_arg0)
abbrev G : FVec Ideal S1024 .f32 := m ((c : Thread nD τ).loc main_arg1)
abbrev W : FVec Ideal S1024x4608 .f32 := m ((c : Thread nD τ).loc main_arg2)

theorem in1 (k : Fin 1024) : (V m c main_v3 : FVec Ideal S1x1024 .f32) (ix2 0 k) = G m c (ix1 k) := by
  entry_read
  pointwise

theorem in2 (j : Fin 4) (k : Fin 1024) (n : Fin 1152) : (V m c main_v2 : FVec Ideal S4x1024x1152 .bf16) (ix3 j k n) = W m c (ix2 k ⟨j * 1152 + n, by omega⟩) := by
  entry_read
  pointwise

theorem idx : ∀ t : Fin cfg0.N, win0_0.index t = ![t.val, 0] ∧ win0_1.index t = ![0, 0] ∧ win0_2.index t = ![0, 0, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ t.val < 8 :=
  (by decide +kernel : ∀ t : Fin grid0.N, _)

/-- The array's row that a tile's row is. -/
def row (t : Fin cfg0.N) (r : Fin 256) : Fin 2048 := ⟨t.val * 256 + r, by have := lt_of_lt_of_eq t.isLt (show cfg0.N = 8 from N_0); omega⟩

theorem b0 (t : Fin cfg0.N) (r : Fin 256) (k : Fin 1024) : (iblk m c 0 t : FVec Ideal S256x1024 .f32) (ix2 r k) = X m c (ix2 (row t r) k) := by
  unfold row; blk_ext [iblk, V, idx t]

theorem b1 (t : Fin cfg0.N) (k : Fin 1024) : (iblk m c 1 t : FVec Ideal S1x1024 .f32) (ix2 0 k) = G m c (ix1 k) := by
  rw [← in1]; blk_ext [iblk, idx t]

theorem b2 (t : Fin cfg0.N) (j : Fin 4) (k : Fin 1024) (n : Fin 1152) : (iblk m c 2 t : FVec Ideal S4x1024x1152 .bf16) (ix3 j k n) = W m c (ix2 k ⟨j * 1152 + n, by omega⟩) := by
  rw [← in2]; blk_ext [iblk, idx t]

theorem emb4 (t : Fin cfg0.N) (r : Fin 256) (k : Fin 1024) : (((cfg0.win 4).blk t).view.emb (ix2 r k) : S2048x1024.Idx) = ix2 (row t r) k := by
  unfold row; blk_ext [idx t]

theorem emb5 (t : Fin cfg0.N) (r : Fin 256) (k : Fin 1024) : (((cfg0.win 5).blk t).view.emb (ix2 r k) : S2048x1024.Idx) = ix2 (row t r) k := by
  unfold row; blk_ext [idx t]

theorem emb6 (t : Fin cfg0.N) (r : Fin 256) (k : Fin 512) : (((cfg0.win 6).blk t).view.emb (ix2 r k) : S2048x512.Idx) = ix2 (row t r) k := by
  unfold row; blk_ext [idx t]

theorem emb7 (t : Fin cfg0.N) (r : Fin 256) (k : Fin 512) : (((cfg0.win 7).blk t).view.emb (ix2 r k) : S2048x512.Idx) = ix2 (row t r) k := by
  unfold row; blk_ext [idx t]

theorem emb8 (t : Fin cfg0.N) (r : Fin 256) (k : Fin 512) : (((cfg0.win 8).blk t).view.emb (ix2 r k) : S2048x512.Idx) = ix2 (row t r) k := by
  unfold row; blk_ext [idx t]

theorem emb9 (t : Fin cfg0.N) (r : Fin 256) (k : Fin 1024) : (((cfg0.win 9).blk t).view.emb (ix2 r k) : S2048x1024.Idx) = ix2 (row t r) k := by
  unfold row; blk_ext [idx t]

theorem emb10 (t : Fin cfg0.N) (r : Fin 256) (k : Fin 1024) : (((cfg0.win 10).blk t).view.emb (ix2 r k) : S2048x1024.Idx) = ix2 (row t r) k := by
  unfold row; blk_ext [idx t]

/-! ## The stages on a tile are the reference's stages on its rows -/

variable (t : Fin cfg0.N)

abbrev H : FVec Ideal S256x1024 .bf16 := k0_pay10 (iblk m c 0 t) (iblk m c 1 t)

theorem k_h (r : Fin 256) (k : Fin 1024) : H m c t (ix2 r k) = hN (X m c) (G m c) (ix2 (row t r) k) := by
  rw [hN_at]
  refine (Pay.h_at _ _ r k).trans ?_
  simp only [b0, b1]

theorem k_o4 (r : Fin 256) (k : Fin 1024) : H m c t (ix2 r k) = o4 (X m c) (G m c) (ix2 (row t r) k) := by
  rw [o4_at]; exact k_h m c t r k

/-- A column of shard 0's product is a column of the reference's product. -/
theorem k_s0 (r : Fin 256) (n : Fin 1152) (n' : Fin 4608) (hn : 0 * 1152 + (n : ℕ) = n') :
    ∑ k : Fin 1024, H m c t (ix2 r k) * sh0 (iblk m c 2 t : FVec Ideal S4x1024x1152 .bf16) (ix3 0 k n) = pr (X m c) (G m c) (W m c) (ix2 (row t r) n') := by
  rw [pr_at]
  exact Finset.sum_congr rfl fun k _ => congrArg₂ (· * ·) (k_h m c t r k)
    ((ldw0 _ k n).trans ((b2 m c t 0 k n).trans (congrArg (fun z => W m c (ix2 k z)) (Fin.ext hn))))

/-- A column of shard 1's product is a column of the reference's product. -/
theorem k_s1 (r : Fin 256) (n : Fin 1152) (n' : Fin 4608) (hn : 1 * 1152 + (n : ℕ) = n') :
    ∑ k : Fin 1024, H m c t (ix2 r k) * sh1 (iblk m c 2 t : FVec Ideal S4x1024x1152 .bf16) (ix3 0 k n) = pr (X m c) (G m c) (W m c) (ix2 (row t r) n') := by
  rw [pr_at]
  exact Finset.sum_congr rfl fun k _ => congrArg₂ (· * ·) (k_h m c t r k)
    ((ldw1 _ k n).trans ((b2 m c t 1 k n).trans (congrArg (fun z => W m c (ix2 k z)) (Fin.ext hn))))

/-- A column of shard 2's product is a column of the reference's product. -/
theorem k_s2 (r : Fin 256) (n : Fin 1152) (n' : Fin 4608) (hn : 2 * 1152 + (n : ℕ) = n') :
    ∑ k : Fin 1024, H m c t (ix2 r k) * sh2 (iblk m c 2 t : FVec Ideal S4x1024x1152 .bf16) (ix3 0 k n) = pr (X m c) (G m c) (W m c) (ix2 (row t r) n') := by
  rw [pr_at]
  exact Finset.sum_congr rfl fun k _ => congrArg₂ (· * ·) (k_h m c t r k)
    ((ldw2 _ k n).trans ((b2 m c t 2 k n).trans (congrArg (fun z => W m c (ix2 k z)) (Fin.ext hn))))

/-- A column of shard 3's product is a column of the reference's product. -/
theorem k_s3 (r : Fin 256) (n : Fin 1152) (n' : Fin 4608) (hn : 3 * 1152 + (n : ℕ) = n') :
    ∑ k : Fin 1024, H m c t (ix2 r k) * sh3 (iblk m c 2 t : FVec Ideal S4x1024x1152 .bf16) (ix3 0 k n) = pr (X m c) (G m c) (W m c) (ix2 (row t r) n') := by
  rw [pr_at]
  exact Finset.sum_congr rfl fun k _ => congrArg₂ (· * ·) (k_h m c t r k)
    ((ldw3 _ k n).trans ((b2 m c t 3 k n).trans (congrArg (fun z => W m c (ix2 k z)) (Fin.ext hn))))

theorem k_ci (r : Fin 256) (n : Fin 1024) : (k0_pay12 (F := Ideal) (iblk m c 0 t) (iblk m c 1 t) (sh0 (iblk m c 2 t : FVec Ideal S4x1024x1152 .bf16))) (ix2 r n) = o5 (X m c) (G m c) (W m c) (ix2 (row t r) n) := by
  rw [o5_at]
  exact (Pay.ci_at _ _ _ r n).trans (k_s0 m c t r ⟨n, by omega⟩ _ (by dsimp only <;> omega))

theorem k_q0 (r : Fin 256) (n : Fin 128) : (k0_pay13 (F := Ideal) (iblk m c 0 t) (iblk m c 1 t) (sh0 (iblk m c 2 t : FVec Ideal S4x1024x1152 .bf16))) (ix2 r n) = o6 (X m c) (G m c) (W m c) (ix2 (row t r) ⟨n, by omega⟩) := by
  rw [o6_at]
  exact (Pay.q0_at _ _ _ r n).trans (congrArg (fun z : EReal => z * _) (k_s0 m c t r ⟨1024 + n, by omega⟩ _ (by dsimp only <;> omega)))

theorem k_q1 (r : Fin 256) (n : Fin 384) : (k0_pay1 (F := Ideal) (k0_pay15 (iblk m c 0 t) (iblk m c 1 t) (sh1 (iblk m c 2 t : FVec Ideal S4x1024x1152 .bf16)))) (ix2 r n) = o6 (X m c) (G m c) (W m c) (ix2 (row t r) ⟨128 + n, by omega⟩) := by
  rw [o6_at]
  exact (Pay.q1_at _ _ _ r n).trans (congrArg (fun z : EReal => z * _) (k_s1 m c t r ⟨n, by omega⟩ _ (by dsimp only <;> omega)))

theorem k_k (r : Fin 256) (n : Fin 512) : (k0_pay2 (F := Ideal) (k0_pay14 (iblk m c 0 t) (iblk m c 1 t) (sh1 (iblk m c 2 t : FVec Ideal S4x1024x1152 .bf16)))) (ix2 r n) = o7 (X m c) (G m c) (W m c) (ix2 (row t r) n) := by
  rw [o7_at]
  exact (Pay.k_at _ _ _ r n).trans (k_s1 m c t r ⟨384 + n, by omega⟩ _ (by dsimp only <;> omega))

theorem k_v0 (r : Fin 256) (n : Fin 256) : (k0_pay3 (F := Ideal) (k0_pay14 (iblk m c 0 t) (iblk m c 1 t) (sh1 (iblk m c 2 t : FVec Ideal S4x1024x1152 .bf16)))) (ix2 r n) = o8 (X m c) (G m c) (W m c) (ix2 (row t r) ⟨n, by omega⟩) := by
  rw [o8_at]
  exact (Pay.v0_at _ _ _ r n).trans (k_s1 m c t r ⟨896 + n, by omega⟩ _ (by dsimp only <;> omega))

theorem k_v1 (r : Fin 256) (n : Fin 256) : (k0_pay5 (F := Ideal) (H m c t) (sh2 (iblk m c 2 t : FVec Ideal S4x1024x1152 .bf16))) (ix2 r n) = o8 (X m c) (G m c) (W m c) (ix2 (row t r) ⟨256 + n, by omega⟩) := by
  rw [o8_at]
  exact (Pay.v1_at _ _ r n).trans (k_s2 m c t r ⟨n, by omega⟩ _ (by dsimp only <;> omega))

theorem k_gc0 (r : Fin 256) (n : Fin 896) : (k0_pay6 (F := Ideal) (H m c t) (sh2 (iblk m c 2 t : FVec Ideal S4x1024x1152 .bf16))) (ix2 r n) = o9 (X m c) (G m c) (W m c) (ix2 (row t r) ⟨n, by omega⟩) := by
  rw [o9_at]
  exact (Pay.gc0_at _ _ r n).trans (k_s2 m c t r ⟨256 + n, by omega⟩ _ (by dsimp only <;> omega))

theorem k_gc1 (r : Fin 256) (n : Fin 128) : (k0_pay8 (F := Ideal) (H m c t) (sh3 (iblk m c 2 t : FVec Ideal S4x1024x1152 .bf16))) (ix2 r n) = o9 (X m c) (G m c) (W m c) (ix2 (row t r) ⟨896 + n, by omega⟩) := by
  rw [o9_at]
  exact (Pay.gc1_at _ _ r n).trans (k_s3 m c t r ⟨n, by omega⟩ _ (by dsimp only <;> omega))

theorem k_ga (r : Fin 256) (n : Fin 1024) : (k0_pay9 (F := Ideal) (H m c t) (sh3 (iblk m c 2 t : FVec Ideal S4x1024x1152 .bf16))) (ix2 r n) = o10 (X m c) (G m c) (W m c) (ix2 (row t r) n) := by
  rw [o10_at]
  exact (Pay.ga_at _ _ r n).trans (k_s3 m c t r ⟨128 + n, by omega⟩ _ (by dsimp only <;> omega))

end Cert.InFwdIdeal.Value
end
-- ==== Proof.InFwdValue.lean ====
/- The input projections: the kernel's final arrays are the reference's results. -/
module

public import proofs.«01_k».proof.Proof.InFwdTile

@[expose] public section

set_option maxRecDepth 16384
set_option maxHeartbeats 4000000

noncomputable section

namespace Cert.InFwdIdeal.Value

open Cert.InFwdIdeal Cert.InFwdIdeal.Gen Cert.MergeMath Idealize.ShloMosaic Idealize.ShloMosaic.TcCoe Idealize.SL.Sem
open Cert.InFwdRefIdeal.Read

variable (m : (ℓ : Loc nD τ sig) → Buf (Elt Ideal) ℓ) (c : Dev nD)

/-! ## The final arrays -/

theorem final4 : (dats m 0 c).arrAt 4 cfg0.N = o4 (X m c) (G m c) := by
  refine (dats m 0 c).arrAt_eq_of_covers 4 _ (by decide +kernel) fun t hf y => ?_
  blk_simp
  rw [after0_4]
  unfold outsAt0
  frame_out
  idx_vars y
  exact (k_o4 m c t _ _).trans (congrArg (o4 (X m c) (G m c)) (emb4 t _ _)).symm

theorem final5 : (dats m 0 c).arrAt 5 cfg0.N = o5 (X m c) (G m c) (W m c) := by
  refine (dats m 0 c).arrAt_eq_of_covers 5 _ (by decide +kernel) fun t hf y => ?_
  blk_simp
  rw [after0_5]
  unfold outsAt0
  frame_out
  idx_vars y
  exact (k_ci m c t _ _).trans (congrArg (o5 (X m c) (G m c) (W m c)) (emb5 t _ _)).symm

theorem final6 : (dats m 0 c).arrAt 6 cfg0.N = o6 (X m c) (G m c) (W m c) := by
  refine (dats m 0 c).arrAt_eq_of_covers 6 _ (by decide +kernel) fun t hf y => ?_
  blk_simp
  rw [after0_6]
  unfold outsAt0
  frame_out
  idx_vars y
  refine Eq.trans ?_ (congrArg (o6 (X m c) (G m c) (W m c)) (emb6 t y0 y1)).symm
  canon_tiles x hx using (View.cover_of_tiledBy _ ![256, 128] (by sl_kernel_rfl) _)
  case piece0 =>
    idx_vars x
    change (y0 : ℕ) = (x0 : ℕ) at hx0
    change (y1 : ℕ) = 128 + (x1 : ℕ) at hx1
    obtain rfl : y0 = x0 := Fin.ext hx0
    exact (k_q1 m c t y0 x1).trans (congrArg (fun z => o6 (X m c) (G m c) (W m c) (ix2 (row t y0) z)) (Fin.ext hx1.symm))
  case piece1 =>
    idx_vars x
    change (y0 : ℕ) = (x0 : ℕ) at hx0
    change (y1 : ℕ) = (x1 : ℕ) at hx1
    obtain rfl : y0 = x0 := Fin.ext hx0
    exact (k_q0 m c t y0 x1).trans (congrArg (fun z => o6 (X m c) (G m c) (W m c) (ix2 (row t y0) z)) (Fin.ext hx1.symm))

theorem final7 : (dats m 0 c).arrAt 7 cfg0.N = o7 (X m c) (G m c) (W m c) := by
  refine (dats m 0 c).arrAt_eq_of_covers 7 _ (by decide +kernel) fun t hf y => ?_
  blk_simp
  rw [after0_7]
  unfold outsAt0
  frame_out
  idx_vars y
  exact (k_k m c t _ _).trans (congrArg (o7 (X m c) (G m c) (W m c)) (emb7 t _ _)).symm

theorem final8 : (dats m 0 c).arrAt 8 cfg0.N = o8 (X m c) (G m c) (W m c) := by
  refine (dats m 0 c).arrAt_eq_of_covers 8 _ (by decide +kernel) fun t hf y => ?_
  blk_simp
  rw [after0_8]
  unfold outsAt0
  frame_out
  idx_vars y
  refine Eq.trans ?_ (congrArg (o8 (X m c) (G m c) (W m c)) (emb8 t y0 y1)).symm
  canon_tiles x hx using (View.cover_of_tiledBy _ ![256, 128] (by sl_kernel_rfl) _)
  case piece0 =>
    idx_vars x
    change (y0 : ℕ) = (x0 : ℕ) at hx0
    change (y1 : ℕ) = 256 + (x1 : ℕ) at hx1
    obtain rfl : y0 = x0 := Fin.ext hx0
    exact (k_v1 m c t y0 x1).trans (congrArg (fun z => o8 (X m c) (G m c) (W m c) (ix2 (row t y0) z)) (Fin.ext hx1.symm))
  case piece1 =>
    idx_vars x
    change (y0 : ℕ) = (x0 : ℕ) at hx0
    change (y1 : ℕ) = (x1 : ℕ) at hx1
    obtain rfl : y0 = x0 := Fin.ext hx0
    exact (k_v0 m c t y0 x1).trans (congrArg (fun z => o8 (X m c) (G m c) (W m c) (ix2 (row t y0) z)) (Fin.ext hx1.symm))

theorem final9 : (dats m 0 c).arrAt 9 cfg0.N = o9 (X m c) (G m c) (W m c) := by
  refine (dats m 0 c).arrAt_eq_of_covers 9 _ (by decide +kernel) fun t hf y => ?_
  blk_simp
  rw [after0_9]
  unfold outsAt0
  frame_out
  idx_vars y
  refine Eq.trans ?_ (congrArg (o9 (X m c) (G m c) (W m c)) (emb9 t y0 y1)).symm
  canon_tiles x hx using (View.cover_of_tiledBy _ ![256, 128] (by sl_kernel_rfl) _)
  case piece0 =>
    idx_vars x
    change (y0 : ℕ) = (x0 : ℕ) at hx0
    change (y1 : ℕ) = 896 + (x1 : ℕ) at hx1
    obtain rfl : y0 = x0 := Fin.ext hx0
    exact (k_gc1 m c t y0 x1).trans (congrArg (fun z => o9 (X m c) (G m c) (W m c) (ix2 (row t y0) z)) (Fin.ext hx1.symm))
  case piece1 =>
    idx_vars x
    change (y0 : ℕ) = (x0 : ℕ) at hx0
    change (y1 : ℕ) = (x1 : ℕ) at hx1
    obtain rfl : y0 = x0 := Fin.ext hx0
    exact (k_gc0 m c t y0 x1).trans (congrArg (fun z => o9 (X m c) (G m c) (W m c) (ix2 (row t y0) z)) (Fin.ext hx1.symm))

theorem final10 : (dats m 0 c).arrAt 10 cfg0.N = o10 (X m c) (G m c) (W m c) := by
  refine (dats m 0 c).arrAt_eq_of_covers 10 _ (by decide +kernel) fun t hf y => ?_
  blk_simp
  rw [after0_10]
  unfold outsAt0
  frame_out
  idx_vars y
  exact (k_ga m c t _ _).trans (congrArg (o10 (X m c) (G m c) (W m c)) (emb10 t _ _)).symm

/-- The two programs end with equal results. -/
theorem algebraic : Cert.algebraic_InFwdIdeal_InFwdRefIdeal (hInFwdIdeal := Cert.InFwdIdeal.Gen.facts) (hInFwdRefIdeal := Cert.InFwdRefIdeal.Gen.facts) := by
  intro m g m' g' hpre hag
  refine ⟨fun c => o4 (X m c) (G m c), fun c => o5 (X m c) (G m c) (W m c), fun c => o6 (X m c) (G m c) (W m c), fun c => o7 (X m c) (G m c) (W m c), fun c => o8 (X m c) (G m c) (W m c), fun c => o9 (X m c) (G m c) (W m c), fun c => o10 (X m c) (G m c) (W m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2.1.trans (final8 m c), (h c).2.2.2.2.2.1.trans (final9 m c), (h c).2.2.2.2.2.2.1.trans (final10 m c), (h c).2.2.2.2.2.2.2⟩) (run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.InFwdRefIdeal.Value.run m' g')
    · obtain ⟨a0, a1, a2⟩ := hag c
      refine Eq.trans (b := o4 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1))) rfl ?_
      rw [a0, a1]
    · obtain ⟨a0, a1, a2⟩ := hag c
      refine Eq.trans (b := o5 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]
    · obtain ⟨a0, a1, a2⟩ := hag c
      refine Eq.trans (b := o6 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]
    · obtain ⟨a0, a1, a2⟩ := hag c
      refine Eq.trans (b := o7 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]
    · obtain ⟨a0, a1, a2⟩ := hag c
      refine Eq.trans (b := o8 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]
    · obtain ⟨a0, a1, a2⟩ := hag c
      refine Eq.trans (b := o9 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]
    · obtain ⟨a0, a1, a2⟩ := hag c
      refine Eq.trans (b := o10 (m' ((c : Thread Cert.InFwdRefIdeal.nD Cert.InFwdRefIdeal.τ).loc Cert.InFwdRefIdeal.main_arg0)) (m' ((c : Thread Cert.InFwdRefIdeal.nD Cert.InFwdRefIdeal.τ).loc Cert.InFwdRefIdeal.main_arg1)) (m' ((c : Thread Cert.InFwdRefIdeal.nD Cert.InFwdRefIdeal.τ).loc Cert.InFwdRefIdeal.main_arg2))) rfl ?_
      rw [a0, a1, a2]

end Cert.InFwdIdeal.Value
end
-- ==== Proof.MixFwdRead.lean ====
/- What the reference of the gated merge's forward pass computes, read at one element. -/
module

public import proofs.«01_k».proof.Proof.Gen.MixFwdRefIdeal.Run
public import proofs.«01_k».proof.Proof.MergeMath
public import Idealize.ShloMosaic.Lib.Pointwise
public import Idealize.ShloMosaic.Lib.Tactic.CleanTypes

@[expose] public section

set_option maxRecDepth 16384
set_option maxHeartbeats 4000000

noncomputable section

namespace Cert.MixFwdRefIdeal.Read

open Cert.MixFwdRefIdeal Cert.MixFwdRefIdeal.Gen Cert.MergeMath Idealize.ShloMosaic Idealize.ShloMosaic.TcCoe Idealize.SL.Sem

/-! ## The stages, by name -/

section Stages

variable (X : FVec Ideal S2048x1024 .f32) (G : FVec Ideal S1024 .f32) (U : FVec Ideal S2048x512 .f32) (W : FVec Ideal S512x1024 .f32)
  (WO : FVec Ideal S1024x1024 .f32)

def ms : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The norm of `X` times its weight. -/
def hN : FVec Ideal S2048x1024 .f32 :=
  mulf (mulf X (broadcastInDim S2048x1024 ![0, 1] bcast_S2048x1_S2048x1024_0_1 (Host.rsqrt (ms X)))) (broadcastInDim S2048x1024 ![0, 1] bcast_S1x1024_S2048x1024_0_1 (broadcastInDim S1x1024 ![1] bcast_S1024_S1x1024_1 G))

def sg : FVec Ideal S2048x1024 .f32 := Host.divf (broadcastInDim S2048x1024 ![] bcast_S_S2048x1024 (constant S_ .f32 0x3F800000#32)) (addf (broadcastInDim S2048x1024 ![] bcast_S_S2048x1024 (constant S_ .f32 0x3F800000#32)) (Host.exp (Host.negf X)))

/-- One branch's product. -/
def br : FVec Ideal S2048x1024 .f32 := Host.dotGeneral dot_S2048x512_S512x1024_S2048x1024_1_0_0_1_n_n none U W

def outp : FVec Ideal S2048x1024 .f32 := Host.dotGeneral dot_S2048x1024_S1024x1024_S2048x1024_1_0_0_1_n_n none X WO

theorem ms_at (i : Fin 2048) : ms X (ix2 i 0)
    = Ideal.div (∑ k : Fin 1024, X (ix2 i k) * X (ix2 i k)) (Ideal.ofBits .f32 0x44800000#32) + Ideal.ofBits .f32 0x358637BD#32 := by
  pointwise [ms]

theorem hN_at (i : Fin 2048) (k : Fin 1024) : hN X G (ix2 i k) = X (ix2 i k) * (rinv fun k : Fin 1024 => X (ix2 i k)) * G (ix1 k) := by
  unfold rinv
  pointwise [hN, ms_at X]

theorem sg_at (i : Fin 2048) (n : Fin 1024) : sg X (ix2 i n) = sigm (X (ix2 i n)) := by
  unfold sigm
  pointwise [sg]

theorem br_at (i : Fin 2048) (n : Fin 1024) : br U W (ix2 i n) = ∑ k : Fin 512, U (ix2 i k) * W (ix2 k n) := by
  pointwise [br]

theorem outp_at (i : Fin 2048) (n : Fin 1024) : outp X WO (ix2 i n) = ∑ k : Fin 1024, X (ix2 i k) * WO (ix2 k n) := by
  pointwise [outp]

end Stages

/-! ## The results, as functions of the program's arguments -/

section Out

variable (U A : FVec Ideal S2048x512 .f32) (GC GA X : FVec Ideal S2048x1024 .f32) (WC : FVec Ideal S512x1024 .f32) (B : FVec Ideal S1024 .f32)
  (WA : FVec Ideal S512x1024 .f32) (WO : FVec Ideal S1024x1024 .f32) (G2 G3 : FVec Ideal S1024 .f32)

/-- The gated merge of the two branches. -/
def mg : FVec Ideal S2048x1024 .f32 := addf (mulf (sg GC) (addf (br U WC) (broadcastInDim S2048x1024 ![0, 1] bcast_S1x1024_S2048x1024_0_1 (broadcastInDim S1x1024 ![1] bcast_S1024_S1x1024_1 B)))) (mulf (sg GA) (br A WA))

def o12 : FVec Ideal S2048x1024 .bf16 := truncf .bf16 (mg U A GC GA WC B WA) bitsLt_bf16_f32

def o13 : FVec Ideal S2048x1024 .f32 := outp (mg U A GC GA WC B WA) WO

def o14 : FVec Ideal S2048x1024 .f32 := addf X (hN (o13 U A GC GA WC B WA WO) G2)

def o15 : FVec Ideal S2048x1024 .bf16 := truncf .bf16 (hN (o14 U A GC GA X WC B WA WO G2) G3) bitsLt_bf16_f32

theorem mg_at (i : Fin 2048) (k : Fin 1024) : mg U A GC GA WC B WA (ix2 i k)
    = sigm (GC (ix2 i k)) * (br U WC (ix2 i k) + B (ix1 k)) + sigm (GA (ix2 i k)) * br A WA (ix2 i k) := by
  pointwise [mg, sg_at GC, sg_at GA]

theorem o12_at (i : Fin 2048) (k : Fin 1024) : o12 U A GC GA WC B WA (ix2 i k) = mg U A GC GA WC B WA (ix2 i k) := by
  pointwise [o12]

theorem o13_at (i : Fin 2048) (k : Fin 1024) : o13 U A GC GA WC B WA WO (ix2 i k) = ∑ n : Fin 1024, mg U A GC GA WC B WA (ix2 i n) * WO (ix2 n k) := outp_at _ _ i k

theorem o14_at (i : Fin 2048) (k : Fin 1024) : o14 U A GC GA X WC B WA WO G2 (ix2 i k)
    = X (ix2 i k) + o13 U A GC GA WC B WA WO (ix2 i k) * (rinv fun k : Fin 1024 => o13 U A GC GA WC B WA WO (ix2 i k)) * G2 (ix1 k) := by
  rw [← hN_at]
  pointwise [o14]

theorem o15_at (i : Fin 2048) (k : Fin 1024) : o15 U A GC GA X WC B WA WO G2 G3 (ix2 i k)
    = o14 U A GC GA X WC B WA WO G2 (ix2 i k) * (rinv fun k : Fin 1024 => o14 U A GC GA X WC B WA WO G2 (ix2 i k)) * G3 (ix1 k) := by
  rw [← hN_at]
  pointwise [o15]

end Out

end Cert.MixFwdRefIdeal.Read
end
-- ==== Proof.MixFwdPay.lean ====
/- The gated merge's forward kernel: what each store of its body holds, read at one element. -/
module

public import proofs.«01_k».proof.Proof.Gen.MixFwdIdeal.Skeleton
public import proofs.«01_k».proof.Proof.MergeMath
public import Idealize.ShloMosaic.Lib.Pointwise
public import Idealize.ShloMosaic.Lib.Tactic.CleanTypes

@[expose] public section

set_option maxRecDepth 16384
set_option maxHeartbeats 4000000

noncomputable section

namespace Cert.MixFwdIdeal.Pay

open Cert.MixFwdIdeal Cert.MixFwdIdeal.Gen Cert.MergeMath Idealize.ShloMosaic Idealize.ShloMosaic.TcCoe Idealize.SL.Sem

/-- Four pieces of 256 columns side by side, read at column `k`. -/
theorem cat4 (f : Fin 4 → Fin 256 → EReal) (k : Fin 1024) :
    (if h : (k : ℕ) < 256 then f 0 ⟨k, h⟩ else if h : (k : ℕ) - 256 < 256 then f 1 ⟨k - 256, h⟩
      else if h : (k : ℕ) - 256 - 256 < 256 then f 2 ⟨k - 256 - 256, h⟩ else f 3 ⟨k - 256 - 256 - 256, by omega⟩)
      = f ⟨k / 256, by omega⟩ ⟨k % 256, by omega⟩ := by
  have hk := k.isLt
  split_ifs with h0 h1 h2 <;> congr 1 <;> apply Fin.ext <;> simp <;> omega

theorem co_at (x : FVec Ideal S256x512 .bf16) (w : FVec Ideal S4x512x256 .bf16) (b : FVec Ideal S1x1024 .f32)
    (b0 b1 b2 b3 : FVec Ideal S1x512x256 .bf16) (r : Fin 256) (k : Fin 1024)
    (hb0 : ∀ (n : Fin 512) (l : Fin 256), b0 (ix3 0 n l) = w (ix3 0 n l))
    (hb1 : ∀ (n : Fin 512) (l : Fin 256), b1 (ix3 0 n l) = w (ix3 1 n l))
    (hb2 : ∀ (n : Fin 512) (l : Fin 256), b2 (ix3 0 n l) = w (ix3 2 n l))
    (hb3 : ∀ (n : Fin 512) (l : Fin 256), b3 (ix3 0 n l) = w (ix3 3 n l)) :
    (k0_pay4 (F := Ideal) x b0 b1 b2 b3 b) (ix2 r k)
      = (∑ n : Fin 512, x (ix2 r n) * w (ix3 ⟨k / 256, by omega⟩ n ⟨k % 256, by omega⟩)) + b (ix2 0 k) := by
  pointwise [k0_pay4]
  simp only [hb0, hb1, hb2, hb3]
  exact congrArg (· + b (ix2 0 k)) (cat4 (fun j l => ∑ n : Fin 512, x (ix2 r n) * w (ix3 j n l)) k)

theorem mg_at (x : FVec Ideal S256x512 .bf16) (w : FVec Ideal S4x512x256 .bf16) (co gc ga : FVec Ideal S256x1024 .f32)
    (b0 b1 b2 b3 : FVec Ideal S1x512x256 .bf16) (r : Fin 256) (k : Fin 1024)
    (hb0 : ∀ (n : Fin 512) (l : Fin 256), b0 (ix3 0 n l) = w (ix3 0 n l))
    (hb1 : ∀ (n : Fin 512) (l : Fin 256), b1 (ix3 0 n l) = w (ix3 1 n l))
    (hb2 : ∀ (n : Fin 512) (l : Fin 256), b2 (ix3 0 n l) = w (ix3 2 n l))
    (hb3 : ∀ (n : Fin 512) (l : Fin 256), b3 (ix3 0 n l) = w (ix3 3 n l)) :
    (k0_pay7 (F := Ideal) (k0_pay3 x) co (k0_pay5 x b0) (k0_pay6 x b1) b2 b3 gc ga) (ix2 r k)
      = sigm (gc (ix2 r k)) * co (ix2 r k) + sigm (ga (ix2 r k)) * ∑ n : Fin 512, x (ix2 r n) * w (ix3 ⟨k / 256, by omega⟩ n ⟨k % 256, by omega⟩) := by
  unfold sigm
  pointwise [k0_pay7, k0_pay3, k0_pay5, k0_pay6]
  simp only [hb0, hb1, hb2, hb3, zero_sub]
  exact congrArg (fun z : EReal => _ + _ * z) (cat4 (fun j l => ∑ n : Fin 512, x (ix2 r n) * w (ix3 j n l)) k)

section Out

variable (a : FVec Ideal S256x512 .bf16) (co : FVec Ideal S256x1024 .f32) (p q : FVec Ideal S256x256 .f32) (b2 b3 : FVec Ideal S1x512x256 .bf16)
  (gc ga : FVec Ideal S256x1024 .f32) (wo : FVec Ideal S1024x1024 .bf16)

theorem mix_at (r : Fin 256) (k : Fin 1024) : (k0_pay8 (F := Ideal) a co p q b2 b3 gc ga wo) (ix2 r k)
    = ∑ n : Fin 1024, (k0_pay7 (F := Ideal) a co p q b2 b3 gc ga) (ix2 r n) * wo (ix2 n k) := by
  pointwise [k0_pay8]

theorem sq_at (r : Fin 256) : (k0_pay9 (F := Ideal) a co p q b2 b3 gc ga wo) (ix1 r)
    = ∑ k : Fin 1024, (k0_pay8 (F := Ideal) a co p q b2 b3 gc ga wo) (ix2 r k) * (k0_pay8 (F := Ideal) a co p q b2 b3 gc ga wo) (ix2 r k) := by
  pointwise [k0_pay9]

end Out

section Norm

variable (f : FVec Ideal S256x1024 .f32) (s : FVec Ideal S256 .f32) (x : FVec Ideal S256x1024 .f32) (g2 g3 : FVec Ideal S1x1024 .f32)
  (hs : ∀ r : Fin 256, s (ix1 r) = ∑ k : Fin 1024, f (ix2 r k) * f (ix2 r k))

include hs in
theorem x2_at (r : Fin 256) (k : Fin 1024) : (k0_pay1 (F := Ideal) f s x g2) (ix2 r k)
    = x (ix2 r k) + f (ix2 r k) * (rinv fun k : Fin 1024 => f (ix2 r k)) * g2 (ix2 0 k) := by
  unfold rinv
  rw [← hs]
  pointwise [k0_pay1]

theorem h2_at (r : Fin 256) (k : Fin 1024) : (k0_pay2 (F := Ideal) f s x g2 g3) (ix2 r k)
    = (k0_pay1 (F := Ideal) f s x g2) (ix2 r k) * (rinv fun k : Fin 1024 => (k0_pay1 (F := Ideal) f s x g2) (ix2 r k)) * g3 (ix2 0 k) := by
  unfold rinv
  pointwise [k0_pay2]

end Norm

end Cert.MixFwdIdeal.Pay
end
-- ==== Proof.MixFwdTile.lean ====
/- The gated merge's forward pass: the kernel's tiles are the tiles of the reference's arrays. -/
module

public import proofs.«01_k».proof.Proof.Gen.MixFwdIdeal.Value
public import proofs.«01_k».proof.Proof.MixFwdRead
public import proofs.«01_k».proof.Proof.MixFwdPay
public import Idealize.ShloMosaic.Lib.Pipeline.ValueKit
public import Idealize.ShloMosaic.Lib.Pipeline.ReadBack
public import proofs.«01_k».proof.Defs

@[expose] public section

set_option maxRecDepth 16384
set_option maxHeartbeats 4000000

noncomputable section

namespace Cert.MixFwdIdeal.Value

open Cert.MixFwdIdeal Cert.MixFwdIdeal.Gen Cert.MergeMath Idealize.ShloMosaic Idealize.ShloMosaic.TcCoe Idealize.SL.Sem
open Cert.MixFwdRefIdeal.Read

/-! ## Loads of a shard of a block -/

abbrev sh0 {e : EltTy} (x : Vec Ideal S4x512x256 e) : Vec Ideal S1x512x256 e :=
  View.ld x (Rect.unit ![0, 0, 0] ![1, 512, 256] inb_S4x512x256_S1x512x256_0_0_0)

theorem ldw0 {e : EltTy} (x : Vec Ideal S4x512x256 e) (k : Fin 512) (n : Fin 256) : sh0 x (ix3 0 k n) = x (ix3 0 k n) := by
  unfold sh0
  pointwise

abbrev sh1 {e : EltTy} (x : Vec Ideal S4x512x256 e) : Vec Ideal S1x512x256 e :=
  View.ld x (Rect.unit ![1, 0, 0] ![1, 512, 256] inb_S4x512x256_S1x512x256_1_0_0)

theorem ldw1 {e : EltTy} (x : Vec Ideal S4x512x256 e) (k : Fin 512) (n : Fin 256) : sh1 x (ix3 0 k n) = x (ix3 1 k n) := by
  unfold sh1
  pointwise

abbrev sh2 {e : EltTy} (x : Vec Ideal S4x512x256 e) : Vec Ideal S1x512x256 e :=
  View.ld x (Rect.unit ![2, 0, 0] ![1, 512, 256] inb_S4x512x256_S1x512x256_2_0_0)

theorem ldw2 {e : EltTy} (x : Vec Ideal S4x512x256 e) (k : Fin 512) (n : Fin 256) : sh2 x (ix3 0 k n) = x (ix3 2 k n) := by
  unfold sh2
  pointwise

abbrev sh3 {e : EltTy} (x : Vec Ideal S4x512x256 e) : Vec Ideal S1x512x256 e :=
  View.ld x (Rect.unit ![3, 0, 0] ![1, 512, 256] inb_S4x512x256_S1x512x256_3_0_0)

theorem ldw3 {e : EltTy} (x : Vec Ideal S4x512x256 e) (k : Fin 512) (n : Fin 256) : sh3 x (ix3 0 k n) = x (ix3 3 k n) := by
  unfold sh3
  pointwise

/-! ## The blocks -/

variable (m : (ℓ : Loc nD τ sig) → Buf (Elt Ideal) ℓ) (c : Dev nD)

abbrev U : FVec Ideal S2048x512 .f32 := m ((c : Thread nD τ).loc main_arg0)
abbrev A : FVec Ideal S2048x512 .f32 := m ((c : Thread nD τ).loc main_arg1)
abbrev GC : FVec Ideal S2048x1024 .f32 := m ((c : Thread nD τ).loc main_arg2)
abbrev GA : FVec Ideal S2048x1024 .f32 := m ((c : Thread nD τ).loc main_arg3)
abbrev X : FVec Ideal S2048x1024 .f32 := m ((c : Thread nD τ).loc main_arg4)
abbrev WC : FVec Ideal S512x1024 .f32 := m ((c : Thread nD τ).loc main_arg5)
abbrev B : FVec Ideal S1024 .f32 := m ((c : Thread nD τ).loc main_arg6)
abbrev WA : FVec Ideal S512x1024 .f32 := m ((c : Thread nD τ).loc main_arg7)
abbrev WO : FVec Ideal S1024x1024 .f32 := m ((c : Thread nD τ).loc main_arg8)
abbrev G2 : FVec Ideal S1024 .f32 := m ((c : Thread nD τ).loc main_arg9)
abbrev G3 : FVec Ideal S1024 .f32 := m ((c : Thread nD τ).loc main_arg10)

theorem in0 (i : Fin 2048) (k : Fin 512) : (V m c main_v0 : FVec Ideal S2048x512 .bf16) (ix2 i k) = U m c (ix2 i k) := by
  entry_read
  pointwise

theorem in1 (i : Fin 2048) (k : Fin 512) : (V m c main_v1 : FVec Ideal S2048x512 .bf16) (ix2 i k) = A m c (ix2 i k) := by
  entry_read
  pointwise

theorem in5 (j : Fin 4) (k : Fin 512) (n : Fin 256) : (V m c main_v4 : FVec Ideal S4x512x256 .bf16) (ix3 j k n) = WC m c (ix2 k ⟨j * 256 + n, by omega⟩) := by
  entry_read
  pointwise

theorem in7 (j : Fin 4) (k : Fin 512) (n : Fin 256) : (V m c main_v8 : FVec Ideal S4x512x256 .bf16) (ix3 j k n) = WA m c (ix2 k ⟨j * 256 + n, by omega⟩) := by
  entry_read
  pointwise

theorem in6 (k : Fin 1024) : (V m c main_v5 : FVec Ideal S1x1024 .f32) (ix2 0 k) = B m c (ix1 k) := by
  entry_read
  pointwise

theorem in9 (k : Fin 1024) : (V m c main_v10 : FVec Ideal S1x1024 .f32) (ix2 0 k) = G2 m c (ix1 k) := by
  entry_read
  pointwise

theorem in10 (k : Fin 1024) : (V m c main_v11 : FVec Ideal S1x1024 .f32) (ix2 0 k) = G3 m c (ix1 k) := by
  entry_read
  pointwise

theorem in8 (i : Fin 1024) (k : Fin 1024) : (V m c main_v9 : FVec Ideal S1024x1024 .bf16) (ix2 i k) = WO m c (ix2 i k) := by
  entry_read
  pointwise

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0, 0] ∧ win0_6.index t = ![0, 0] ∧ win0_7.index t = ![0, 0, 0] ∧ win0_8.index t = ![0, 0] ∧ win0_9.index t = ![0, 0] ∧ win0_10.index t = ![0, 0] ∧ win0_12.index t = ![t.val, 0] ∧ win0_13.index t = ![t.val, 0] ∧ win0_14.index t = ![t.val, 0] ∧ win0_15.index t = ![t.val, 0] ∧ t.val < 8 :=
  (by decide +kernel : ∀ t : Fin grid0.N, _)

/-- The array's row that a tile's row is. -/
def row (t : Fin cfg0.N) (r : Fin 256) : Fin 2048 := ⟨t.val * 256 + r, by have := lt_of_lt_of_eq t.isLt (show cfg0.N = 8 from N_0); omega⟩

theorem b0 (t : Fin cfg0.N) (r : Fin 256) (k : Fin 512) : (iblk m c 0 t : FVec Ideal S256x512 .bf16) (ix2 r k) = U m c (ix2 (row t r) k) := by
  rw [← in0]; unfold row; blk_ext [iblk, idx t]

theorem b1 (t : Fin cfg0.N) (r : Fin 256) (k : Fin 512) : (iblk m c 1 t : FVec Ideal S256x512 .bf16) (ix2 r k) = A m c (ix2 (row t r) k) := by
  rw [← in1]; unfold row; blk_ext [iblk, idx t]

theorem b2 (t : Fin cfg0.N) (r : Fin 256) (k : Fin 1024) : (iblk m c 2 t : FVec Ideal S256x1024 .f32) (ix2 r k) = GC m c (ix2 (row t r) k) := by
  unfold row; blk_ext [iblk, V, idx t]

theorem b3 (t : Fin cfg0.N) (r : Fin 256) (k : Fin 1024) : (iblk m c 3 t : FVec Ideal S256x1024 .f32) (ix2 r k) = GA m c (ix2 (row t r) k) := by
  unfold row; blk_ext [iblk, V, idx t]

theorem b4 (t : Fin cfg0.N) (r : Fin 256) (k : Fin 1024) : (iblk m c 4 t : FVec Ideal S256x1024 .f32) (ix2 r k) = X m c (ix2 (row t r) k) := by
  unfold row; blk_ext [iblk, V, idx t]

theorem b5 (t : Fin cfg0.N) (j : Fin 4) (k : Fin 512) (n : Fin 256) : (iblk m c 5 t : FVec Ideal S4x512x256 .bf16) (ix3 j k n) = WC m c (ix2 k ⟨j * 256 + n, by omega⟩) := by
  rw [← in5]; blk_ext [iblk, idx t]

theorem b7 (t : Fin cfg0.N) (j : Fin 4) (k : Fin 512) (n : Fin 256) : (iblk m c 7 t : FVec Ideal S4x512x256 .bf16) (ix3 j k n) = WA m c (ix2 k ⟨j * 256 + n, by omega⟩) := by
  rw [← in7]; blk_ext [iblk, idx t]

theorem b6 (t : Fin cfg0.N) (k : Fin 1024) : (iblk m c 6 t : FVec Ideal S1x1024 .f32) (ix2 0 k) = B m c (ix1 k) := by
  rw [← in6]; blk_ext [iblk, idx t]

theorem b9 (t : Fin cfg0.N) (k : Fin 1024) : (iblk m c 9 t : FVec Ideal S1x1024 .f32) (ix2 0 k) = G2 m c (ix1 k) := by
  rw [← in9]; blk_ext [iblk, idx t]

theorem b10 (t : Fin cfg0.N) (k : Fin 1024) : (iblk m c 10 t : FVec Ideal S1x1024 .f32) (ix2 0 k) = G3 m c (ix1 k) := by
  rw [← in10]; blk_ext [iblk, idx t]

theorem b8 (t : Fin cfg0.N) (i : Fin 1024) (k : Fin 1024) : (iblk m c 8 t : FVec Ideal S1024x1024 .bf16) (ix2 i k) = WO m c (ix2 i k) := by
  rw [← in8]; blk_ext [iblk, idx t]

theorem emb12 (t : Fin cfg0.N) (r : Fin 256) (k : Fin 1024) : (((cfg0.win 12).blk t).view.emb (ix2 r k) : S2048x1024.Idx) = ix2 (row t r) k := by
  unfold row; blk_ext [idx t]

theorem emb13 (t : Fin cfg0.N) (r : Fin 256) (k : Fin 1024) : (((cfg0.win 13).blk t).view.emb (ix2 r k) : S2048x1024.Idx) = ix2 (row t r) k := by
  unfold row; blk_ext [idx t]

theorem emb14 (t : Fin cfg0.N) (r : Fin 256) (k : Fin 1024) : (((cfg0.win 14).blk t).view.emb (ix2 r k) : S2048x1024.Idx) = ix2 (row t r) k := by
  unfold row; blk_ext [idx t]

theorem emb15 (t : Fin cfg0.N) (r : Fin 256) (k : Fin 1024) : (((cfg0.win 15).blk t).view.emb (ix2 r k) : S2048x1024.Idx) = ix2 (row t r) k := by
  unfold row; blk_ext [idx t]

/-! ## The stages on a tile are the reference's stages on its rows -/

variable (t : Fin cfg0.N)

abbrev coB : FVec Ideal S256x1024 .f32 := k0_pay4 (F := Ideal) (iblk m c 0 t) (sh0 (iblk m c 5 t : FVec Ideal S4x512x256 .bf16)) (sh1 (iblk m c 5 t : FVec Ideal S4x512x256 .bf16)) (sh2 (iblk m c 5 t : FVec Ideal S4x512x256 .bf16)) (sh3 (iblk m c 5 t : FVec Ideal S4x512x256 .bf16)) (iblk m c 6 t)

abbrev mgB : FVec Ideal S256x1024 .bf16 := k0_pay7 (F := Ideal) (k0_pay3 (iblk m c 1 t)) (k0_pay4 (F := Ideal) (iblk m c 0 t) (sh0 (iblk m c 5 t : FVec Ideal S4x512x256 .bf16)) (sh1 (iblk m c 5 t : FVec Ideal S4x512x256 .bf16)) (sh2 (iblk m c 5 t : FVec Ideal S4x512x256 .bf16)) (sh3 (iblk m c 5 t : FVec Ideal S4x512x256 .bf16)) (iblk m c 6 t)) (k0_pay5 (iblk m c 1 t) (sh0 (iblk m c 7 t : FVec Ideal S4x512x256 .bf16))) (k0_pay6 (iblk m c 1 t) (sh1 (iblk m c 7 t : FVec Ideal S4x512x256 .bf16))) (sh2 (iblk m c 7 t : FVec Ideal S4x512x256 .bf16)) (sh3 (iblk m c 7 t : FVec Ideal S4x512x256 .bf16)) (iblk m c 2 t) (iblk m c 3 t)

abbrev mixB : FVec Ideal S256x1024 .f32 := k0_pay8 (F := Ideal) (k0_pay3 (iblk m c 1 t)) (k0_pay4 (F := Ideal) (iblk m c 0 t) (sh0 (iblk m c 5 t : FVec Ideal S4x512x256 .bf16)) (sh1 (iblk m c 5 t : FVec Ideal S4x512x256 .bf16)) (sh2 (iblk m c 5 t : FVec Ideal S4x512x256 .bf16)) (sh3 (iblk m c 5 t : FVec Ideal S4x512x256 .bf16)) (iblk m c 6 t)) (k0_pay5 (iblk m c 1 t) (sh0 (iblk m c 7 t : FVec Ideal S4x512x256 .bf16))) (k0_pay6 (iblk m c 1 t) (sh1 (iblk m c 7 t : FVec Ideal S4x512x256 .bf16))) (sh2 (iblk m c 7 t : FVec Ideal S4x512x256 .bf16)) (sh3 (iblk m c 7 t : FVec Ideal S4x512x256 .bf16)) (iblk m c 2 t) (iblk m c 3 t) (iblk m c 8 t)

abbrev sqB : FVec Ideal S256 .f32 := k0_pay9 (F := Ideal) (k0_pay3 (iblk m c 1 t)) (k0_pay4 (F := Ideal) (iblk m c 0 t) (sh0 (iblk m c 5 t : FVec Ideal S4x512x256 .bf16)) (sh1 (iblk m c 5 t : FVec Ideal S4x512x256 .bf16)) (sh2 (iblk m c 5 t : FVec Ideal S4x512x256 .bf16)) (sh3 (iblk m c 5 t : FVec Ideal S4x512x256 .bf16)) (iblk m c 6 t)) (k0_pay5 (iblk m c 1 t) (sh0 (iblk m c 7 t : FVec Ideal S4x512x256 .bf16))) (k0_pay6 (iblk m c 1 t) (sh1 (iblk m c 7 t : FVec Ideal S4x512x256 .bf16))) (sh2 (iblk m c 7 t : FVec Ideal S4x512x256 .bf16)) (sh3 (iblk m c 7 t : FVec Ideal S4x512x256 .bf16)) (iblk m c 2 t) (iblk m c 3 t) (iblk m c 8 t)

abbrev x2B : FVec Ideal S256x1024 .f32 := k0_pay1 (F := Ideal) (mixB m c t) (sqB m c t) (iblk m c 4 t) (iblk m c 9 t)

/-- A column of the sharded weight is a column of the whole weight. -/
theorem col (k : Fin 1024) (h : (k : ℕ) / 256 * 256 + (k : ℕ) % 256 < 1024) : (⟨(k : ℕ) / 256 * 256 + (k : ℕ) % 256, h⟩ : Fin 1024) = k :=
  Fin.ext (by dsimp only <;> omega)

theorem k_co (r : Fin 256) (k : Fin 1024) : coB m c t (ix2 r k) = br (U m c) (WC m c) (ix2 (row t r) k) + B m c (ix1 k) := by
  rw [br_at]
  refine (Pay.co_at _ (iblk m c 5 t) _ _ _ _ _ r k (ldw0 _) (ldw1 _) (ldw2 _) (ldw3 _)).trans ?_
  refine congrArg₂ (fun y z : EReal => y + z) (Finset.sum_congr rfl fun n _ => congrArg₂ (fun y z : EReal => y * z) (b0 m c t r n) ?_) (b6 m c t k)
  exact (b5 m c t _ n _).trans (congrArg (fun z => WC m c (ix2 n z)) (col k _))

theorem k_mg (r : Fin 256) (k : Fin 1024) : mgB m c t (ix2 r k) = mg (U m c) (A m c) (GC m c) (GA m c) (WC m c) (B m c) (WA m c) (ix2 (row t r) k) := by
  rw [mg_at, br_at (A m c)]
  refine (Pay.mg_at _ (iblk m c 7 t) _ _ _ _ _ _ _ r k (ldw0 _) (ldw1 _) (ldw2 _) (ldw3 _)).trans ?_
  refine congrArg₂ (fun y z : EReal => y + z) (congrArg₂ (fun y z : EReal => y * z) (congrArg sigm (b2 m c t r k)) (k_co m c t r k))
    (congrArg₂ (fun y z : EReal => y * z) (congrArg sigm (b3 m c t r k)) (Finset.sum_congr rfl fun n _ => congrArg₂ (fun y z : EReal => y * z) (b1 m c t r n) ?_))
  exact (b7 m c t _ n _).trans (congrArg (fun z => WA m c (ix2 n z)) (col k _))

theorem k_o12 (r : Fin 256) (k : Fin 1024) : mgB m c t (ix2 r k) = o12 (U m c) (A m c) (GC m c) (GA m c) (WC m c) (B m c) (WA m c) (ix2 (row t r) k) := by
  rw [o12_at]; exact k_mg m c t r k

theorem k_mix (r : Fin 256) (k : Fin 1024) : mixB m c t (ix2 r k) = o13 (U m c) (A m c) (GC m c) (GA m c) (WC m c) (B m c) (WA m c) (WO m c) (ix2 (row t r) k) := by
  rw [o13_at]
  refine (Pay.mix_at _ _ _ _ _ _ _ _ _ r k).trans ?_
  exact Finset.sum_congr rfl fun n _ => congrArg₂ (fun y z : EReal => y * z) (k_mg m c t r n) (b8 m c t n k)

theorem k_x2 (r : Fin 256) (k : Fin 1024) : x2B m c t (ix2 r k) = o14 (U m c) (A m c) (GC m c) (GA m c) (X m c) (WC m c) (B m c) (WA m c) (WO m c) (G2 m c) (ix2 (row t r) k) := by
  rw [o14_at]
  refine (Pay.x2_at _ _ _ _ (fun r => Pay.sq_at _ _ _ _ _ _ _ _ _ r) r k).trans ?_
  refine congrArg₂ (fun y z : EReal => y + z) (b4 m c t r k) (congrArg₂ (fun y z : EReal => y * z) (congrArg₂ (fun y z : EReal => y * z) (k_mix m c t r k) ?_) (b9 m c t k))
  exact congrArg rinv (funext fun k => k_mix m c t r k)

theorem k_h2 (r : Fin 256) (k : Fin 1024) : (k0_pay2 (F := Ideal) (mixB m c t) (sqB m c t) (iblk m c 4 t) (iblk m c 9 t) (iblk m c 10 t)) (ix2 r k) = o15 (U m c) (A m c) (GC m c) (GA m c) (X m c) (WC m c) (B m c) (WA m c) (WO m c) (G2 m c) (G3 m c) (ix2 (row t r) k) := by
  rw [o15_at]
  refine (Pay.h2_at _ _ _ _ _ r k).trans ?_
  refine congrArg₂ (fun y z : EReal => y * z) (congrArg₂ (fun y z : EReal => y * z) (k_x2 m c t r k) ?_) (b10 m c t k)
  exact congrArg rinv (funext fun k => k_x2 m c t r k)

end Cert.MixFwdIdeal.Value
end
-- ==== Proof.MixFwdValue.lean ====
/- The gated merge's forward pass: the kernel's final arrays are the reference's results. -/
module

public import proofs.«01_k».proof.Proof.MixFwdTile

@[expose] public section

set_option maxRecDepth 16384
set_option maxHeartbeats 4000000

noncomputable section

namespace Cert.MixFwdIdeal.Value

open Cert.MixFwdIdeal Cert.MixFwdIdeal.Gen Cert.MergeMath Idealize.ShloMosaic Idealize.ShloMosaic.TcCoe Idealize.SL.Sem
open Cert.MixFwdRefIdeal.Read

variable (m : (ℓ : Loc nD τ sig) → Buf (Elt Ideal) ℓ) (c : Dev nD)

/-! ## The final arrays -/

theorem final12 : (dats m 0 c).arrAt 12 cfg0.N = o12 (U m c) (A m c) (GC m c) (GA m c) (WC m c) (B m c) (WA m c) := by
  refine (dats m 0 c).arrAt_eq_of_covers 12 _ (by decide +kernel) fun t hf y => ?_
  blk_simp
  rw [after0_12]
  unfold_out out0_12
  frame_out
  idx_vars y
  exact (k_o12 m c t _ _).trans (congrArg (o12 (U m c) (A m c) (GC m c) (GA m c) (WC m c) (B m c) (WA m c)) (emb12 t _ _)).symm

theorem final13 : (dats m 0 c).arrAt 13 cfg0.N = o13 (U m c) (A m c) (GC m c) (GA m c) (WC m c) (B m c) (WA m c) (WO m c) := by
  refine (dats m 0 c).arrAt_eq_of_covers 13 _ (by decide +kernel) fun t hf y => ?_
  blk_simp
  rw [after0_13]
  unfold_out out0_13
  frame_out
  idx_vars y
  exact (k_mix m c t _ _).trans (congrArg (o13 (U m c) (A m c) (GC m c) (GA m c) (WC m c) (B m c) (WA m c) (WO m c)) (emb13 t _ _)).symm

theorem final14 : (dats m 0 c).arrAt 14 cfg0.N = o14 (U m c) (A m c) (GC m c) (GA m c) (X m c) (WC m c) (B m c) (WA m c) (WO m c) (G2 m c) := by
  refine (dats m 0 c).arrAt_eq_of_covers 14 _ (by decide +kernel) fun t hf y => ?_
  blk_simp
  rw [after0_14]
  unfold_out out0_14
  frame_out
  idx_vars y
  exact (k_x2 m c t _ _).trans (congrArg (o14 (U m c) (A m c) (GC m c) (GA m c) (X m c) (WC m c) (B m c) (WA m c) (WO m c) (G2 m c)) (emb14 t _ _)).symm

theorem final15 : (dats m 0 c).arrAt 15 cfg0.N = o15 (U m c) (A m c) (GC m c) (GA m c) (X m c) (WC m c) (B m c) (WA m c) (WO m c) (G2 m c) (G3 m c) := by
  refine (dats m 0 c).arrAt_eq_of_covers 15 _ (by decide +kernel) fun t hf y => ?_
  blk_simp
  rw [after0_15]
  unfold_out out0_15
  frame_out
  idx_vars y
  exact (k_h2 m c t _ _).trans (congrArg (o15 (U m c) (A m c) (GC m c) (GA m c) (X m c) (WC m c) (B m c) (WA m c) (WO m c) (G2 m c) (G3 m c)) (emb15 t _ _)).symm

/-- The two programs end with equal results. -/
theorem algebraic : Cert.algebraic_MixFwdIdeal_MixFwdRefIdeal (hMixFwdIdeal := Cert.MixFwdIdeal.Gen.facts) (hMixFwdRefIdeal := Cert.MixFwdRefIdeal.Gen.facts) := by
  intro m g m' g' hpre hag
  refine ⟨fun c => o12 (U m c) (A m c) (GC m c) (GA m c) (WC m c) (B m c) (WA m c), fun c => o13 (U m c) (A m c) (GC m c) (GA m c) (WC m c) (B m c) (WA m c) (WO m c), fun c => o14 (U m c) (A m c) (GC m c) (GA m c) (X m c) (WC m c) (B m c) (WA m c) (WO m c) (G2 m c), fun c => o15 (U m c) (A m c) (GC m c) (GA m c) (X m c) (WC m c) (B m c) (WA m c) (WO m c) (G2 m c) (G3 m c), ?_, ?_⟩
  · exact (θ_run _ _ _).mono (fun r h c => ⟨(h c).1.trans (final12 m c), (h c).2.1.trans (final13 m c), (h c).2.2.1.trans (final14 m c), (h c).2.2.2.1.trans (final15 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.MixFwdRefIdeal.Value.run m' g')
    · obtain ⟨a0, a1, a2, a3, a4, a5, a6, a7, a8, a9, a10⟩ := hag c
      refine Eq.trans (b := o12 (m' ((c : Thread Cert.MixFwdRefIdeal.nD Cert.MixFwdRefIdeal.τ).loc Cert.MixFwdRefIdeal.main_arg0)) (m' ((c : Thread Cert.MixFwdRefIdeal.nD Cert.MixFwdRefIdeal.τ).loc Cert.MixFwdRefIdeal.main_arg1)) (m' ((c : Thread Cert.MixFwdRefIdeal.nD Cert.MixFwdRefIdeal.τ).loc Cert.MixFwdRefIdeal.main_arg2)) (m' ((c : Thread Cert.MixFwdRefIdeal.nD Cert.MixFwdRefIdeal.τ).loc Cert.MixFwdRefIdeal.main_arg3)) (m' ((c : Thread Cert.MixFwdRefIdeal.nD Cert.MixFwdRefIdeal.τ).loc Cert.MixFwdRefIdeal.main_arg5)) (m' ((c : Thread Cert.MixFwdRefIdeal.nD Cert.MixFwdRefIdeal.τ).loc Cert.MixFwdRefIdeal.main_arg6)) (m' ((c : Thread Cert.MixFwdRefIdeal.nD Cert.MixFwdRefIdeal.τ).loc Cert.MixFwdRefIdeal.main_arg7))) rfl ?_
      rw [a0, a1, a2, a3, a5, a6, a7]
    · obtain ⟨a0, a1, a2, a3, a4, a5, a6, a7, a8, a9, a10⟩ := hag c
      refine Eq.trans (b := o13 (m' ((c : Thread Cert.MixFwdRefIdeal.nD Cert.MixFwdRefIdeal.τ).loc Cert.MixFwdRefIdeal.main_arg0)) (m' ((c : Thread Cert.MixFwdRefIdeal.nD Cert.MixFwdRefIdeal.τ).loc Cert.MixFwdRefIdeal.main_arg1)) (m' ((c : Thread Cert.MixFwdRefIdeal.nD Cert.MixFwdRefIdeal.τ).loc Cert.MixFwdRefIdeal.main_arg2)) (m' ((c : Thread Cert.MixFwdRefIdeal.nD Cert.MixFwdRefIdeal.τ).loc Cert.MixFwdRefIdeal.main_arg3)) (m' ((c : Thread Cert.MixFwdRefIdeal.nD Cert.MixFwdRefIdeal.τ).loc Cert.MixFwdRefIdeal.main_arg5)) (m' ((c : Thread Cert.MixFwdRefIdeal.nD Cert.MixFwdRefIdeal.τ).loc Cert.MixFwdRefIdeal.main_arg6)) (m' ((c : Thread Cert.MixFwdRefIdeal.nD Cert.MixFwdRefIdeal.τ).loc Cert.MixFwdRefIdeal.main_arg7)) (m' ((c : Thread Cert.MixFwdRefIdeal.nD Cert.MixFwdRefIdeal.τ).loc Cert.MixFwdRefIdeal.main_arg8))) rfl ?_
      rw [a0, a1, a2, a3, a5, a6, a7, a8]
    · obtain ⟨a0, a1, a2, a3, a4, a5, a6, a7, a8, a9, a10⟩ := hag c
      refine Eq.trans (b := o14 (m' ((c : Thread Cert.MixFwdRefIdeal.nD Cert.MixFwdRefIdeal.τ).loc Cert.MixFwdRefIdeal.main_arg0)) (m' ((c : Thread Cert.MixFwdRefIdeal.nD Cert.MixFwdRefIdeal.τ).loc Cert.MixFwdRefIdeal.main_arg1)) (m' ((c : Thread Cert.MixFwdRefIdeal.nD Cert.MixFwdRefIdeal.τ).loc Cert.MixFwdRefIdeal.main_arg2)) (m' ((c : Thread Cert.MixFwdRefIdeal.nD Cert.MixFwdRefIdeal.τ).loc Cert.MixFwdRefIdeal.main_arg3)) (m' ((c : Thread Cert.MixFwdRefIdeal.nD Cert.MixFwdRefIdeal.τ).loc Cert.MixFwdRefIdeal.main_arg4)) (m' ((c : Thread Cert.MixFwdRefIdeal.nD Cert.MixFwdRefIdeal.τ).loc Cert.MixFwdRefIdeal.main_arg5)) (m' ((c : Thread Cert.MixFwdRefIdeal.nD Cert.MixFwdRefIdeal.τ).loc Cert.MixFwdRefIdeal.main_arg6)) (m' ((c : Thread Cert.MixFwdRefIdeal.nD Cert.MixFwdRefIdeal.τ).loc Cert.MixFwdRefIdeal.main_arg7)) (m' ((c : Thread Cert.MixFwdRefIdeal.nD Cert.MixFwdRefIdeal.τ).loc Cert.MixFwdRefIdeal.main_arg8)) (m' ((c : Thread Cert.MixFwdRefIdeal.nD Cert.MixFwdRefIdeal.τ).loc Cert.MixFwdRefIdeal.main_arg9))) rfl ?_
      rw [a0, a1, a2, a3, a4, a5, a6, a7, a8, a9]
    · obtain ⟨a0, a1, a2, a3, a4, a5, a6, a7, a8, a9, a10⟩ := hag c
      refine Eq.trans (b := o15 (m' ((c : Thread Cert.MixFwdRefIdeal.nD Cert.MixFwdRefIdeal.τ).loc Cert.MixFwdRefIdeal.main_arg0)) (m' ((c : Thread Cert.MixFwdRefIdeal.nD Cert.MixFwdRefIdeal.τ).loc Cert.MixFwdRefIdeal.main_arg1)) (m' ((c : Thread Cert.MixFwdRefIdeal.nD Cert.MixFwdRefIdeal.τ).loc Cert.MixFwdRefIdeal.main_arg2)) (m' ((c : Thread Cert.MixFwdRefIdeal.nD Cert.MixFwdRefIdeal.τ).loc Cert.MixFwdRefIdeal.main_arg3)) (m' ((c : Thread Cert.MixFwdRefIdeal.nD Cert.MixFwdRefIdeal.τ).loc Cert.MixFwdRefIdeal.main_arg4)) (m' ((c : Thread Cert.MixFwdRefIdeal.nD Cert.MixFwdRefIdeal.τ).loc Cert.MixFwdRefIdeal.main_arg5)) (m' ((c : Thread Cert.MixFwdRefIdeal.nD Cert.MixFwdRefIdeal.τ).loc Cert.MixFwdRefIdeal.main_arg6)) (m' ((c : Thread Cert.MixFwdRefIdeal.nD Cert.MixFwdRefIdeal.τ).loc Cert.MixFwdRefIdeal.main_arg7)) (m' ((c : Thread Cert.MixFwdRefIdeal.nD Cert.MixFwdRefIdeal.τ).loc Cert.MixFwdRefIdeal.main_arg8)) (m' ((c : Thread Cert.MixFwdRefIdeal.nD Cert.MixFwdRefIdeal.τ).loc Cert.MixFwdRefIdeal.main_arg9)) (m' ((c : Thread Cert.MixFwdRefIdeal.nD Cert.MixFwdRefIdeal.τ).loc Cert.MixFwdRefIdeal.main_arg10))) rfl ?_
      rw [a0, a1, a2, a3, a4, a5, a6, a7, a8, a9, a10]

end Cert.MixFwdIdeal.Value
end
-- ==== Proof.AdamMath.lean ====
/- One step of AdamW on one element, and two halves of rows put together. -/
module

public import Idealize.ShloMosaic.Lib.Pipeline.ValueKit
public import Idealize.ShloMosaic.Lib.Pipeline.Value
public import Idealize.ShloMosaic.Lib.Pointwise

@[expose] public section

set_option maxRecDepth 16384

noncomputable section

namespace Cert.AdamMath

open Idealize.ShloMosaic

/-- The new first moment, from the gradient and the old moment. -/
def newM (g m : EReal) : EReal := Ideal.ofBits .f32 0x3F666666#32 * m + Ideal.ofBits .f32 0x3DCCCCCD#32 * g

/-- The new second moment, from the gradient and the old moment. -/
def newV (g v : EReal) : EReal := Ideal.ofBits .f32 0x3F7FBE77#32 * v + Ideal.ofBits .f32 0x3A83126F#32 * (g * g)

/-- The change of the weight: the corrected moments' quotient and the decay, times minus the rate. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

variable {h r c : Nat}

/-- Two halves of rows, one below the other. -/
def gather (hc : Shape.Concatenates [⟨2, ![h, c]⟩, ⟨2, ![h, c]⟩] ⟨2, ![r, c]⟩ 0) (A B : FVec Ideal ⟨2, ![h, c]⟩ .f32) :
    FVec Ideal ⟨2, ![r, c]⟩ .f32 :=
  concatenate ⟨2, ![r, c]⟩ 0 [⟨⟨2, ![h, c]⟩, A⟩, ⟨⟨2, ![h, c]⟩, B⟩] hc

/-- A row of the upper half is the first array's. -/
theorem gather_upper (hc : Shape.Concatenates [⟨2, ![h, c]⟩, ⟨2, ![h, c]⟩] ⟨2, ![r, c]⟩ 0) (A B : FVec Ideal ⟨2, ![h, c]⟩ .f32)
    (k : Fin r) (i : Fin h) (n : Fin c) (hk : i.val = k.val) : gather hc A B (ix2 k n) = A (ix2 i n) :=
  concatenate_pair_apply_left 0 A B hc _ rfl _ fun b => by
    match b with
    | ⟨0, _⟩ => exact hk
    | ⟨1, _⟩ => rfl

/-- A row of the lower half is the second array's. -/
theorem gather_lower (hc : Shape.Concatenates [⟨2, ![h, c]⟩, ⟨2, ![h, c]⟩] ⟨2, ![r, c]⟩ 0) (A B : FVec Ideal ⟨2, ![h, c]⟩ .f32)
    (k : Fin r) (i : Fin h) (n : Fin c) (hk : i.val + h = k.val) : gather hc A B (ix2 k n) = B (ix2 i n) :=
  concatenate_pair_apply_right 0 A B hc _ rfl rfl _ (fun b hb => by
    match b with
    | ⟨0, _⟩ => exact absurd rfl hb
    | ⟨1, _⟩ => rfl) hk

end Cert.AdamMath
end
-- ==== Proof.AdamInValue.lean ====
/- The optimiser's step on a device's shard of the input projection: the kernel's tiles are the tiles of the step on whole arrays. -/
module

public import proofs.«01_k».proof.Proof.Gen.AdamInIdeal.Value
public import proofs.«01_k».proof.Proof.Gen.AdamInRefIdeal.Run
public import proofs.«01_k».proof.Proof.AdamMath
public import proofs.«01_k».proof.Defs

@[expose] public section

set_option maxRecDepth 16384

noncomputable section

namespace Cert.AdamInIdeal.Value

open Cert.AdamInIdeal Cert.AdamInIdeal.Gen Cert.AdamMath Idealize.ShloMosaic Idealize.ShloMosaic.TcCoe Idealize.SL.Sem

/-- The gradient: the device's own half of rows above the other core's. -/
def gather2 (A B : FVec Ideal S512x1152 .f32) : FVec Ideal S1024x1152 .f32 := gather Cert.AdamInRefIdeal.Gen.facts.concatenates_S512x1152_S512x1152_S1024x1152_d0 A B

theorem gather2_upper (A B : FVec Ideal S512x1152 .f32) (k : Fin 1024) (i : Fin 512) (n : Fin 1152) (hk : i.val = k.val) :
    gather2 A B (ix2 k n) = A (ix2 i n) := gather_upper _ A B k i n hk

theorem gather2_lower (A B : FVec Ideal S512x1152 .f32) (k : Fin 1024) (i : Fin 512) (n : Fin 1152) (hk : i.val + 512 = k.val) :
    gather2 A B (ix2 k n) = B (ix2 i n) := gather_lower _ A B k i n hk

/-- The new first moment, element by element. -/
def momM (G M : FVec Ideal S1024x1152 .f32) : FVec Ideal S1024x1152 .f32 := fun i => newM (G i) (M i)

/-- The new second moment, element by element. -/
def momV (G V : FVec Ideal S1024x1152 .f32) : FVec Ideal S1024x1152 .f32 := fun i => newV (G i) (V i)

/-- The change of the weight, element by element. -/
def step (G W M V : FVec Ideal S1024x1152 .f32) : FVec Ideal S1024x1152 .f32 := fun i => delta (W i) (G i) (M i) (V i)

variable (m : (ℓ : Loc nD τ sig) → Buf (Elt Ideal) ℓ) (c : Dev nD)

/-- Where each window stands at a point, and which half the point's tile lies in. -/
theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]
    ∧ t.val < 4 :=
  (by decide +kernel : ∀ t : Fin grid0.N, _)

theorem upper : ∀ t : Fin cfg0.N, t.val < 2 →
    win0_1.index t = ![t.val, 0] ∧ Scalar.cmpi .eq (BitVec.ofNat 32 (grid0.coords t 0).val) 0#32 = 1#1 :=
  (by decide +kernel : ∀ t : Fin grid0.N, t.val < 2 →
    win0_1.index t = ![t.val, 0] ∧ Scalar.cmpi .eq (BitVec.ofNat 32 (grid0.coords t 0).val) 0#32 = 1#1)

theorem lower : ∀ t : Fin cfg0.N, ¬ t.val < 2 →
    win0_2.index t = ![t.val - 2, 0] ∧ Scalar.cmpi .eq (BitVec.ofNat 32 (grid0.coords t 0).val) 0#32 = 0#1 :=
  (by decide +kernel : ∀ t : Fin grid0.N, ¬ t.val < 2 →
    win0_2.index t = ![t.val - 2, 0] ∧ Scalar.cmpi .eq (BitVec.ofNat 32 (grid0.coords t 0).val) 0#32 = 0#1)

/-- The array's row of a tile's row. -/
def row (t : Fin cfg0.N) (p : Fin 256) : Fin 1024 := ⟨t.val * 256 + p.val, by have := (idx t).2.2.2.2.2.2.2; omega⟩

/-! ## The tiles of the inputs and of the results -/

theorem b0 (t : Fin cfg0.N) (p : Fin 256) (n : Fin 1152) : (iblk m c 0 t : FVec Ideal S256x1152 .f32) (ix2 p n)
    = (m ((c : Thread nD τ).loc main_arg0) : FVec Ideal S1024x1152 .f32) (ix2 (row t p) n) := by
  refine Eq.trans ?_ (congrFun (V_main_arg0 m c) _)
  unfold row
  blk_ext [iblk, idx t]

theorem b3 (t : Fin cfg0.N) (p : Fin 256) (n : Fin 1152) : (iblk m c 3 t : FVec Ideal S256x1152 .f32) (ix2 p n)
    = (m ((c : Thread nD τ).loc main_arg3) : FVec Ideal S1024x1152 .f32) (ix2 (row t p) n) := by
  refine Eq.trans ?_ (congrFun (V_main_arg3 m c) _)
  unfold row
  blk_ext [iblk, idx t]

theorem b4 (t : Fin cfg0.N) (p : Fin 256) (n : Fin 1152) : (iblk m c 4 t : FVec Ideal S256x1152 .f32) (ix2 p n)
    = (m ((c : Thread nD τ).loc main_arg4) : FVec Ideal S1024x1152 .f32) (ix2 (row t p) n) := by
  refine Eq.trans ?_ (congrFun (V_main_arg4 m c) _)
  unfold row
  blk_ext [iblk, idx t]

theorem emb5 (t : Fin cfg0.N) (p : Fin 256) (n : Fin 1152) : (((cfg0.win 5).blk t).view.emb (ix2 p n) : S1024x1152.Idx) = ix2 (row t p) n := by
  unfold row
  blk_ext [idx t]

theorem emb6 (t : Fin cfg0.N) (p : Fin 256) (n : Fin 1152) : (((cfg0.win 6).blk t).view.emb (ix2 p n) : S1024x1152.Idx) = ix2 (row t p) n := by
  unfold row
  blk_ext [idx t]

theorem emb7 (t : Fin cfg0.N) (p : Fin 256) (n : Fin 1152) : (((cfg0.win 7).blk t).view.emb (ix2 p n) : S1024x1152.Idx) = ix2 (row t p) n := by
  unfold row
  blk_ext [idx t]

theorem emb8 (t : Fin cfg0.N) (p : Fin 256) (n : Fin 1152) : (((cfg0.win 8).blk t).view.emb (ix2 p n) : S1024x1152.Idx) = ix2 (row t p) n := by
  unfold row
  blk_ext [idx t]

/-- The tile of the gradient that the body takes is the tile of the two halves put together. -/
theorem g_at (t : Fin cfg0.N) (p : Fin 256) (n : Fin 1152) :
    k0_pay1 (F := Ideal) (grid0.coords t) (iblk m c 1 t) (iblk m c 2 t) (ix2 p n) = gather2 (m ((c : Thread nD τ).loc main_arg1)) (m ((c : Thread nD τ).loc main_arg2)) (ix2 (row t p) n) := by
  have ht := (idx t).2.2.2.2.2.2.2
  by_cases h : t.val < 2
  · obtain ⟨h1, h2⟩ := upper t h
    refine (congrFun (congrArg (fun b => Scalar.select b (iblk m c 1 t : FVec Ideal S256x1152 .f32) (iblk m c 2 t : FVec Ideal S256x1152 .f32)) h2) (ix2 p n)).trans ?_
    refine Eq.trans ?_ (gather2_upper (m ((c : Thread nD τ).loc main_arg1)) (m ((c : Thread nD τ).loc main_arg2)) (row t p) ⟨t.val * 256 + p.val, by omega⟩ n rfl).symm
    refine Eq.trans ?_ (congrFun (V_main_arg1 m c) _)
    show (iblk m c 1 t : FVec Ideal S256x1152 .f32) (ix2 p n) = _
    blk_ext [iblk, h1]
  · obtain ⟨h1, h2⟩ := lower t h
    refine (congrFun (congrArg (fun b => Scalar.select b (iblk m c 1 t : FVec Ideal S256x1152 .f32) (iblk m c 2 t : FVec Ideal S256x1152 .f32)) h2) (ix2 p n)).trans ?_
    refine Eq.trans ?_ (gather2_lower (m ((c : Thread nD τ).loc main_arg1)) (m ((c : Thread nD τ).loc main_arg2)) (row t p) ⟨(t.val - 2) * 256 + p.val, by omega⟩ n (by show (t.val - 2) * 256 + p.val + 512 = t.val * 256 + p.val; omega)).symm
    refine Eq.trans ?_ (congrFun (V_main_arg2 m c) _)
    show (iblk m c 2 t : FVec Ideal S256x1152 .f32) (ix2 p n) = _
    blk_ext [iblk, h1]

/-! ## The body, element by element -/

variable (i : grid0.Coords) (v1 v2 v5 v6 v7 : FVec Ideal S256x1152 .f32) (y : S256x1152.Idx)

theorem m_at : k0_pay2 (F := Ideal) i v1 v2 v6 y = newM (k0_pay1 (F := Ideal) i v1 v2 y) (v6 y) := rfl

theorem v_at : k0_pay3 (F := Ideal) i v1 v2 v7 y = newV (k0_pay1 (F := Ideal) i v1 v2 y) (v7 y) := rfl

theorem d_at : k0_pay4 (F := Ideal) i v1 v2 v5 v6 v7 y = delta (v5 y) (k0_pay1 (F := Ideal) i v1 v2 y) (v6 y) (v7 y) := rfl

/-! ## The final arrays -/

/-- The gradient that the call returns: the two halves put together. -/
theorem final5 : (dats m 0 c).arrAt 5 cfg0.N = gather2 (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact (g_at m c t _ _).trans (congrArg (gather2 (m ((c : Thread nD τ).loc main_arg1)) (m ((c : Thread nD τ).loc main_arg2))) (emb5 t _ _)).symm

/-- The change of the weight. -/
theorem final6 : (dats m 0 c).arrAt 6 cfg0.N = step (gather2 (m ((c : Thread nD τ).loc main_arg1)) (m ((c : Thread nD τ).loc main_arg2))) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  refine Eq.trans ?_ (congrArg (step (gather2 (m ((c : Thread nD τ).loc main_arg1)) (m ((c : Thread nD τ).loc main_arg2))) (m ((c : Thread nD τ).loc main_arg0)) (m ((c : Thread nD τ).loc main_arg3)) (m ((c : Thread nD τ).loc main_arg4))) (emb6 t _ _)).symm
  refine (d_at _ _ _ _ _ _ _).trans ?_
  rw [g_at m c t, b0 m c t, b3 m c t, b4 m c t]
  rfl

/-- The new first moment. -/
theorem final7 : (dats m 0 c).arrAt 7 cfg0.N = momM (gather2 (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7]
  frame_out
  idx_vars y
  refine Eq.trans ?_ (congrArg (momM (gather2 (m ((c : Thread nD τ).loc main_arg1)) (m ((c : Thread nD τ).loc main_arg2))) (m ((c : Thread nD τ).loc main_arg3))) (emb7 t _ _)).symm
  refine (m_at _ _ _ _ _).trans ?_
  rw [g_at m c t, b3 m c t]
  rfl

/-- The new second moment. -/
theorem final8 : (dats m 0 c).arrAt 8 cfg0.N = momV (gather2 (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8]
  frame_out
  idx_vars y
  refine Eq.trans ?_ (congrArg (momV (gather2 (m ((c : Thread nD τ).loc main_arg1)) (m ((c : Thread nD τ).loc main_arg2))) (m ((c : Thread nD τ).loc main_arg4))) (emb8 t _ _)).symm
  refine (v_at _ _ _ _ _).trans ?_
  rw [g_at m c t, b4 m c t]
  rfl

/-- The two programs end with equal results. -/
theorem algebraic : Cert.algebraic_AdamInIdeal_AdamInRefIdeal (hAdamInIdeal := Cert.AdamInIdeal.Gen.facts) (hAdamInRefIdeal := Cert.AdamInRefIdeal.Gen.facts) := by
  intro m g m' g' hpre hag
  refine ⟨fun c => gather2 (m ((c : Thread nD τ).loc main_arg1)) (m ((c : Thread nD τ).loc main_arg2)), fun c => step (gather2 (m ((c : Thread nD τ).loc main_arg1)) (m ((c : Thread nD τ).loc main_arg2))) (m ((c : Thread nD τ).loc main_arg0)) (m ((c : Thread nD τ).loc main_arg3)) (m ((c : Thread nD τ).loc main_arg4)), fun c => momM (gather2 (m ((c : Thread nD τ).loc main_arg1)) (m ((c : Thread nD τ).loc main_arg2))) (m ((c : Thread nD τ).loc main_arg3)), fun c => momV (gather2 (m ((c : Thread nD τ).loc main_arg1)) (m ((c : Thread nD τ).loc main_arg2))) (m ((c : Thread nD τ).loc main_arg4)), ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.AdamInRefIdeal.Value.run m' g')
    · obtain ⟨a0, a1, a2, a3, a4⟩ := hag c
      refine Eq.trans (b := gather2 (m' ((c : Thread Cert.AdamInRefIdeal.nD Cert.AdamInRefIdeal.τ).loc Cert.AdamInRefIdeal.main_arg1)) (m' ((c : Thread Cert.AdamInRefIdeal.nD Cert.AdamInRefIdeal.τ).loc Cert.AdamInRefIdeal.main_arg2))) rfl ?_
      rw [a1, a2]
    · obtain ⟨a0, a1, a2, a3, a4⟩ := hag c
      refine Eq.trans (b := step (gather2 (m' ((c : Thread Cert.AdamInRefIdeal.nD Cert.AdamInRefIdeal.τ).loc Cert.AdamInRefIdeal.main_arg1)) (m' ((c : Thread Cert.AdamInRefIdeal.nD Cert.AdamInRefIdeal.τ).loc Cert.AdamInRefIdeal.main_arg2))) (m' ((c : Thread Cert.AdamInRefIdeal.nD Cert.AdamInRefIdeal.τ).loc Cert.AdamInRefIdeal.main_arg0)) (m' ((c : Thread Cert.AdamInRefIdeal.nD Cert.AdamInRefIdeal.τ).loc Cert.AdamInRefIdeal.main_arg3)) (m' ((c : Thread Cert.AdamInRefIdeal.nD Cert.AdamInRefIdeal.τ).loc Cert.AdamInRefIdeal.main_arg4))) rfl ?_
      rw [a0, a1, a2, a3, a4]
    · obtain ⟨a0, a1, a2, a3, a4⟩ := hag c
      refine Eq.trans (b := momM (gather2 (m' ((c : Thread Cert.AdamInRefIdeal.nD Cert.AdamInRefIdeal.τ).loc Cert.AdamInRefIdeal.main_arg1)) (m' ((c : Thread Cert.AdamInRefIdeal.nD Cert.AdamInRefIdeal.τ).loc Cert.AdamInRefIdeal.main_arg2))) (m' ((c : Thread Cert.AdamInRefIdeal.nD Cert.AdamInRefIdeal.τ).loc Cert.AdamInRefIdeal.main_arg3))) rfl ?_
      rw [a1, a2, a3]
    · obtain ⟨a0, a1, a2, a3, a4⟩ := hag c
      refine Eq.trans (b := momV (gather2 (m' ((c : Thread Cert.AdamInRefIdeal.nD Cert.AdamInRefIdeal.τ).loc Cert.AdamInRefIdeal.main_arg1)) (m' ((c : Thread Cert.AdamInRefIdeal.nD Cert.AdamInRefIdeal.τ).loc Cert.AdamInRefIdeal.main_arg2))) (m' ((c : Thread Cert.AdamInRefIdeal.nD Cert.AdamInRefIdeal.τ).loc Cert.AdamInRefIdeal.main_arg4))) rfl ?_
      rw [a1, a2, a4]

end Cert.AdamInIdeal.Value
end
-- ==== Proof.AdamUpValue.lean ====
/- The optimiser's step on a device's shard of the feed-forward's up weight: the kernel's tiles are the tiles of the step on whole arrays. -/
module

public import proofs.«01_k».proof.Proof.Gen.AdamUpIdeal.Value
public import proofs.«01_k».proof.Proof.Gen.AdamUpRefIdeal.Run
public import proofs.«01_k».proof.Proof.AdamMath
public import proofs.«01_k».proof.Defs

@[expose] public section

set_option maxRecDepth 16384

noncomputable section

namespace Cert.AdamUpIdeal.Value

open Cert.AdamUpIdeal Cert.AdamUpIdeal.Gen Cert.AdamMath Idealize.ShloMosaic Idealize.ShloMosaic.TcCoe Idealize.SL.Sem

/-- The gradient: the device's own half of rows above the other core's. -/
def gather2 (A B : FVec Ideal S512x1408 .f32) : FVec Ideal S1024x1408 .f32 := gather Cert.AdamUpRefIdeal.Gen.facts.concatenates_S512x1408_S512x1408_S1024x1408_d0 A B

theorem gather2_upper (A B : FVec Ideal S512x1408 .f32) (k : Fin 1024) (i : Fin 512) (n : Fin 1408) (hk : i.val = k.val) :
    gather2 A B (ix2 k n) = A (ix2 i n) := gather_upper _ A B k i n hk

theorem gather2_lower (A B : FVec Ideal S512x1408 .f32) (k : Fin 1024) (i : Fin 512) (n : Fin 1408) (hk : i.val + 512 = k.val) :
    gather2 A B (ix2 k n) = B (ix2 i n) := gather_lower _ A B k i n hk

/-- The new first moment, element by element. -/
def momM (G M : FVec Ideal S1024x1408 .f32) : FVec Ideal S1024x1408 .f32 := fun i => newM (G i) (M i)

/-- The new second moment, element by element. -/
def momV (G V : FVec Ideal S1024x1408 .f32) : FVec Ideal S1024x1408 .f32 := fun i => newV (G i) (V i)

/-- The change of the weight, element by element. -/
def step (G W M V : FVec Ideal S1024x1408 .f32) : FVec Ideal S1024x1408 .f32 := fun i => delta (W i) (G i) (M i) (V i)

variable (m : (ℓ : Loc nD τ sig) → Buf (Elt Ideal) ℓ) (c : Dev nD)

/-- Where each window stands at a point, and which half the point's tile lies in. -/
theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]
    ∧ t.val < 4 :=
  (by decide +kernel : ∀ t : Fin grid0.N, _)

theorem upper : ∀ t : Fin cfg0.N, t.val < 2 →
    win0_1.index t = ![t.val, 0] ∧ Scalar.cmpi .eq (BitVec.ofNat 32 (grid0.coords t 0).val) 0#32 = 1#1 :=
  (by decide +kernel : ∀ t : Fin grid0.N, t.val < 2 →
    win0_1.index t = ![t.val, 0] ∧ Scalar.cmpi .eq (BitVec.ofNat 32 (grid0.coords t 0).val) 0#32 = 1#1)

theorem lower : ∀ t : Fin cfg0.N, ¬ t.val < 2 →
    win0_2.index t = ![t.val - 2, 0] ∧ Scalar.cmpi .eq (BitVec.ofNat 32 (grid0.coords t 0).val) 0#32 = 0#1 :=
  (by decide +kernel : ∀ t : Fin grid0.N, ¬ t.val < 2 →
    win0_2.index t = ![t.val - 2, 0] ∧ Scalar.cmpi .eq (BitVec.ofNat 32 (grid0.coords t 0).val) 0#32 = 0#1)

/-- The array's row of a tile's row. -/
def row (t : Fin cfg0.N) (p : Fin 256) : Fin 1024 := ⟨t.val * 256 + p.val, by have := (idx t).2.2.2.2.2.2.2; omega⟩

/-! ## The tiles of the inputs and of the results -/

theorem b0 (t : Fin cfg0.N) (p : Fin 256) (n : Fin 1408) : (iblk m c 0 t : FVec Ideal S256x1408 .f32) (ix2 p n)
    = (m ((c : Thread nD τ).loc main_arg0) : FVec Ideal S1024x1408 .f32) (ix2 (row t p) n) := by
  refine Eq.trans ?_ (congrFun (V_main_arg0 m c) _)
  unfold row
  blk_ext [iblk, idx t]

theorem b3 (t : Fin cfg0.N) (p : Fin 256) (n : Fin 1408) : (iblk m c 3 t : FVec Ideal S256x1408 .f32) (ix2 p n)
    = (m ((c : Thread nD τ).loc main_arg3) : FVec Ideal S1024x1408 .f32) (ix2 (row t p) n) := by
  refine Eq.trans ?_ (congrFun (V_main_arg3 m c) _)
  unfold row
  blk_ext [iblk, idx t]

theorem b4 (t : Fin cfg0.N) (p : Fin 256) (n : Fin 1408) : (iblk m c 4 t : FVec Ideal S256x1408 .f32) (ix2 p n)
    = (m ((c : Thread nD τ).loc main_arg4) : FVec Ideal S1024x1408 .f32) (ix2 (row t p) n) := by
  refine Eq.trans ?_ (congrFun (V_main_arg4 m c) _)
  unfold row
  blk_ext [iblk, idx t]

theorem emb5 (t : Fin cfg0.N) (p : Fin 256) (n : Fin 1408) : (((cfg0.win 5).blk t).view.emb (ix2 p n) : S1024x1408.Idx) = ix2 (row t p) n := by
  unfold row
  blk_ext [idx t]

theorem emb6 (t : Fin cfg0.N) (p : Fin 256) (n : Fin 1408) : (((cfg0.win 6).blk t).view.emb (ix2 p n) : S1024x1408.Idx) = ix2 (row t p) n := by
  unfold row
  blk_ext [idx t]

theorem emb7 (t : Fin cfg0.N) (p : Fin 256) (n : Fin 1408) : (((cfg0.win 7).blk t).view.emb (ix2 p n) : S1024x1408.Idx) = ix2 (row t p) n := by
  unfold row
  blk_ext [idx t]

theorem emb8 (t : Fin cfg0.N) (p : Fin 256) (n : Fin 1408) : (((cfg0.win 8).blk t).view.emb (ix2 p n) : S1024x1408.Idx) = ix2 (row t p) n := by
  unfold row
  blk_ext [idx t]

/-- The tile of the gradient that the body takes is the tile of the two halves put together. -/
theorem g_at (t : Fin cfg0.N) (p : Fin 256) (n : Fin 1408) :
    k0_pay1 (F := Ideal) (grid0.coords t) (iblk m c 1 t) (iblk m c 2 t) (ix2 p n) = gather2 (m ((c : Thread nD τ).loc main_arg1)) (m ((c : Thread nD τ).loc main_arg2)) (ix2 (row t p) n) := by
  have ht := (idx t).2.2.2.2.2.2.2
  by_cases h : t.val < 2
  · obtain ⟨h1, h2⟩ := upper t h
    refine (congrFun (congrArg (fun b => Scalar.select b (iblk m c 1 t : FVec Ideal S256x1408 .f32) (iblk m c 2 t : FVec Ideal S256x1408 .f32)) h2) (ix2 p n)).trans ?_
    refine Eq.trans ?_ (gather2_upper (m ((c : Thread nD τ).loc main_arg1)) (m ((c : Thread nD τ).loc main_arg2)) (row t p) ⟨t.val * 256 + p.val, by omega⟩ n rfl).symm
    refine Eq.trans ?_ (congrFun (V_main_arg1 m c) _)
    show (iblk m c 1 t : FVec Ideal S256x1408 .f32) (ix2 p n) = _
    blk_ext [iblk, h1]
  · obtain ⟨h1, h2⟩ := lower t h
    refine (congrFun (congrArg (fun b => Scalar.select b (iblk m c 1 t : FVec Ideal S256x1408 .f32) (iblk m c 2 t : FVec Ideal S256x1408 .f32)) h2) (ix2 p n)).trans ?_
    refine Eq.trans ?_ (gather2_lower (m ((c : Thread nD τ).loc main_arg1)) (m ((c : Thread nD τ).loc main_arg2)) (row t p) ⟨(t.val - 2) * 256 + p.val, by omega⟩ n (by show (t.val - 2) * 256 + p.val + 512 = t.val * 256 + p.val; omega)).symm
    refine Eq.trans ?_ (congrFun (V_main_arg2 m c) _)
    show (iblk m c 2 t : FVec Ideal S256x1408 .f32) (ix2 p n) = _
    blk_ext [iblk, h1]

/-! ## The body, element by element -/

variable (i : grid0.Coords) (v1 v2 v5 v6 v7 : FVec Ideal S256x1408 .f32) (y : S256x1408.Idx)

theorem m_at : k0_pay2 (F := Ideal) i v1 v2 v6 y = newM (k0_pay1 (F := Ideal) i v1 v2 y) (v6 y) := rfl

theorem v_at : k0_pay3 (F := Ideal) i v1 v2 v7 y = newV (k0_pay1 (F := Ideal) i v1 v2 y) (v7 y) := rfl

theorem d_at : k0_pay4 (F := Ideal) i v1 v2 v5 v6 v7 y = delta (v5 y) (k0_pay1 (F := Ideal) i v1 v2 y) (v6 y) (v7 y) := rfl

/-! ## The final arrays -/

/-- The gradient that the call returns: the two halves put together. -/
theorem final5 : (dats m 0 c).arrAt 5 cfg0.N = gather2 (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact (g_at m c t _ _).trans (congrArg (gather2 (m ((c : Thread nD τ).loc main_arg1)) (m ((c : Thread nD τ).loc main_arg2))) (emb5 t _ _)).symm

/-- The change of the weight. -/
theorem final6 : (dats m 0 c).arrAt 6 cfg0.N = step (gather2 (m ((c : Thread nD τ).loc main_arg1)) (m ((c : Thread nD τ).loc main_arg2))) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  refine Eq.trans ?_ (congrArg (step (gather2 (m ((c : Thread nD τ).loc main_arg1)) (m ((c : Thread nD τ).loc main_arg2))) (m ((c : Thread nD τ).loc main_arg0)) (m ((c : Thread nD τ).loc main_arg3)) (m ((c : Thread nD τ).loc main_arg4))) (emb6 t _ _)).symm
  refine (d_at _ _ _ _ _ _ _).trans ?_
  rw [g_at m c t, b0 m c t, b3 m c t, b4 m c t]
  rfl

/-- The new first moment. -/
theorem final7 : (dats m 0 c).arrAt 7 cfg0.N = momM (gather2 (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7]
  frame_out
  idx_vars y
  refine Eq.trans ?_ (congrArg (momM (gather2 (m ((c : Thread nD τ).loc main_arg1)) (m ((c : Thread nD τ).loc main_arg2))) (m ((c : Thread nD τ).loc main_arg3))) (emb7 t _ _)).symm
  refine (m_at _ _ _ _ _).trans ?_
  rw [g_at m c t, b3 m c t]
  rfl

/-- The new second moment. -/
theorem final8 : (dats m 0 c).arrAt 8 cfg0.N = momV (gather2 (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8]
  frame_out
  idx_vars y
  refine Eq.trans ?_ (congrArg (momV (gather2 (m ((c : Thread nD τ).loc main_arg1)) (m ((c : Thread nD τ).loc main_arg2))) (m ((c : Thread nD τ).loc main_arg4))) (emb8 t _ _)).symm
  refine (v_at _ _ _ _ _).trans ?_
  rw [g_at m c t, b4 m c t]
  rfl

/-- The two programs end with equal results. -/
theorem algebraic : Cert.algebraic_AdamUpIdeal_AdamUpRefIdeal (hAdamUpIdeal := Cert.AdamUpIdeal.Gen.facts) (hAdamUpRefIdeal := Cert.AdamUpRefIdeal.Gen.facts) := by
  intro m g m' g' hpre hag
  refine ⟨fun c => gather2 (m ((c : Thread nD τ).loc main_arg1)) (m ((c : Thread nD τ).loc main_arg2)), fun c => step (gather2 (m ((c : Thread nD τ).loc main_arg1)) (m ((c : Thread nD τ).loc main_arg2))) (m ((c : Thread nD τ).loc main_arg0)) (m ((c : Thread nD τ).loc main_arg3)) (m ((c : Thread nD τ).loc main_arg4)), fun c => momM (gather2 (m ((c : Thread nD τ).loc main_arg1)) (m ((c : Thread nD τ).loc main_arg2))) (m ((c : Thread nD τ).loc main_arg3)), fun c => momV (gather2 (m ((c : Thread nD τ).loc main_arg1)) (m ((c : Thread nD τ).loc main_arg2))) (m ((c : Thread nD τ).loc main_arg4)), ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.AdamUpRefIdeal.Value.run m' g')
    · obtain ⟨a0, a1, a2, a3, a4⟩ := hag c
      refine Eq.trans (b := gather2 (m' ((c : Thread Cert.AdamUpRefIdeal.nD Cert.AdamUpRefIdeal.τ).loc Cert.AdamUpRefIdeal.main_arg1)) (m' ((c : Thread Cert.AdamUpRefIdeal.nD Cert.AdamUpRefIdeal.τ).loc Cert.AdamUpRefIdeal.main_arg2))) rfl ?_
      rw [a1, a2]
    · obtain ⟨a0, a1, a2, a3, a4⟩ := hag c
      refine Eq.trans (b := step (gather2 (m' ((c : Thread Cert.AdamUpRefIdeal.nD Cert.AdamUpRefIdeal.τ).loc Cert.AdamUpRefIdeal.main_arg1)) (m' ((c : Thread Cert.AdamUpRefIdeal.nD Cert.AdamUpRefIdeal.τ).loc Cert.AdamUpRefIdeal.main_arg2))) (m' ((c : Thread Cert.AdamUpRefIdeal.nD Cert.AdamUpRefIdeal.τ).loc Cert.AdamUpRefIdeal.main_arg0)) (m' ((c : Thread Cert.AdamUpRefIdeal.nD Cert.AdamUpRefIdeal.τ).loc Cert.AdamUpRefIdeal.main_arg3)) (m' ((c : Thread Cert.AdamUpRefIdeal.nD Cert.AdamUpRefIdeal.τ).loc Cert.AdamUpRefIdeal.main_arg4))) rfl ?_
      rw [a0, a1, a2, a3, a4]
    · obtain ⟨a0, a1, a2, a3, a4⟩ := hag c
      refine Eq.trans (b := momM (gather2 (m' ((c : Thread Cert.AdamUpRefIdeal.nD Cert.AdamUpRefIdeal.τ).loc Cert.AdamUpRefIdeal.main_arg1)) (m' ((c : Thread Cert.AdamUpRefIdeal.nD Cert.AdamUpRefIdeal.τ).loc Cert.AdamUpRefIdeal.main_arg2))) (m' ((c : Thread Cert.AdamUpRefIdeal.nD Cert.AdamUpRefIdeal.τ).loc Cert.AdamUpRefIdeal.main_arg3))) rfl ?_
      rw [a1, a2, a3]
    · obtain ⟨a0, a1, a2, a3, a4⟩ := hag c
      refine Eq.trans (b := momV (gather2 (m' ((c : Thread Cert.AdamUpRefIdeal.nD Cert.AdamUpRefIdeal.τ).loc Cert.AdamUpRefIdeal.main_arg1)) (m' ((c : Thread Cert.AdamUpRefIdeal.nD Cert.AdamUpRefIdeal.τ).loc Cert.AdamUpRefIdeal.main_arg2))) (m' ((c : Thread Cert.AdamUpRefIdeal.nD Cert.AdamUpRefIdeal.τ).loc Cert.AdamUpRefIdeal.main_arg4))) rfl ?_
      rw [a1, a2, a4]

end Cert.AdamUpIdeal.Value
end
-- ==== Proof.AdamDownValue.lean ====
/- The optimiser's step on a device's shard of the feed-forward's down weight: the kernel's tiles are the tiles of the step on whole arrays. -/
module

public import proofs.«01_k».proof.Proof.Gen.AdamDownIdeal.Value
public import proofs.«01_k».proof.Proof.Gen.AdamDownRefIdeal.Run
public import proofs.«01_k».proof.Proof.AdamMath
public import proofs.«01_k».proof.Defs

@[expose] public section

set_option maxRecDepth 16384

noncomputable section

namespace Cert.AdamDownIdeal.Value

open Cert.AdamDownIdeal Cert.AdamDownIdeal.Gen Cert.AdamMath Idealize.ShloMosaic Idealize.ShloMosaic.TcCoe Idealize.SL.Sem

/-- The gradient: the device's own half of rows above the other core's. -/
def gather2 (A B : FVec Ideal S352x1024 .f32) : FVec Ideal S704x1024 .f32 := gather Cert.AdamDownRefIdeal.Gen.facts.concatenates_S352x1024_S352x1024_S704x1024_d0 A B

theorem gather2_upper (A B : FVec Ideal S352x1024 .f32) (k : Fin 704) (i : Fin 352) (n : Fin 1024) (hk : i.val = k.val) :
    gather2 A B (ix2 k n) = A (ix2 i n) := gather_upper _ A B k i n hk

theorem gather2_lower (A B : FVec Ideal S352x1024 .f32) (k : Fin 704) (i : Fin 352) (n : Fin 1024) (hk : i.val + 352 = k.val) :
    gather2 A B (ix2 k n) = B (ix2 i n) := gather_lower _ A B k i n hk

/-- The new first moment, element by element. -/
def momM (G M : FVec Ideal S704x1024 .f32) : FVec Ideal S704x1024 .f32 := fun i => newM (G i) (M i)

/-- The new second moment, element by element. -/
def momV (G V : FVec Ideal S704x1024 .f32) : FVec Ideal S704x1024 .f32 := fun i => newV (G i) (V i)

/-- The change of the weight, element by element. -/
def step (G W M V : FVec Ideal S704x1024 .f32) : FVec Ideal S704x1024 .f32 := fun i => delta (W i) (G i) (M i) (V i)

variable (m : (ℓ : Loc nD τ sig) → Buf (Elt Ideal) ℓ) (c : Dev nD)

/-- Where each window stands at a point, and which half the point's tile lies in. -/
theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]
    ∧ t.val < 2 :=
  (by decide +kernel : ∀ t : Fin grid0.N, _)

theorem upper : ∀ t : Fin cfg0.N, t.val < 1 →
    win0_1.index t = ![t.val, 0] ∧ Scalar.cmpi .eq (BitVec.ofNat 32 (grid0.coords t 0).val) 0#32 = 1#1 :=
  (by decide +kernel : ∀ t : Fin grid0.N, t.val < 1 →
    win0_1.index t = ![t.val, 0] ∧ Scalar.cmpi .eq (BitVec.ofNat 32 (grid0.coords t 0).val) 0#32 = 1#1)

theorem lower : ∀ t : Fin cfg0.N, ¬ t.val < 1 →
    win0_2.index t = ![t.val - 1, 0] ∧ Scalar.cmpi .eq (BitVec.ofNat 32 (grid0.coords t 0).val) 0#32 = 0#1 :=
  (by decide +kernel : ∀ t : Fin grid0.N, ¬ t.val < 1 →
    win0_2.index t = ![t.val - 1, 0] ∧ Scalar.cmpi .eq (BitVec.ofNat 32 (grid0.coords t 0).val) 0#32 = 0#1)

/-- The array's row of a tile's row. -/
def row (t : Fin cfg0.N) (p : Fin 352) : Fin 704 := ⟨t.val * 352 + p.val, by have := (idx t).2.2.2.2.2.2.2; omega⟩

/-! ## The tiles of the inputs and of the results -/

theorem b0 (t : Fin cfg0.N) (p : Fin 352) (n : Fin 1024) : (iblk m c 0 t : FVec Ideal S352x1024 .f32) (ix2 p n)
    = (m ((c : Thread nD τ).loc main_arg0) : FVec Ideal S704x1024 .f32) (ix2 (row t p) n) := by
  refine Eq.trans ?_ (congrFun (V_main_arg0 m c) _)
  unfold row
  blk_ext [iblk, idx t]

theorem b3 (t : Fin cfg0.N) (p : Fin 352) (n : Fin 1024) : (iblk m c 3 t : FVec Ideal S352x1024 .f32) (ix2 p n)
    = (m ((c : Thread nD τ).loc main_arg3) : FVec Ideal S704x1024 .f32) (ix2 (row t p) n) := by
  refine Eq.trans ?_ (congrFun (V_main_arg3 m c) _)
  unfold row
  blk_ext [iblk, idx t]

theorem b4 (t : Fin cfg0.N) (p : Fin 352) (n : Fin 1024) : (iblk m c 4 t : FVec Ideal S352x1024 .f32) (ix2 p n)
    = (m ((c : Thread nD τ).loc main_arg4) : FVec Ideal S704x1024 .f32) (ix2 (row t p) n) := by
  refine Eq.trans ?_ (congrFun (V_main_arg4 m c) _)
  unfold row
  blk_ext [iblk, idx t]

theorem emb5 (t : Fin cfg0.N) (p : Fin 352) (n : Fin 1024) : (((cfg0.win 5).blk t).view.emb (ix2 p n) : S704x1024.Idx) = ix2 (row t p) n := by
  unfold row
  blk_ext [idx t]

theorem emb6 (t : Fin cfg0.N) (p : Fin 352) (n : Fin 1024) : (((cfg0.win 6).blk t).view.emb (ix2 p n) : S704x1024.Idx) = ix2 (row t p) n := by
  unfold row
  blk_ext [idx t]

theorem emb7 (t : Fin cfg0.N) (p : Fin 352) (n : Fin 1024) : (((cfg0.win 7).blk t).view.emb (ix2 p n) : S704x1024.Idx) = ix2 (row t p) n := by
  unfold row
  blk_ext [idx t]

theorem emb8 (t : Fin cfg0.N) (p : Fin 352) (n : Fin 1024) : (((cfg0.win 8).blk t).view.emb (ix2 p n) : S704x1024.Idx) = ix2 (row t p) n := by
  unfold row
  blk_ext [idx t]

/-- The tile of the gradient that the body takes is the tile of the two halves put together. -/
theorem g_at (t : Fin cfg0.N) (p : Fin 352) (n : Fin 1024) :
    k0_pay1 (F := Ideal) (grid0.coords t) (iblk m c 1 t) (iblk m c 2 t) (ix2 p n) = gather2 (m ((c : Thread nD τ).loc main_arg1)) (m ((c : Thread nD τ).loc main_arg2)) (ix2 (row t p) n) := by
  have ht := (idx t).2.2.2.2.2.2.2
  by_cases h : t.val < 1
  · obtain ⟨h1, h2⟩ := upper t h
    refine (congrFun (congrArg (fun b => Scalar.select b (iblk m c 1 t : FVec Ideal S352x1024 .f32) (iblk m c 2 t : FVec Ideal S352x1024 .f32)) h2) (ix2 p n)).trans ?_
    refine Eq.trans ?_ (gather2_upper (m ((c : Thread nD τ).loc main_arg1)) (m ((c : Thread nD τ).loc main_arg2)) (row t p) ⟨t.val * 352 + p.val, by omega⟩ n rfl).symm
    refine Eq.trans ?_ (congrFun (V_main_arg1 m c) _)
    show (iblk m c 1 t : FVec Ideal S352x1024 .f32) (ix2 p n) = _
    blk_ext [iblk, h1]
  · obtain ⟨h1, h2⟩ := lower t h
    refine (congrFun (congrArg (fun b => Scalar.select b (iblk m c 1 t : FVec Ideal S352x1024 .f32) (iblk m c 2 t : FVec Ideal S352x1024 .f32)) h2) (ix2 p n)).trans ?_
    refine Eq.trans ?_ (gather2_lower (m ((c : Thread nD τ).loc main_arg1)) (m ((c : Thread nD τ).loc main_arg2)) (row t p) ⟨(t.val - 1) * 352 + p.val, by omega⟩ n (by show (t.val - 1) * 352 + p.val + 352 = t.val * 352 + p.val; omega)).symm
    refine Eq.trans ?_ (congrFun (V_main_arg2 m c) _)
    show (iblk m c 2 t : FVec Ideal S352x1024 .f32) (ix2 p n) = _
    blk_ext [iblk, h1]

/-! ## The body, element by element -/

variable (i : grid0.Coords) (v1 v2 v5 v6 v7 : FVec Ideal S352x1024 .f32) (y : S352x1024.Idx)

theorem m_at : k0_pay2 (F := Ideal) i v1 v2 v6 y = newM (k0_pay1 (F := Ideal) i v1 v2 y) (v6 y) := rfl

theorem v_at : k0_pay3 (F := Ideal) i v1 v2 v7 y = newV (k0_pay1 (F := Ideal) i v1 v2 y) (v7 y) := rfl

theorem d_at : k0_pay4 (F := Ideal) i v1 v2 v5 v6 v7 y = delta (v5 y) (k0_pay1 (F := Ideal) i v1 v2 y) (v6 y) (v7 y) := rfl

/-! ## The final arrays -/

/-- The gradient that the call returns: the two halves put together. -/
theorem final5 : (dats m 0 c).arrAt 5 cfg0.N = gather2 (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact (g_at m c t _ _).trans (congrArg (gather2 (m ((c : Thread nD τ).loc main_arg1)) (m ((c : Thread nD τ).loc main_arg2))) (emb5 t _ _)).symm

/-- The change of the weight. -/
theorem final6 : (dats m 0 c).arrAt 6 cfg0.N = step (gather2 (m ((c : Thread nD τ).loc main_arg1)) (m ((c : Thread nD τ).loc main_arg2))) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  refine Eq.trans ?_ (congrArg (step (gather2 (m ((c : Thread nD τ).loc main_arg1)) (m ((c : Thread nD τ).loc main_arg2))) (m ((c : Thread nD τ).loc main_arg0)) (m ((c : Thread nD τ).loc main_arg3)) (m ((c : Thread nD τ).loc main_arg4))) (emb6 t _ _)).symm
  refine (d_at _ _ _ _ _ _ _).trans ?_
  rw [g_at m c t, b0 m c t, b3 m c t, b4 m c t]
  rfl

/-- The new first moment. -/
theorem final7 : (dats m 0 c).arrAt 7 cfg0.N = momM (gather2 (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7]
  frame_out
  idx_vars y
  refine Eq.trans ?_ (congrArg (momM (gather2 (m ((c : Thread nD τ).loc main_arg1)) (m ((c : Thread nD τ).loc main_arg2))) (m ((c : Thread nD τ).loc main_arg3))) (emb7 t _ _)).symm
  refine (m_at _ _ _ _ _).trans ?_
  rw [g_at m c t, b3 m c t]
  rfl

/-- The new second moment. -/
theorem final8 : (dats m 0 c).arrAt 8 cfg0.N = momV (gather2 (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8]
  frame_out
  idx_vars y
  refine Eq.trans ?_ (congrArg (momV (gather2 (m ((c : Thread nD τ).loc main_arg1)) (m ((c : Thread nD τ).loc main_arg2))) (m ((c : Thread nD τ).loc main_arg4))) (emb8 t _ _)).symm
  refine (v_at _ _ _ _ _).trans ?_
  rw [g_at m c t, b4 m c t]
  rfl

/-- The two programs end with equal results. -/
theorem algebraic : Cert.algebraic_AdamDownIdeal_AdamDownRefIdeal (hAdamDownIdeal := Cert.AdamDownIdeal.Gen.facts) (hAdamDownRefIdeal := Cert.AdamDownRefIdeal.Gen.facts) := by
  intro m g m' g' hpre hag
  refine ⟨fun c => gather2 (m ((c : Thread nD τ).loc main_arg1)) (m ((c : Thread nD τ).loc main_arg2)), fun c => step (gather2 (m ((c : Thread nD τ).loc main_arg1)) (m ((c : Thread nD τ).loc main_arg2))) (m ((c : Thread nD τ).loc main_arg0)) (m ((c : Thread nD τ).loc main_arg3)) (m ((c : Thread nD τ).loc main_arg4)), fun c => momM (gather2 (m ((c : Thread nD τ).loc main_arg1)) (m ((c : Thread nD τ).loc main_arg2))) (m ((c : Thread nD τ).loc main_arg3)), fun c => momV (gather2 (m ((c : Thread nD τ).loc main_arg1)) (m ((c : Thread nD τ).loc main_arg2))) (m ((c : Thread nD τ).loc main_arg4)), ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.AdamDownRefIdeal.Value.run m' g')
    · obtain ⟨a0, a1, a2, a3, a4⟩ := hag c
      refine Eq.trans (b := gather2 (m' ((c : Thread Cert.AdamDownRefIdeal.nD Cert.AdamDownRefIdeal.τ).loc Cert.AdamDownRefIdeal.main_arg1)) (m' ((c : Thread Cert.AdamDownRefIdeal.nD Cert.AdamDownRefIdeal.τ).loc Cert.AdamDownRefIdeal.main_arg2))) rfl ?_
      rw [a1, a2]
    · obtain ⟨a0, a1, a2, a3, a4⟩ := hag c
      refine Eq.trans (b := step (gather2 (m' ((c : Thread Cert.AdamDownRefIdeal.nD Cert.AdamDownRefIdeal.τ).loc Cert.AdamDownRefIdeal.main_arg1)) (m' ((c : Thread Cert.AdamDownRefIdeal.nD Cert.AdamDownRefIdeal.τ).loc Cert.AdamDownRefIdeal.main_arg2))) (m' ((c : Thread Cert.AdamDownRefIdeal.nD Cert.AdamDownRefIdeal.τ).loc Cert.AdamDownRefIdeal.main_arg0)) (m' ((c : Thread Cert.AdamDownRefIdeal.nD Cert.AdamDownRefIdeal.τ).loc Cert.AdamDownRefIdeal.main_arg3)) (m' ((c : Thread Cert.AdamDownRefIdeal.nD Cert.AdamDownRefIdeal.τ).loc Cert.AdamDownRefIdeal.main_arg4))) rfl ?_
      rw [a0, a1, a2, a3, a4]
    · obtain ⟨a0, a1, a2, a3, a4⟩ := hag c
      refine Eq.trans (b := momM (gather2 (m' ((c : Thread Cert.AdamDownRefIdeal.nD Cert.AdamDownRefIdeal.τ).loc Cert.AdamDownRefIdeal.main_arg1)) (m' ((c : Thread Cert.AdamDownRefIdeal.nD Cert.AdamDownRefIdeal.τ).loc Cert.AdamDownRefIdeal.main_arg2))) (m' ((c : Thread Cert.AdamDownRefIdeal.nD Cert.AdamDownRefIdeal.τ).loc Cert.AdamDownRefIdeal.main_arg3))) rfl ?_
      rw [a1, a2, a3]
    · obtain ⟨a0, a1, a2, a3, a4⟩ := hag c
      refine Eq.trans (b := momV (gather2 (m' ((c : Thread Cert.AdamDownRefIdeal.nD Cert.AdamDownRefIdeal.τ).loc Cert.AdamDownRefIdeal.main_arg1)) (m' ((c : Thread Cert.AdamDownRefIdeal.nD Cert.AdamDownRefIdeal.τ).loc Cert.AdamDownRefIdeal.main_arg2))) (m' ((c : Thread Cert.AdamDownRefIdeal.nD Cert.AdamDownRefIdeal.τ).loc Cert.AdamDownRefIdeal.main_arg4))) rfl ?_
      rw [a1, a2, a4]

end Cert.AdamDownIdeal.Value
end
-- ==== Proof.AdamOutValue.lean ====
/- The optimiser's step on a device's shard of the output projection: the kernel's tiles are the tiles of the step on whole arrays. -/
module

public import proofs.«01_k».proof.Proof.Gen.AdamOutIdeal.Value
public import proofs.«01_k».proof.Proof.Gen.AdamOutRefIdeal.Run
public import proofs.«01_k».proof.Proof.AdamMath
public import proofs.«01_k».proof.Defs

@[expose] public section

set_option maxRecDepth 16384

noncomputable section

namespace Cert.AdamOutIdeal.Value

open Cert.AdamOutIdeal Cert.AdamOutIdeal.Gen Cert.AdamMath Idealize.ShloMosaic Idealize.ShloMosaic.TcCoe Idealize.SL.Sem

/-- The gradient: the device's own half of rows above the other core's. -/
def gather2 (A B : FVec Ideal S128x1024 .f32) : FVec Ideal S256x1024 .f32 := gather Cert.AdamOutRefIdeal.Gen.facts.concatenates_S128x1024_S128x1024_S256x1024_d0 A B

theorem gather2_upper (A B : FVec Ideal S128x1024 .f32) (k : Fin 256) (i : Fin 128) (n : Fin 1024) (hk : i.val = k.val) :
    gather2 A B (ix2 k n) = A (ix2 i n) := gather_upper _ A B k i n hk

theorem gather2_lower (A B : FVec Ideal S128x1024 .f32) (k : Fin 256) (i : Fin 128) (n : Fin 1024) (hk : i.val + 128 = k.val) :
    gather2 A B (ix2 k n) = B (ix2 i n) := gather_lower _ A B k i n hk

/-- The new first moment, element by element. -/
def momM (G M : FVec Ideal S256x1024 .f32) : FVec Ideal S256x1024 .f32 := fun i => newM (G i) (M i)

/-- The new second moment, element by element. -/
def momV (G V : FVec Ideal S256x1024 .f32) : FVec Ideal S256x1024 .f32 := fun i => newV (G i) (V i)

/-- The change of the weight, element by element. -/
def step (G W M V : FVec Ideal S256x1024 .f32) : FVec Ideal S256x1024 .f32 := fun i => delta (W i) (G i) (M i) (V i)

variable (m : (ℓ : Loc nD τ sig) → Buf (Elt Ideal) ℓ) (c : Dev nD)

/-- Where each window stands at a point, and which half the point's tile lies in. -/
theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]
    ∧ t.val < 2 :=
  (by decide +kernel : ∀ t : Fin grid0.N, _)

theorem upper : ∀ t : Fin cfg0.N, t.val < 1 →
    win0_1.index t = ![t.val, 0] ∧ Scalar.cmpi .eq (BitVec.ofNat 32 (grid0.coords t 0).val) 0#32 = 1#1 :=
  (by decide +kernel : ∀ t : Fin grid0.N, t.val < 1 →
    win0_1.index t = ![t.val, 0] ∧ Scalar.cmpi .eq (BitVec.ofNat 32 (grid0.coords t 0).val) 0#32 = 1#1)

theorem lower : ∀ t : Fin cfg0.N, ¬ t.val < 1 →
    win0_2.index t = ![t.val - 1, 0] ∧ Scalar.cmpi .eq (BitVec.ofNat 32 (grid0.coords t 0).val) 0#32 = 0#1 :=
  (by decide +kernel : ∀ t : Fin grid0.N, ¬ t.val < 1 →
    win0_2.index t = ![t.val - 1, 0] ∧ Scalar.cmpi .eq (BitVec.ofNat 32 (grid0.coords t 0).val) 0#32 = 0#1)

/-- The array's row of a tile's row. -/
def row (t : Fin cfg0.N) (p : Fin 128) : Fin 256 := ⟨t.val * 128 + p.val, by have := (idx t).2.2.2.2.2.2.2; omega⟩

/-! ## The tiles of the inputs and of the results -/

theorem b0 (t : Fin cfg0.N) (p : Fin 128) (n : Fin 1024) : (iblk m c 0 t : FVec Ideal S128x1024 .f32) (ix2 p n)
    = (m ((c : Thread nD τ).loc main_arg0) : FVec Ideal S256x1024 .f32) (ix2 (row t p) n) := by
  refine Eq.trans ?_ (congrFun (V_main_arg0 m c) _)
  unfold row
  blk_ext [iblk, idx t]

theorem b3 (t : Fin cfg0.N) (p : Fin 128) (n : Fin 1024) : (iblk m c 3 t : FVec Ideal S128x1024 .f32) (ix2 p n)
    = (m ((c : Thread nD τ).loc main_arg3) : FVec Ideal S256x1024 .f32) (ix2 (row t p) n) := by
  refine Eq.trans ?_ (congrFun (V_main_arg3 m c) _)
  unfold row
  blk_ext [iblk, idx t]

theorem b4 (t : Fin cfg0.N) (p : Fin 128) (n : Fin 1024) : (iblk m c 4 t : FVec Ideal S128x1024 .f32) (ix2 p n)
    = (m ((c : Thread nD τ).loc main_arg4) : FVec Ideal S256x1024 .f32) (ix2 (row t p) n) := by
  refine Eq.trans ?_ (congrFun (V_main_arg4 m c) _)
  unfold row
  blk_ext [iblk, idx t]

theorem emb5 (t : Fin cfg0.N) (p : Fin 128) (n : Fin 1024) : (((cfg0.win 5).blk t).view.emb (ix2 p n) : S256x1024.Idx) = ix2 (row t p) n := by
  unfold row
  blk_ext [idx t]

theorem emb6 (t : Fin cfg0.N) (p : Fin 128) (n : Fin 1024) : (((cfg0.win 6).blk t).view.emb (ix2 p n) : S256x1024.Idx) = ix2 (row t p) n := by
  unfold row
  blk_ext [idx t]

theorem emb7 (t : Fin cfg0.N) (p : Fin 128) (n : Fin 1024) : (((cfg0.win 7).blk t).view.emb (ix2 p n) : S256x1024.Idx) = ix2 (row t p) n := by
  unfold row
  blk_ext [idx t]

theorem emb8 (t : Fin cfg0.N) (p : Fin 128) (n : Fin 1024) : (((cfg0.win 8).blk t).view.emb (ix2 p n) : S256x1024.Idx) = ix2 (row t p) n := by
  unfold row
  blk_ext [idx t]

/-- The tile of the gradient that the body takes is the tile of the two halves put together. -/
theorem g_at (t : Fin cfg0.N) (p : Fin 128) (n : Fin 1024) :
    k0_pay1 (F := Ideal) (grid0.coords t) (iblk m c 1 t) (iblk m c 2 t) (ix2 p n) = gather2 (m ((c : Thread nD τ).loc main_arg1)) (m ((c : Thread nD τ).loc main_arg2)) (ix2 (row t p) n) := by
  have ht := (idx t).2.2.2.2.2.2.2
  by_cases h : t.val < 1
  · obtain ⟨h1, h2⟩ := upper t h
    refine (congrFun (congrArg (fun b => Scalar.select b (iblk m c 1 t : FVec Ideal S128x1024 .f32) (iblk m c 2 t : FVec Ideal S128x1024 .f32)) h2) (ix2 p n)).trans ?_
    refine Eq.trans ?_ (gather2_upper (m ((c : Thread nD τ).loc main_arg1)) (m ((c : Thread nD τ).loc main_arg2)) (row t p) ⟨t.val * 128 + p.val, by omega⟩ n rfl).symm
    refine Eq.trans ?_ (congrFun (V_main_arg1 m c) _)
    show (iblk m c 1 t : FVec Ideal S128x1024 .f32) (ix2 p n) = _
    blk_ext [iblk, h1]
  · obtain ⟨h1, h2⟩ := lower t h
    refine (congrFun (congrArg (fun b => Scalar.select b (iblk m c 1 t : FVec Ideal S128x1024 .f32) (iblk m c 2 t : FVec Ideal S128x1024 .f32)) h2) (ix2 p n)).trans ?_
    refine Eq.trans ?_ (gather2_lower (m ((c : Thread nD τ).loc main_arg1)) (m ((c : Thread nD τ).loc main_arg2)) (row t p) ⟨(t.val - 1) * 128 + p.val, by omega⟩ n (by show (t.val - 1) * 128 + p.val + 128 = t.val * 128 + p.val; omega)).symm
    refine Eq.trans ?_ (congrFun (V_main_arg2 m c) _)
    show (iblk m c 2 t : FVec Ideal S128x1024 .f32) (ix2 p n) = _
    blk_ext [iblk, h1]

/-! ## The body, element by element -/

variable (i : grid0.Coords) (v1 v2 v5 v6 v7 : FVec Ideal S128x1024 .f32) (y : S128x1024.Idx)

theorem m_at : k0_pay2 (F := Ideal) i v1 v2 v6 y = newM (k0_pay1 (F := Ideal) i v1 v2 y) (v6 y) := rfl

theorem v_at : k0_pay3 (F := Ideal) i v1 v2 v7 y = newV (k0_pay1 (F := Ideal) i v1 v2 y) (v7 y) := rfl

theorem d_at : k0_pay4 (F := Ideal) i v1 v2 v5 v6 v7 y = delta (v5 y) (k0_pay1 (F := Ideal) i v1 v2 y) (v6 y) (v7 y) := rfl

/-! ## The final arrays -/

/-- The gradient that the call returns: the two halves put together. -/
theorem final5 : (dats m 0 c).arrAt 5 cfg0.N = gather2 (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact (g_at m c t _ _).trans (congrArg (gather2 (m ((c : Thread nD τ).loc main_arg1)) (m ((c : Thread nD τ).loc main_arg2))) (emb5 t _ _)).symm

/-- The change of the weight. -/
theorem final6 : (dats m 0 c).arrAt 6 cfg0.N = step (gather2 (m ((c : Thread nD τ).loc main_arg1)) (m ((c : Thread nD τ).loc main_arg2))) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  refine Eq.trans ?_ (congrArg (step (gather2 (m ((c : Thread nD τ).loc main_arg1)) (m ((c : Thread nD τ).loc main_arg2))) (m ((c : Thread nD τ).loc main_arg0)) (m ((c : Thread nD τ).loc main_arg3)) (m ((c : Thread nD τ).loc main_arg4))) (emb6 t _ _)).symm
  refine (d_at _ _ _ _ _ _ _).trans ?_
  rw [g_at m c t, b0 m c t, b3 m c t, b4 m c t]
  rfl

/-- The new first moment. -/
theorem final7 : (dats m 0 c).arrAt 7 cfg0.N = momM (gather2 (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7]
  frame_out
  idx_vars y
  refine Eq.trans ?_ (congrArg (momM (gather2 (m ((c : Thread nD τ).loc main_arg1)) (m ((c : Thread nD τ).loc main_arg2))) (m ((c : Thread nD τ).loc main_arg3))) (emb7 t _ _)).symm
  refine (m_at _ _ _ _ _).trans ?_
  rw [g_at m c t, b3 m c t]
  rfl

/-- The new second moment. -/
theorem final8 : (dats m 0 c).arrAt 8 cfg0.N = momV (gather2 (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8]
  frame_out
  idx_vars y
  refine Eq.trans ?_ (congrArg (momV (gather2 (m ((c : Thread nD τ).loc main_arg1)) (m ((c : Thread nD τ).loc main_arg2))) (m ((c : Thread nD τ).loc main_arg4))) (emb8 t _ _)).symm
  refine (v_at _ _ _ _ _).trans ?_
  rw [g_at m c t, b4 m c t]
  rfl

/-- The two programs end with equal results. -/
theorem algebraic : Cert.algebraic_AdamOutIdeal_AdamOutRefIdeal (hAdamOutIdeal := Cert.AdamOutIdeal.Gen.facts) (hAdamOutRefIdeal := Cert.AdamOutRefIdeal.Gen.facts) := by
  intro m g m' g' hpre hag
  refine ⟨fun c => gather2 (m ((c : Thread nD τ).loc main_arg1)) (m ((c : Thread nD τ).loc main_arg2)), fun c => step (gather2 (m ((c : Thread nD τ).loc main_arg1)) (m ((c : Thread nD τ).loc main_arg2))) (m ((c : Thread nD τ).loc main_arg0)) (m ((c : Thread nD τ).loc main_arg3)) (m ((c : Thread nD τ).loc main_arg4)), fun c => momM (gather2 (m ((c : Thread nD τ).loc main_arg1)) (m ((c : Thread nD τ).loc main_arg2))) (m ((c : Thread nD τ).loc main_arg3)), fun c => momV (gather2 (m ((c : Thread nD τ).loc main_arg1)) (m ((c : Thread nD τ).loc main_arg2))) (m ((c : Thread nD τ).loc main_arg4)), ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.AdamOutRefIdeal.Value.run m' g')
    · obtain ⟨a0, a1, a2, a3, a4⟩ := hag c
      refine Eq.trans (b := gather2 (m' ((c : Thread Cert.AdamOutRefIdeal.nD Cert.AdamOutRefIdeal.τ).loc Cert.AdamOutRefIdeal.main_arg1)) (m' ((c : Thread Cert.AdamOutRefIdeal.nD Cert.AdamOutRefIdeal.τ).loc Cert.AdamOutRefIdeal.main_arg2))) rfl ?_
      rw [a1, a2]
    · obtain ⟨a0, a1, a2, a3, a4⟩ := hag c
      refine Eq.trans (b := step (gather2 (m' ((c : Thread Cert.AdamOutRefIdeal.nD Cert.AdamOutRefIdeal.τ).loc Cert.AdamOutRefIdeal.main_arg1)) (m' ((c : Thread Cert.AdamOutRefIdeal.nD Cert.AdamOutRefIdeal.τ).loc Cert.AdamOutRefIdeal.main_arg2))) (m' ((c : Thread Cert.AdamOutRefIdeal.nD Cert.AdamOutRefIdeal.τ).loc Cert.AdamOutRefIdeal.main_arg0)) (m' ((c : Thread Cert.AdamOutRefIdeal.nD Cert.AdamOutRefIdeal.τ).loc Cert.AdamOutRefIdeal.main_arg3)) (m' ((c : Thread Cert.AdamOutRefIdeal.nD Cert.AdamOutRefIdeal.τ).loc Cert.AdamOutRefIdeal.main_arg4))) rfl ?_
      rw [a0, a1, a2, a3, a4]
    · obtain ⟨a0, a1, a2, a3, a4⟩ := hag c
      refine Eq.trans (b := momM (gather2 (m' ((c : Thread Cert.AdamOutRefIdeal.nD Cert.AdamOutRefIdeal.τ).loc Cert.AdamOutRefIdeal.main_arg1)) (m' ((c : Thread Cert.AdamOutRefIdeal.nD Cert.AdamOutRefIdeal.τ).loc Cert.AdamOutRefIdeal.main_arg2))) (m' ((c : Thread Cert.AdamOutRefIdeal.nD Cert.AdamOutRefIdeal.τ).loc Cert.AdamOutRefIdeal.main_arg3))) rfl ?_
      rw [a1, a2, a3]
    · obtain ⟨a0, a1, a2, a3, a4⟩ := hag c
      refine Eq.trans (b := momV (gather2 (m' ((c : Thread Cert.AdamOutRefIdeal.nD Cert.AdamOutRefIdeal.τ).loc Cert.AdamOutRefIdeal.main_arg1)) (m' ((c : Thread Cert.AdamOutRefIdeal.nD Cert.AdamOutRefIdeal.τ).loc Cert.AdamOutRefIdeal.main_arg2))) (m' ((c : Thread Cert.AdamOutRefIdeal.nD Cert.AdamOutRefIdeal.τ).loc Cert.AdamOutRefIdeal.main_arg4))) rfl ?_
      rw [a1, a2, a4]

end Cert.AdamOutIdeal.Value
end
-- ==== Proof.AdamBrValue.lean ====
/- The optimiser's step on a device's shard of a branch's weight: the kernel's tiles are the tiles of the step on whole arrays. -/
module

public import proofs.«01_k».proof.Proof.Gen.AdamBrIdeal.Value
public import proofs.«01_k».proof.Proof.Gen.AdamBrRefIdeal.Run
public import proofs.«01_k».proof.Proof.AdamMath
public import proofs.«01_k».proof.Defs

@[expose] public section

set_option maxRecDepth 16384

noncomputable section

namespace Cert.AdamBrIdeal.Value

open Cert.AdamBrIdeal Cert.AdamBrIdeal.Gen Cert.AdamMath Idealize.ShloMosaic Idealize.ShloMosaic.TcCoe Idealize.SL.Sem

/-- The gradient: the device's own half of rows above the other core's. -/
def gather2 (A B : FVec Ideal S256x256 .f32) : FVec Ideal S512x256 .f32 := gather Cert.AdamBrRefIdeal.Gen.facts.concatenates_S256x256_S256x256_S512x256_d0 A B

theorem gather2_upper (A B : FVec Ideal S256x256 .f32) (k : Fin 512) (i : Fin 256) (n : Fin 256) (hk : i.val = k.val) :
    gather2 A B (ix2 k n) = A (ix2 i n) := gather_upper _ A B k i n hk

theorem gather2_lower (A B : FVec Ideal S256x256 .f32) (k : Fin 512) (i : Fin 256) (n : Fin 256) (hk : i.val + 256 = k.val) :
    gather2 A B (ix2 k n) = B (ix2 i n) := gather_lower _ A B k i n hk

/-- The new first moment, element by element. -/
def momM (G M : FVec Ideal S512x256 .f32) : FVec Ideal S512x256 .f32 := fun i => newM (G i) (M i)

/-- The new second moment, element by element. -/
def momV (G V : FVec Ideal S512x256 .f32) : FVec Ideal S512x256 .f32 := fun i => newV (G i) (V i)

/-- The change of the weight, element by element. -/
def step (G W M V : FVec Ideal S512x256 .f32) : FVec Ideal S512x256 .f32 := fun i => delta (W i) (G i) (M i) (V i)

variable (m : (ℓ : Loc nD τ sig) → Buf (Elt Ideal) ℓ) (c : Dev nD)

/-- Where each window stands at a point, and which half the point's tile lies in. -/
theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]
    ∧ t.val < 2 :=
  (by decide +kernel : ∀ t : Fin grid0.N, _)

theorem upper : ∀ t : Fin cfg0.N, t.val < 1 →
    win0_1.index t = ![t.val, 0] ∧ Scalar.cmpi .eq (BitVec.ofNat 32 (grid0.coords t 0).val) 0#32 = 1#1 :=
  (by decide +kernel : ∀ t : Fin grid0.N, t.val < 1 →
    win0_1.index t = ![t.val, 0] ∧ Scalar.cmpi .eq (BitVec.ofNat 32 (grid0.coords t 0).val) 0#32 = 1#1)

theorem lower : ∀ t : Fin cfg0.N, ¬ t.val < 1 →
    win0_2.index t = ![t.val - 1, 0] ∧ Scalar.cmpi .eq (BitVec.ofNat 32 (grid0.coords t 0).val) 0#32 = 0#1 :=
  (by decide +kernel : ∀ t : Fin grid0.N, ¬ t.val < 1 →
    win0_2.index t = ![t.val - 1, 0] ∧ Scalar.cmpi .eq (BitVec.ofNat 32 (grid0.coords t 0).val) 0#32 = 0#1)

/-- The array's row of a tile's row. -/
def row (t : Fin cfg0.N) (p : Fin 256) : Fin 512 := ⟨t.val * 256 + p.val, by have := (idx t).2.2.2.2.2.2.2; omega⟩

/-! ## The tiles of the inputs and of the results -/

theorem b0 (t : Fin cfg0.N) (p : Fin 256) (n : Fin 256) : (iblk m c 0 t : FVec Ideal S256x256 .f32) (ix2 p n)
    = (m ((c : Thread nD τ).loc main_arg0) : FVec Ideal S512x256 .f32) (ix2 (row t p) n) := by
  refine Eq.trans ?_ (congrFun (V_main_arg0 m c) _)
  unfold row
  blk_ext [iblk, idx t]

theorem b3 (t : Fin cfg0.N) (p : Fin 256) (n : Fin 256) : (iblk m c 3 t : FVec Ideal S256x256 .f32) (ix2 p n)
    = (m ((c : Thread nD τ).loc main_arg3) : FVec Ideal S512x256 .f32) (ix2 (row t p) n) := by
  refine Eq.trans ?_ (congrFun (V_main_arg3 m c) _)
  unfold row
  blk_ext [iblk, idx t]

theorem b4 (t : Fin cfg0.N) (p : Fin 256) (n : Fin 256) : (iblk m c 4 t : FVec Ideal S256x256 .f32) (ix2 p n)
    = (m ((c : Thread nD τ).loc main_arg4) : FVec Ideal S512x256 .f32) (ix2 (row t p) n) := by
  refine Eq.trans ?_ (congrFun (V_main_arg4 m c) _)
  unfold row
  blk_ext [iblk, idx t]

theorem emb5 (t : Fin cfg0.N) (p : Fin 256) (n : Fin 256) : (((cfg0.win 5).blk t).view.emb (ix2 p n) : S512x256.Idx) = ix2 (row t p) n := by
  unfold row
  blk_ext [idx t]

theorem emb6 (t : Fin cfg0.N) (p : Fin 256) (n : Fin 256) : (((cfg0.win 6).blk t).view.emb (ix2 p n) : S512x256.Idx) = ix2 (row t p) n := by
  unfold row
  blk_ext [idx t]

theorem emb7 (t : Fin cfg0.N) (p : Fin 256) (n : Fin 256) : (((cfg0.win 7).blk t).view.emb (ix2 p n) : S512x256.Idx) = ix2 (row t p) n := by
  unfold row
  blk_ext [idx t]

theorem emb8 (t : Fin cfg0.N) (p : Fin 256) (n : Fin 256) : (((cfg0.win 8).blk t).view.emb (ix2 p n) : S512x256.Idx) = ix2 (row t p) n := by
  unfold row
  blk_ext [idx t]

/-- The tile of the gradient that the body takes is the tile of the two halves put together. -/
theorem g_at (t : Fin cfg0.N) (p : Fin 256) (n : Fin 256) :
    k0_pay1 (F := Ideal) (grid0.coords t) (iblk m c 1 t) (iblk m c 2 t) (ix2 p n) = gather2 (m ((c : Thread nD τ).loc main_arg1)) (m ((c : Thread nD τ).loc main_arg2)) (ix2 (row t p) n) := by
  have ht := (idx t).2.2.2.2.2.2.2
  by_cases h : t.val < 1
  · obtain ⟨h1, h2⟩ := upper t h
    refine (congrFun (congrArg (fun b => Scalar.select b (iblk m c 1 t : FVec Ideal S256x256 .f32) (iblk m c 2 t : FVec Ideal S256x256 .f32)) h2) (ix2 p n)).trans ?_
    refine Eq.trans ?_ (gather2_upper (m ((c : Thread nD τ).loc main_arg1)) (m ((c : Thread nD τ).loc main_arg2)) (row t p) ⟨t.val * 256 + p.val, by omega⟩ n rfl).symm
    refine Eq.trans ?_ (congrFun (V_main_arg1 m c) _)
    show (iblk m c 1 t : FVec Ideal S256x256 .f32) (ix2 p n) = _
    blk_ext [iblk, h1]
  · obtain ⟨h1, h2⟩ := lower t h
    refine (congrFun (congrArg (fun b => Scalar.select b (iblk m c 1 t : FVec Ideal S256x256 .f32) (iblk m c 2 t : FVec Ideal S256x256 .f32)) h2) (ix2 p n)).trans ?_
    refine Eq.trans ?_ (gather2_lower (m ((c : Thread nD τ).loc main_arg1)) (m ((c : Thread nD τ).loc main_arg2)) (row t p) ⟨(t.val - 1) * 256 + p.val, by omega⟩ n (by show (t.val - 1) * 256 + p.val + 256 = t.val * 256 + p.val; omega)).symm
    refine Eq.trans ?_ (congrFun (V_main_arg2 m c) _)
    show (iblk m c 2 t : FVec Ideal S256x256 .f32) (ix2 p n) = _
    blk_ext [iblk, h1]

/-! ## The body, element by element -/

variable (i : grid0.Coords) (v1 v2 v5 v6 v7 : FVec Ideal S256x256 .f32) (y : S256x256.Idx)

theorem m_at : k0_pay2 (F := Ideal) i v1 v2 v6 y = newM (k0_pay1 (F := Ideal) i v1 v2 y) (v6 y) := rfl

theorem v_at : k0_pay3 (F := Ideal) i v1 v2 v7 y = newV (k0_pay1 (F := Ideal) i v1 v2 y) (v7 y) := rfl

theorem d_at : k0_pay4 (F := Ideal) i v1 v2 v5 v6 v7 y = delta (v5 y) (k0_pay1 (F := Ideal) i v1 v2 y) (v6 y) (v7 y) := rfl

/-! ## The final arrays -/

/-- The gradient that the call returns: the two halves put together. -/
theorem final5 : (dats m 0 c).arrAt 5 cfg0.N = gather2 (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  exact (g_at m c t _ _).trans (congrArg (gather2 (m ((c : Thread nD τ).loc main_arg1)) (m ((c : Thread nD τ).loc main_arg2))) (emb5 t _ _)).symm

/-- The change of the weight. -/
theorem final6 : (dats m 0 c).arrAt 6 cfg0.N = step (gather2 (m ((c : Thread nD τ).loc main_arg1)) (m ((c : Thread nD τ).loc main_arg2))) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  refine Eq.trans ?_ (congrArg (step (gather2 (m ((c : Thread nD τ).loc main_arg1)) (m ((c : Thread nD τ).loc main_arg2))) (m ((c : Thread nD τ).loc main_arg0)) (m ((c : Thread nD τ).loc main_arg3)) (m ((c : Thread nD τ).loc main_arg4))) (emb6 t _ _)).symm
  refine (d_at _ _ _ _ _ _ _).trans ?_
  rw [g_at m c t, b0 m c t, b3 m c t, b4 m c t]
  rfl

/-- The new first moment. -/
theorem final7 : (dats m 0 c).arrAt 7 cfg0.N = momM (gather2 (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7]
  frame_out
  idx_vars y
  refine Eq.trans ?_ (congrArg (momM (gather2 (m ((c : Thread nD τ).loc main_arg1)) (m ((c : Thread nD τ).loc main_arg2))) (m ((c : Thread nD τ).loc main_arg3))) (emb7 t _ _)).symm
  refine (m_at _ _ _ _ _).trans ?_
  rw [g_at m c t, b3 m c t]
  rfl

/-- The new second moment. -/
theorem final8 : (dats m 0 c).arrAt 8 cfg0.N = momV (gather2 (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8]
  frame_out
  idx_vars y
  refine Eq.trans ?_ (congrArg (momV (gather2 (m ((c : Thread nD τ).loc main_arg1)) (m ((c : Thread nD τ).loc main_arg2))) (m ((c : Thread nD τ).loc main_arg4))) (emb8 t _ _)).symm
  refine (v_at _ _ _ _ _).trans ?_
  rw [g_at m c t, b4 m c t]
  rfl

/-- The two programs end with equal results. -/
theorem algebraic : Cert.algebraic_AdamBrIdeal_AdamBrRefIdeal (hAdamBrIdeal := Cert.AdamBrIdeal.Gen.facts) (hAdamBrRefIdeal := Cert.AdamBrRefIdeal.Gen.facts) := by
  intro m g m' g' hpre hag
  refine ⟨fun c => gather2 (m ((c : Thread nD τ).loc main_arg1)) (m ((c : Thread nD τ).loc main_arg2)), fun c => step (gather2 (m ((c : Thread nD τ).loc main_arg1)) (m ((c : Thread nD τ).loc main_arg2))) (m ((c : Thread nD τ).loc main_arg0)) (m ((c : Thread nD τ).loc main_arg3)) (m ((c : Thread nD τ).loc main_arg4)), fun c => momM (gather2 (m ((c : Thread nD τ).loc main_arg1)) (m ((c : Thread nD τ).loc main_arg2))) (m ((c : Thread nD τ).loc main_arg3)), fun c => momV (gather2 (m ((c : Thread nD τ).loc main_arg1)) (m ((c : Thread nD τ).loc main_arg2))) (m ((c : Thread nD τ).loc main_arg4)), ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩) (run_blocks m g)
  · refine (θ_run _ _ _).mono (fun r h c => ⟨(h c).1.trans ?_, (h c).2.1.trans ?_, (h c).2.2.1.trans ?_, (h c).2.2.2.1.trans ?_, (h c).2.2.2.2⟩) (Cert.AdamBrRefIdeal.Value.run m' g')
    · obtain ⟨a0, a1, a2, a3, a4⟩ := hag c
      refine Eq.trans (b := gather2 (m' ((c : Thread Cert.AdamBrRefIdeal.nD Cert.AdamBrRefIdeal.τ).loc Cert.AdamBrRefIdeal.main_arg1)) (m' ((c : Thread Cert.AdamBrRefIdeal.nD Cert.AdamBrRefIdeal.τ).loc Cert.AdamBrRefIdeal.main_arg2))) rfl ?_
      rw [a1, a2]
    · obtain ⟨a0, a1, a2, a3, a4⟩ := hag c
      refine Eq.trans (b := step (gather2 (m' ((c : Thread Cert.AdamBrRefIdeal.nD Cert.AdamBrRefIdeal.τ).loc Cert.AdamBrRefIdeal.main_arg1)) (m' ((c : Thread Cert.AdamBrRefIdeal.nD Cert.AdamBrRefIdeal.τ).loc Cert.AdamBrRefIdeal.main_arg2))) (m' ((c : Thread Cert.AdamBrRefIdeal.nD Cert.AdamBrRefIdeal.τ).loc Cert.AdamBrRefIdeal.main_arg0)) (m' ((c : Thread Cert.AdamBrRefIdeal.nD Cert.AdamBrRefIdeal.τ).loc Cert.AdamBrRefIdeal.main_arg3)) (m' ((c : Thread Cert.AdamBrRefIdeal.nD Cert.AdamBrRefIdeal.τ).loc Cert.AdamBrRefIdeal.main_arg4))) rfl ?_
      rw [a0, a1, a2, a3, a4]
    · obtain ⟨a0, a1, a2, a3, a4⟩ := hag c
      refine Eq.trans (b := momM (gather2 (m' ((c : Thread Cert.AdamBrRefIdeal.nD Cert.AdamBrRefIdeal.τ).loc Cert.AdamBrRefIdeal.main_arg1)) (m' ((c : Thread Cert.AdamBrRefIdeal.nD Cert.AdamBrRefIdeal.τ).loc Cert.AdamBrRefIdeal.main_arg2))) (m' ((c : Thread Cert.AdamBrRefIdeal.nD Cert.AdamBrRefIdeal.τ).loc Cert.AdamBrRefIdeal.main_arg3))) rfl ?_
      rw [a1, a2, a3]
    · obtain ⟨a0, a1, a2, a3, a4⟩ := hag c
      refine Eq.trans (b := momV (gather2 (m' ((c : Thread Cert.AdamBrRefIdeal.nD Cert.AdamBrRefIdeal.τ).loc Cert.AdamBrRefIdeal.main_arg1)) (m' ((c : Thread Cert.AdamBrRefIdeal.nD Cert.AdamBrRefIdeal.τ).loc Cert.AdamBrRefIdeal.main_arg2))) (m' ((c : Thread Cert.AdamBrRefIdeal.nD Cert.AdamBrRefIdeal.τ).loc Cert.AdamBrRefIdeal.main_arg4))) rfl ?_
      rw [a1, a2, a4]

end Cert.AdamBrIdeal.Value
end
-- ==== Proof.lean ====
/- The claims about the calls of the backward pass, put together from the modules that prove them. -/
module

public import proofs.«01_k».proof.Defs
public import proofs.«01_k».proof.Proof.Gen.Merge
public import proofs.«01_k».proof.Proof.MergeSame
public import proofs.«01_k».proof.Proof.Gen.MergeRefIdeal.Run
public import proofs.«01_k».proof.Proof.MergeAlg
public import proofs.«01_k».proof.Proof.Gen.Proj
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.ProjValue
public import proofs.«01_k».proof.Proof.Gen.DwUp
public import proofs.«01_k».proof.Proof.Gen.DwUp.Frame
public import proofs.«01_k».proof.Proof.Gen.DwUpIdeal.Frame
public import proofs.«01_k».proof.Proof.Gen.DwUpIdeal.Value
public import proofs.«01_k».proof.Proof.Gen.DwUpRefIdeal.Run
public import proofs.«01_k».proof.Proof.DwUpValue
public import proofs.«01_k».proof.Proof.Gen.DwDown
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.DwDownValue
public import proofs.«01_k».proof.Proof.Gen.Ffn
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnValue
public import proofs.«01_k».proof.Proof.Gen.InFwd
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.InFwdValue
public import proofs.«01_k».proof.Proof.Gen.MixFwd
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.MixFwdValue
public import proofs.«01_k».proof.Proof.Gen.AdamIn
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.AdamInValue
public import proofs.«01_k».proof.Proof.Gen.AdamUp
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.AdamUpValue
public import proofs.«01_k».proof.Proof.Gen.AdamDown
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.AdamDownValue
public import proofs.«01_k».proof.Proof.Gen.AdamOut
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.AdamOutValue
public import proofs.«01_k».proof.Proof.Gen.AdamBr
public import proofs.«01_k».proof.Proof.Gen.AdamBr.Frame
public import proofs.«01_k».proof.Proof.Gen.AdamBrIdeal.Frame
public import proofs.«01_k».proof.Proof.Gen.AdamBrIdeal.Value
public import proofs.«01_k».proof.Proof.Gen.AdamBrRefIdeal.Run
public import proofs.«01_k».proof.Proof.AdamBrValue
public import Idealize.ShloMosaic.Adequacy
public import Idealize.ShloMosaic.Init

@[expose] public section

set_option maxRecDepth 16384

noncomputable section

namespace Cert.Proof

open Idealize.ShloMosaic Idealize.SL.Sem

/-- The reference keeps its arguments, and declares no semaphore. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2.2.2.2.2.2.2.2.2.2, sem_eq_zero_of_no_sems (by decide) r.2⟩)
    (Cert.MergeRefIdeal.Value.run m ρ)

/-- The reference keeps its arguments, and declares no semaphore. -/
theorem frame_ProjRef : Cert.quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩)
    (Cert.ProjRefIdeal.Value.run m ρ)

/-- The reference keeps its arguments, and declares no semaphore. -/
theorem frame_DwUpRef : Cert.quiescent_DwUpRefIdeal (hDwUpRefIdeal := Cert.DwUpRefIdeal.Gen.facts) := fun m ρ _ =>
  (θ_run Cert.DwUpRefIdeal.defs _ _).mono (fun r h => ⟨fun c => (h c).2, sem_eq_zero_of_no_sems (by decide) r.2⟩)
    (Cert.DwUpRefIdeal.Value.run m ρ)

/-- The reference keeps its arguments, and declares no semaphore. -/
theorem frame_DwDownRef : Cert.quiescent_DwDownRefIdeal (hDwDownRefIdeal := Cert.DwDownRefIdeal.Gen.facts) := fun m ρ _ =>
  (θ_run Cert.DwDownRefIdeal.defs _ _).mono (fun r h => ⟨fun c => (h c).2, sem_eq_zero_of_no_sems (by decide) r.2⟩)
    (Cert.DwDownRefIdeal.Value.run m ρ)

/-- The reference keeps its arguments, and declares no semaphore. -/
theorem frame_FfnRef : Cert.quiescent_FfnRefIdeal (hFfnRefIdeal := Cert.FfnRefIdeal.Gen.facts) := fun m ρ _ =>
  (θ_run Cert.FfnRefIdeal.defs _ _).mono (fun r h => ⟨fun c => (h c).2.2.2.2.2.2, sem_eq_zero_of_no_sems (by decide) r.2⟩)
    (Cert.FfnRefIdeal.Value.run m ρ)

/-- The reference keeps its arguments, and declares no semaphore. -/
theorem frame_InFwdRef : Cert.quiescent_InFwdRefIdeal (hInFwdRefIdeal := Cert.InFwdRefIdeal.Gen.facts) := fun m ρ _ =>
  (θ_run Cert.InFwdRefIdeal.defs _ _).mono (fun r h => ⟨fun c => (h c).2.2.2.2.2.2.2, sem_eq_zero_of_no_sems (by decide) r.2⟩)
    (Cert.InFwdRefIdeal.Value.run m ρ)

/-- The reference keeps its arguments, and declares no semaphore. -/
theorem frame_MixFwdRef : Cert.quiescent_MixFwdRefIdeal (hMixFwdRefIdeal := Cert.MixFwdRefIdeal.Gen.facts) := fun m ρ _ =>
  (θ_run Cert.MixFwdRefIdeal.defs _ _).mono (fun r h => ⟨fun c => (h c).2.2.2.2, sem_eq_zero_of_no_sems (by decide) r.2⟩)
    (Cert.MixFwdRefIdeal.Value.run m ρ)

/-- The reference keeps its arguments, and declares no semaphore. -/
theorem frame_AdamInRef : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩)
    (Cert.AdamInRefIdeal.Value.run m ρ)

/-- The reference keeps its arguments, and declares no semaphore. -/
theorem frame_AdamUpRef : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, sem_eq_zero_of_no_sems (by decide) r.2⟩)
    (Cert.AdamUpRefIdeal.Value.run m ρ)

/-- The reference keeps its arguments, and declares no semaphore. -/
theorem frame_AdamDownRef : Cert.quiescent_AdamDownRefIdeal (hAdamDownRefIdeal := Cert.AdamDownRefIdeal.Gen.facts) := fun m ρ _ =>
  (θ_run Cert.AdamDownRefIdeal.defs _ _).mono (fun r h => ⟨fun c => (h c).2.2.2.2, sem_eq_zero_of_no_sems (by decide) r.2⟩)
    (Cert.AdamDownRefIdeal.Value.run m ρ)

/-- The reference keeps its arguments, and declares no semaphore. -/
theorem frame_AdamOutRef : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩)
    (Cert.AdamOutRefIdeal.Value.run m ρ)

/-- The reference keeps its arguments, and declares no semaphore. -/
theorem frame_AdamBrRef : Cert.quiescent_AdamBrRefIdeal (hAdamBrRefIdeal := Cert.AdamBrRefIdeal.Gen.facts) := fun m ρ _ =>
  (θ_run Cert.AdamBrRefIdeal.defs _ _).mono (fun r h => ⟨fun c => (h c).2.2.2.2, sem_eq_zero_of_no_sems (by decide) r.2⟩)
    (Cert.AdamBrRefIdeal.Value.run m ρ)

theorem claim : Cert.Claim :=
  ⟨Cert.Merge.Gen.facts, Cert.MergeIdeal.Gen.facts, Cert.MergeRefIdeal.Gen.facts, Cert.Proj.Gen.facts, Cert.ProjIdeal.Gen.facts, Cert.ProjRefIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.Ffn.Gen.facts, Cert.FfnIdeal.Gen.facts, Cert.FfnRefIdeal.Gen.facts, Cert.InFwd.Gen.facts, Cert.InFwdIdeal.Gen.facts, Cert.InFwdRefIdeal.Gen.facts, Cert.MixFwd.Gen.facts, Cert.MixFwdIdeal.Gen.facts, Cert.MixFwdRefIdeal.Gen.facts, Cert.AdamIn.Gen.facts, Cert.AdamInIdeal.Gen.facts, Cert.AdamInRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamOut.Gen.facts, Cert.AdamOutIdeal.Gen.facts, Cert.AdamOutRefIdeal.Gen.facts, Cert.AdamBr.Gen.facts, Cert.AdamBrIdeal.Gen.facts, Cert.AdamBrRefIdeal.Gen.facts,
    frame_Merge,
    fun m ρ _ => Cert.MergeIdeal.Gen.frame m ρ,
    frame_MergeRef,
    fun m ρ _ => Cert.Proj.Gen.frame m ρ,
    fun m ρ _ => Cert.ProjIdeal.Gen.frame m ρ,
    frame_ProjRef,
    fun m ρ _ => Cert.DwUp.Gen.frame m ρ,
    fun m ρ _ => Cert.DwUpIdeal.Gen.frame m ρ,
    frame_DwUpRef,
    fun m ρ _ => Cert.DwDown.Gen.frame m ρ,
    fun m ρ _ => Cert.DwDownIdeal.Gen.frame m ρ,
    frame_DwDownRef,
    fun m ρ _ => Cert.Ffn.Gen.frame m ρ,
    fun m ρ _ => Cert.FfnIdeal.Gen.frame m ρ,
    frame_FfnRef,
    fun m ρ _ => Cert.InFwd.Gen.frame m ρ,
    fun m ρ _ => Cert.InFwdIdeal.Gen.frame m ρ,
    frame_InFwdRef,
    fun m ρ _ => Cert.MixFwd.Gen.frame m ρ,
    fun m ρ _ => Cert.MixFwdIdeal.Gen.frame m ρ,
    frame_MixFwdRef,
    fun m ρ _ => Cert.AdamIn.Gen.frame m ρ,
    fun m ρ _ => Cert.AdamInIdeal.Gen.frame m ρ,
    frame_AdamInRef,
    fun m ρ _ => Cert.AdamUp.Gen.frame m ρ,
    fun m ρ _ => Cert.AdamUpIdeal.Gen.frame m ρ,
    frame_AdamUpRef,
    fun m ρ _ => Cert.AdamDown.Gen.frame m ρ,
    fun m ρ _ => Cert.AdamDownIdeal.Gen.frame m ρ,
    frame_AdamDownRef,
    fun m ρ _ => Cert.AdamOut.Gen.frame m ρ,
    fun m ρ _ => Cert.AdamOutIdeal.Gen.frame m ρ,
    frame_AdamOutRef,
    fun m ρ _ => Cert.AdamBr.Gen.frame m ρ,
    fun m ρ _ => Cert.AdamBrIdeal.Gen.frame m ρ,
    frame_AdamBrRef,
    trivial,
    Cert.MergeIdeal.Value.algebraic,
    trivial,
    Cert.ProjIdeal.Value.algebraic,
    trivial,
    Cert.DwUpIdeal.Value.algebraic,
    trivial,
    Cert.DwDownIdeal.Value.algebraic,
    trivial,
    Cert.FfnIdeal.Value.algebraic,
    trivial,
    Cert.InFwdIdeal.Value.algebraic,
    trivial,
    Cert.MixFwdIdeal.Value.algebraic,
    trivial,
    Cert.AdamInIdeal.Value.algebraic,
    trivial,
    Cert.AdamUpIdeal.Value.algebraic,
    trivial,
    Cert.AdamDownIdeal.Value.algebraic,
    trivial,
    Cert.AdamOutIdeal.Value.algebraic,
    trivial,
    Cert.AdamBrIdeal.Value.algebraic⟩

end Cert.Proof

end
